-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_fits_KernelIdeal [hPre_fits_KernelIdeal : Cert.Pre_fits_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_fits_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_fits_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_fits_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_fits_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_fits_ReferenceIdeal [hPre_fits_ReferenceIdeal : Cert.Pre_fits_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_fits_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_fits_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_fits_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_fits_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_fits_KernelIdeal [hKernelIdeal : Cert.KernelIdeal.Facts] [hPre_fits_KernelIdeal : Cert.Pre_fits_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_fits_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_fits_ReferenceIdeal [hReferenceIdeal : Cert.ReferenceIdeal.Facts] [hPre_fits_ReferenceIdeal : Cert.Pre_fits_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_fits_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_fits_KernelIdeal [hKernelIdeal : Cert.KernelIdeal.Facts] [hReferenceIdeal : Cert.ReferenceIdeal.Facts] [hPre_fits_KernelIdeal : Cert.Pre_fits_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_fits_KernelIdeal m →
    (∀ c : Dev Cert.KernelIdeal.nD,
      m ((c.tc : Thread Cert.KernelIdeal.nD Cert.KernelIdeal.τ).loc Cert.KernelIdeal.main_arg0) = Layout.block ⟨2, ![2048, 512]⟩ ⟨2, ![16384, 512]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨2, ![2048, 1]⟩ ⟨2, ![16384, 1]⟩ 0 8 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨3, ![8, 512, 1024]⟩ ⟨3, ![64, 512, 1024]⟩ 0 8 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![2048, 1024]⟩ ⟨2, ![16384, 1024]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v22) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_fits_KernelIdeal : Cert.Pre_fits_KernelIdeal.Facts) (hPre_fits_ReferenceIdeal : Cert.Pre_fits_ReferenceIdeal.Facts),
    quiescent_Kernel (hKernel := hKernel)
    ∧ quiescent_KernelIdeal (hKernelIdeal := hKernelIdeal)
    ∧ quiescent_KernelIdeal_pre_fits_KernelIdeal (hKernelIdeal := hKernelIdeal) (hPre_fits_KernelIdeal := hPre_fits_KernelIdeal)
    ∧ quiescent_ReferenceIdeal (hReferenceIdeal := hReferenceIdeal)
    ∧ quiescent_ReferenceIdeal_pre_fits_ReferenceIdeal (hReferenceIdeal := hReferenceIdeal) (hPre_fits_ReferenceIdeal := hPre_fits_ReferenceIdeal)
    ∧ preserves_Kernel_KernelIdeal
    ∧ algebraic_KernelIdeal_ReferenceIdeal_pre_fits_KernelIdeal (hKernelIdeal := hKernelIdeal) (hReferenceIdeal := hReferenceIdeal) (hPre_fits_KernelIdeal := hPre_fits_KernelIdeal)
-- ==== Pre_fits_KernelIdeal.lean ====
abbrev S2048x512 : Shape := ⟨2, ![2048, 512]⟩
abbrev S512x64 : Shape := ⟨2, ![512, 64]⟩
abbrev S2048x1 : Shape := ⟨2, ![2048, 1]⟩
abbrev S8x512x1024 : Shape := ⟨3, ![8, 512, 1024]⟩
abbrev S512x1024 : Shape := ⟨2, ![512, 1024]⟩
abbrev S64 : Shape := ⟨1, ![64]⟩
abbrev S1x64 : Shape := ⟨2, ![1, 64]⟩
abbrev S2048x64 : Shape := ⟨2, ![2048, 64]⟩
abbrev S_ : Shape := ⟨0, ![]⟩

class Facts : Prop where
  bcast_S64_S1x64_1 : S64.BroadcastsInDim S1x64 (![1] : Fin 1 → Fin S1x64.rank)
  bcast_S2048x1_S2048x64_0_1 : S2048x1.BroadcastsInDim S2048x64 (![0, 1] : Fin 2 → Fin S2048x64.rank)
  bcast_S1x64_S2048x64_0_1 : S1x64.BroadcastsInDim S2048x64 (![0, 1] : Fin 2 → Fin S2048x64.rank)
  natLt_1_32 : 1 < 32
  reducesTo_S2048x64_S64_d0 : S2048x64.ReducesTo [0] S64
  h_S_ : 0 < S_.numel
  bcast_S_S2048x1 : S_.BroadcastsInDim S2048x1 (![] : Fin 0 → Fin S2048x1.rank)
  bcast_S_S64 : S_.BroadcastsInDim S64 (![] : Fin 0 → Fin S64.rank)
  bcast_S_S2048x512 : S_.BroadcastsInDim S2048x512 (![] : Fin 0 → Fin S2048x512.rank)
  bcast_S_S512x64 : S_.BroadcastsInDim S512x64 (![] : Fin 0 → Fin S512x64.rank)

variable [Facts]

def fn_part1 {F : FTy → Type} [FloatOps F] (main_v11 : IVec S2048x1 1) (main_v13 : IVec S64 1) (main_v16 : IVec S2048x512 1) (main_v17 : FVec F S512x64 .bf16) (main_cst_3 : FVec F S_ .bf16) : IVec S2048x1 1 × IVec S64 1 × IVec S2048x512 1 × IVec S512x64 1 :=
  let main_v18 : FVec F S512x64 .bf16 := broadcastInDim S512x64 ![] bcast_S_S512x64 main_cst_3
  let main_v19 : IVec S512x64 1 := cmpf .olt main_v17 main_v18
  (main_v11, main_v13, main_v16, main_v19)

def fn {F : FTy → Type} [FloatOps F] (main_arg0 : FVec F S2048x512 .bf16) (main_arg1 : FVec F S512x64 .bf16) (main_arg2 : IVec S2048x1 32) (main_arg3 : FVec F S8x512x1024 .bf16) (main_arg4 : FVec F S512x1024 .bf16) : IVec S2048x1 1 × IVec S64 1 × IVec S2048x512 1 × IVec S512x64 1 :=
  let main_v0 : IVec S64 32 := iotaInDim S64 32 0
  let main_v1 : IVec S1x64 32 := broadcastInDim S1x64 ![1] bcast_S64_S1x64_1 main_v0
  let main_v2 : IVec S2048x64 32 := broadcastInDim S2048x64 ![0, 1] bcast_S2048x1_S2048x64_0_1 main_arg2
  let main_v3 : IVec S2048x64 32 := broadcastInDim S2048x64 ![0, 1] bcast_S1x64_S2048x64_0_1 main_v1
  let main_v4 : IVec S2048x64 1 := cmpi .eq main_v2 main_v3
  let main_v5 : IVec S2048x64 32 := (extui 32 · natLt_1_32) main_v4
  let main_c : IVec S_ 32 := constantI S_ 32 0#32
  let main_v6 : IVec S64 32 := (fun x v => Host.reduce IntOp.addi x v reducesTo_S2048x64_S64_d0 h_S_) main_v5 main_c
  let main_c_0 : IVec S_ 32 := constantI S_ 32 0#32
  let main_v7 : IVec S2048x1 32 := broadcastInDim S2048x1 ![] bcast_S_S2048x1 main_c_0
  let main_v8 : IVec S2048x1 1 := cmpi .sge main_arg2 main_v7
  let main_c_1 : IVec S_ 32 := constantI S_ 32 64#32
  let main_v9 : IVec S2048x1 32 := broadcastInDim S2048x1 ![] bcast_S_S2048x1 main_c_1
  let main_v10 : IVec S2048x1 1 := cmpi .slt main_arg2 main_v9
  let main_v11 : IVec S2048x1 1 := andi main_v8 main_v10
  let main_c_2 : IVec S_ 32 := constantI S_ 32 64#32
  let main_v12 : IVec S64 32 := broadcastInDim S64 ![] bcast_S_S64 main_c_2
  let main_v13 : IVec S64 1 := cmpi .sle main_v6 main_v12
  let main_v14 : FVec F S2048x512 .bf16 := Host.absf main_arg0
  let main_cst : FVec F S_ .bf16 := constant S_ .bf16 0x7F80#16
  let main_v15 : FVec F S2048x512 .bf16 := broadcastInDim S2048x512 ![] bcast_S_S2048x512 main_cst
  let main_v16 : IVec S2048x512 1 := cmpf .olt main_v14 main_v15
  let main_v17 : FVec F S512x64 .bf16 := Host.absf main_arg1
  let main_cst_3 : FVec F S_ .bf16 := constant S_ .bf16 0x7F80#16
  fn_part1 (F := F) main_v11 main_v13 main_v16 main_v17 main_cst_3
-- ==== Pre_fits_ReferenceIdeal.lean ====
abbrev S16384x512 : Shape := ⟨2, ![16384, 512]⟩
abbrev S512x64 : Shape := ⟨2, ![512, 64]⟩
abbrev S16384x1 : Shape := ⟨2, ![16384, 1]⟩
abbrev S64x512x1024 : Shape := ⟨3, ![64, 512, 1024]⟩
abbrev S512x1024 : Shape := ⟨2, ![512, 1024]⟩
abbrev S64 : Shape := ⟨1, ![64]⟩
abbrev S1x64 : Shape := ⟨2, ![1, 64]⟩
abbrev S16384x64 : Shape := ⟨2, ![16384, 64]⟩
abbrev S_ : Shape := ⟨0, ![]⟩

class Facts : Prop where
  bcast_S64_S1x64_1 : S64.BroadcastsInDim S1x64 (![1] : Fin 1 → Fin S1x64.rank)
  bcast_S16384x1_S16384x64_0_1 : S16384x1.BroadcastsInDim S16384x64 (![0, 1] : Fin 2 → Fin S16384x64.rank)
  bcast_S1x64_S16384x64_0_1 : S1x64.BroadcastsInDim S16384x64 (![0, 1] : Fin 2 → Fin S16384x64.rank)
  natLt_1_32 : 1 < 32
  reducesTo_S16384x64_S64_d0 : S16384x64.ReducesTo [0] S64
  h_S_ : 0 < S_.numel
  bcast_S_S16384x1 : S_.BroadcastsInDim S16384x1 (![] : Fin 0 → Fin S16384x1.rank)
  bcast_S_S64 : S_.BroadcastsInDim S64 (![] : Fin 0 → Fin S64.rank)
  bcast_S_S16384x512 : S_.BroadcastsInDim S16384x512 (![] : Fin 0 → Fin S16384x512.rank)
  bcast_S_S512x64 : S_.BroadcastsInDim S512x64 (![] : Fin 0 → Fin S512x64.rank)

variable [Facts]

def fn_part1 {F : FTy → Type} [FloatOps F] (main_v11 : IVec S16384x1 1) (main_v13 : IVec S64 1) (main_v16 : IVec S16384x512 1) (main_v17 : FVec F S512x64 .bf16) (main_cst_3 : FVec F S_ .bf16) : IVec S16384x1 1 × IVec S64 1 × IVec S16384x512 1 × IVec S512x64 1 :=
  let main_v18 : FVec F S512x64 .bf16 := broadcastInDim S512x64 ![] bcast_S_S512x64 main_cst_3
  let main_v19 : IVec S512x64 1 := cmpf .olt main_v17 main_v18
  (main_v11, main_v13, main_v16, main_v19)

def fn {F : FTy → Type} [FloatOps F] (main_arg0 : FVec F S16384x512 .bf16) (main_arg1 : FVec F S512x64 .bf16) (main_arg2 : IVec S16384x1 32) (main_arg3 : FVec F S64x512x1024 .bf16) (main_arg4 : FVec F S512x1024 .bf16) : IVec S16384x1 1 × IVec S64 1 × IVec S16384x512 1 × IVec S512x64 1 :=
  let main_v0 : IVec S64 32 := iotaInDim S64 32 0
  let main_v1 : IVec S1x64 32 := broadcastInDim S1x64 ![1] bcast_S64_S1x64_1 main_v0
  let main_v2 : IVec S16384x64 32 := broadcastInDim S16384x64 ![0, 1] bcast_S16384x1_S16384x64_0_1 main_arg2
  let main_v3 : IVec S16384x64 32 := broadcastInDim S16384x64 ![0, 1] bcast_S1x64_S16384x64_0_1 main_v1
  let main_v4 : IVec S16384x64 1 := cmpi .eq main_v2 main_v3
  let main_v5 : IVec S16384x64 32 := (extui 32 · natLt_1_32) main_v4
  let main_c : IVec S_ 32 := constantI S_ 32 0#32
  let main_v6 : IVec S64 32 := (fun x v => Host.reduce IntOp.addi x v reducesTo_S16384x64_S64_d0 h_S_) main_v5 main_c
  let main_c_0 : IVec S_ 32 := constantI S_ 32 0#32
  let main_v7 : IVec S16384x1 32 := broadcastInDim S16384x1 ![] bcast_S_S16384x1 main_c_0
  let main_v8 : IVec S16384x1 1 := cmpi .sge main_arg2 main_v7
  let main_c_1 : IVec S_ 32 := constantI S_ 32 64#32
  let main_v9 : IVec S16384x1 32 := broadcastInDim S16384x1 ![] bcast_S_S16384x1 main_c_1
  let main_v10 : IVec S16384x1 1 := cmpi .slt main_arg2 main_v9
  let main_v11 : IVec S16384x1 1 := andi main_v8 main_v10
  let main_c_2 : IVec S_ 32 := constantI S_ 32 64#32
  let main_v12 : IVec S64 32 := broadcastInDim S64 ![] bcast_S_S64 main_c_2
  let main_v13 : IVec S64 1 := cmpi .sle main_v6 main_v12
  let main_v14 : FVec F S16384x512 .bf16 := Host.absf main_arg0
  let main_cst : FVec F S_ .bf16 := constant S_ .bf16 0x7F80#16
  let main_v15 : FVec F S16384x512 .bf16 := broadcastInDim S16384x512 ![] bcast_S_S16384x512 main_cst
  let main_v16 : IVec S16384x512 1 := cmpf .olt main_v14 main_v15
  let main_v17 : FVec F S512x64 .bf16 := Host.absf main_arg1
  let main_cst_3 : FVec F S_ .bf16 := constant S_ .bf16 0x7F80#16
  fn_part1 (F := F) main_v11 main_v13 main_v16 main_v17 main_cst_3
-- ==== Kernel.lean ====
abbrev S2048x512 : Shape := ⟨2, ![2048, 512]⟩
abbrev S512x64 : Shape := ⟨2, ![512, 64]⟩
abbrev S2048x1 : Shape := ⟨2, ![2048, 1]⟩
abbrev S8x512x1024 : Shape := ⟨3, ![8, 512, 1024]⟩
abbrev S512x1024 : Shape := ⟨2, ![512, 1024]⟩
abbrev S2048x1024 : Shape := ⟨2, ![2048, 1024]⟩
abbrev S8x512x512 : Shape := ⟨3, ![8, 512, 512]⟩
abbrev S8 : Shape := ⟨1, ![8]⟩
abbrev S2048x64 : Shape := ⟨2, ![2048, 64]⟩
abbrev S2048 : Shape := ⟨1, ![2048]⟩
abbrev S128x128 : Shape := ⟨2, ![128, 128]⟩
abbrev S1x64 : Shape := ⟨2, ![1, 64]⟩
abbrev S128x64 : Shape := ⟨2, ![128, 64]⟩
abbrev S128 : Shape := ⟨1, ![128]⟩
abbrev S128x1 : Shape := ⟨2, ![128, 1]⟩
abbrev S64 : Shape := ⟨1, ![64]⟩
abbrev S_ : Shape := ⟨0, ![]⟩
abbrev S512x512 : Shape := ⟨2, ![512, 512]⟩
abbrev S1x512x512 : Shape := ⟨3, ![1, 512, 512]⟩
abbrev S1 : Shape := ⟨1, ![1]⟩
abbrev S1x64x512 : Shape := ⟨3, ![1, 64, 512]⟩
abbrev S64x512 : Shape := ⟨2, ![64, 512]⟩
abbrev S1x512x1024 : Shape := ⟨3, ![1, 512, 1024]⟩
abbrev S64x1024 : Shape := ⟨2, ![64, 1024]⟩
abbrev S1x64x1024 : Shape := ⟨3, ![1, 64, 1024]⟩

abbrev nBuf : Space → Nat
  | .hbm => 6
  | .vmem => 11
  | .smem => 0
  | _ => 0

abbrev bufTy : (tb : Table) → Fin (tcTables nBuf tb) → BufTy
  | .hbm, ⟨0, _⟩ => ⟨S2048x512, .bf16⟩
  | .hbm, ⟨1, _⟩ => ⟨S512x64, .bf16⟩
  | .hbm, ⟨2, _⟩ => ⟨S2048x1, .i32⟩
  | .hbm, ⟨3, _⟩ => ⟨S8x512x1024, .bf16⟩
  | .hbm, ⟨4, _⟩ => ⟨S512x1024, .bf16⟩
  | .hbm, ⟨5, _⟩ => ⟨S2048x1024, .bf16⟩
  | .local _ .vmem, ⟨0, _⟩ => ⟨S2048x512, .bf16⟩
  | .local _ .vmem, ⟨1, _⟩ => ⟨S512x64, .bf16⟩
  | .local _ .vmem, ⟨2, _⟩ => ⟨S2048x1, .i32⟩
  | .local _ .vmem, ⟨3, _⟩ => ⟨S8x512x1024, .bf16⟩
  | .local _ .vmem, ⟨4, _⟩ => ⟨S512x1024, .bf16⟩
  | .local _ .vmem, ⟨5, _⟩ => ⟨S2048x1024, .bf16⟩
  | .local _ .vmem, ⟨6, _⟩ => ⟨S8x512x512, .bf16⟩
  | .local _ .vmem, ⟨7, _⟩ => ⟨S8x512x512, .bf16⟩
  | .local _ .vmem, ⟨8, _⟩ => ⟨S8x512x1024, .bf16⟩
  | .local _ .vmem, ⟨9, _⟩ => ⟨S8x512x1024, .bf16⟩
  | .local _ .vmem, ⟨10, _⟩ => ⟨S2048x1, .f32⟩
  | _, _ => ⟨S2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 1 → Bool
  | ⟨0, _⟩ => false
  | _ => false

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  (ofTc nBuf bufTy 1 38 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_86 : BitVec 32 := 1#32
  let v290 : BitVec 32 := Scalar.addi v2 c1_i32_86
  let c8_i32_87 : BitVec 32 := 8#32
  let v291 : BitVec 32 := Scalar.remsi v290 c8_i32_87
  let c1_i32_89 : BitVec 32 := 1#32
  let v292 : BitVec 32 := Scalar.muli v291 c1_i32_89
  let v293 : BitVec 32 := Scalar.addi c0_i32 v292
  v293.toNat
def k0_dev2 (d0 : Dev nD) : Nat :=
  let c0_i32_93 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v294 : BitVec 32 := Scalar.addi v2 c2_i32
  let c8_i32_90 : BitVec 32 := 8#32
  let v295 : BitVec 32 := Scalar.remsi v294 c8_i32_90
  let c1_i32_92 : BitVec 32 := 1#32
  let v296 : BitVec 32 := Scalar.muli v295 c1_i32_92
  let v297 : BitVec 32 := Scalar.addi c0_i32_93 v296
  v297.toNat
def k0_dev3 (d0 : Dev nD) : Nat :=
  let c0_i32_97 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v298 : BitVec 32 := Scalar.addi v2 c3_i32
  let c8_i32_94 : BitVec 32 := 8#32
  let v299 : BitVec 32 := Scalar.remsi v298 c8_i32_94
  let c1_i32_96 : BitVec 32 := 1#32
  let v300 : BitVec 32 := Scalar.muli v299 c1_i32_96
  let v301 : BitVec 32 := Scalar.addi c0_i32_97 v300
  v301.toNat
def k0_dev4 (d0 : Dev nD) : Nat :=
  let c0_i32_101 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v302 : BitVec 32 := Scalar.addi v2 c4_i32
  let c8_i32_98 : BitVec 32 := 8#32
  let v303 : BitVec 32 := Scalar.remsi v302 c8_i32_98
  let c1_i32_100 : BitVec 32 := 1#32
  let v304 : BitVec 32 := Scalar.muli v303 c1_i32_100
  let v305 : BitVec 32 := Scalar.addi c0_i32_101 v304
  v305.toNat
def k0_dev5 (d0 : Dev nD) : Nat :=
  let c0_i32_105 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v306 : BitVec 32 := Scalar.addi v2 c5_i32
  let c8_i32_102 : BitVec 32 := 8#32
  let v307 : BitVec 32 := Scalar.remsi v306 c8_i32_102
  let c1_i32_104 : BitVec 32 := 1#32
  let v308 : BitVec 32 := Scalar.muli v307 c1_i32_104
  let v309 : BitVec 32 := Scalar.addi c0_i32_105 v308
  v309.toNat
def k0_dev6 (d0 : Dev nD) : Nat :=
  let c0_i32_109 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v310 : BitVec 32 := Scalar.addi v2 c6_i32
  let c8_i32_106 : BitVec 32 := 8#32
  let v311 : BitVec 32 := Scalar.remsi v310 c8_i32_106
  let c1_i32_108 : BitVec 32 := 1#32
  let v312 : BitVec 32 := Scalar.muli v311 c1_i32_108
  let v313 : BitVec 32 := Scalar.addi c0_i32_109 v312
  v313.toNat
def k0_dev7 (d0 : Dev nD) : Nat :=
  let c0_i32_113 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v314 : BitVec 32 := Scalar.addi v2 c7_i32
  let c8_i32_110 : BitVec 32 := 8#32
  let v315 : BitVec 32 := Scalar.remsi v314 c8_i32_110
  let c1_i32_112 : BitVec 32 := 1#32
  let v316 : BitVec 32 := Scalar.muli v315 c1_i32_112
  let v317 : BitVec 32 := Scalar.addi c0_i32_113 v316
  v317.toNat
@[reducible] def k0_t1_loop : Scf.Loop 32 :=
  let c0_i32_115 : BitVec 32 := 0#32
  let c8_i32_116 : BitVec 32 := 8#32
  let v318 : BitVec 32 := Scalar.addi c0_i32_115 c8_i32_116
  let c1_i32_117 : BitVec 32 := 1#32
  ⟨c0_i32_115, v318, c1_i32_117⟩
def k0_off1 (d0 : Dev nD) (k0_t1 : Fin k0_t1_loop.trips) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_115 : BitVec 32 := 0#32
  let c1_i32_117 : BitVec 32 := 1#32
  let arg15 : BitVec 32 := Scf.iv c0_i32_115 c1_i32_117 k0_t1
  let v322 : BitVec 32 := Scalar.addi v2 arg15
  let c8_i32_131 : BitVec 32 := 8#32
  let v323 : BitVec 32 := Scalar.remsi v322 c8_i32_131
  let v336 : Index := Scalar.indexCast v323
  let c0_135 : Index := 0#32
  let c0_136 : Index := 0#32
  ![v336.toNat, 0, 0]
def k0_cond1 (k0_t1 : Fin k0_t1_loop.trips) : BitVec 1 :=
  let c0_i32_115 : BitVec 32 := 0#32
  let c1_i32_117 : BitVec 32 := 1#32
  let arg15 : BitVec 32 := Scf.iv c0_i32_115 c1_i32_117 k0_t1
  let c0_i32_137 : BitVec 32 := 0#32
  let v340 : BitVec 1 := Scalar.cmpi .sgt arg15 c0_i32_137
  let v341 : BitVec 32 := Scalar.extui v340
  let c0_i32_138 : BitVec 32 := 0#32
  let v342 : BitVec 1 := Scalar.cmpi .ne v341 c0_i32_138
  v342

def k0_off2 (k0_t1 : Fin k0_t1_loop.trips) : Fin 1 → Nat :=
  let c0_i32_115 : BitVec 32 := 0#32
  let c1_i32_117 : BitVec 32 := 1#32
  let arg15 : BitVec 32 := Scf.iv c0_i32_115 c1_i32_117 k0_t1
  ![arg15.toNat]
def k0_off3 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off4 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_141 : BitVec 32 := 0#32
  let c0_i32_142 : BitVec 32 := 0#32
  ![v2.toNat, 0, 0]
def k0_off5 (d0 : Dev nD) (k0_t1 : Fin k0_t1_loop.trips) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_115 : BitVec 32 := 0#32
  let c1_i32_117 : BitVec 32 := 1#32
  let arg15 : BitVec 32 := Scf.iv c0_i32_115 c1_i32_117 k0_t1
  let v322 : BitVec 32 := Scalar.addi v2 arg15
  let c8_i32_131 : BitVec 32 := 8#32
  let v323 : BitVec 32 := Scalar.remsi v322 c8_i32_131
  let c0_i32_143 : BitVec 32 := 0#32
  let c0_i32_144 : BitVec 32 := 0#32
  ![v323.toNat, 0, 0]
def k0_dev8 (d0 : Dev nD) (k0_t1 : Fin k0_t1_loop.trips) : Nat :=
  let c0_i32_140 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_115 : BitVec 32 := 0#32
  let c1_i32_117 : BitVec 32 := 1#32
  let arg15 : BitVec 32 := Scf.iv c0_i32_115 c1_i32_117 k0_t1
  let v322 : BitVec 32 := Scalar.addi v2 arg15
  let c8_i32_131 : BitVec 32 := 8#32
  let v323 : BitVec 32 := Scalar.remsi v322 c8_i32_131
  let c1_i32_139 : BitVec 32 := 1#32
  let v343 : BitVec 32 := Scalar.muli v323 c1_i32_139
  let v344 : BitVec 32 := Scalar.addi c0_i32_140 v343
  v344.toNat
@[reducible] def k0_t2_loop : Scf.Loop 32 :=
  let c0_i32_119 : BitVec 32 := 0#32
  let c8_i32_120 : BitVec 32 := 8#32
  let v319 : BitVec 32 := Scalar.addi c0_i32_119 c8_i32_120
  let c1_i32_121 : BitVec 32 := 1#32
  ⟨c0_i32_119, v319, c1_i32_121⟩
def k0_cond2 (k0_t2 : Fin k0_t2_loop.trips) : BitVec 1 :=
  let c0_i32_119 : BitVec 32 := 0#32
  let c1_i32_121 : BitVec 32 := 1#32
  let arg15 : BitVec 32 := Scf.iv c0_i32_119 c1_i32_121 k0_t2
  let c0_i32_133 : BitVec 32 := 0#32
  let v325 : BitVec 1 := Scalar.cmpi .eq arg15 c0_i32_133
  let v326 : BitVec 32 := Scalar.extui v325
  let c0_i32_134 : BitVec 32 := 0#32
  let v327 : BitVec 1 := Scalar.cmpi .ne v326 c0_i32_134
  v327

def k0_off6 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v425 : Index := Scalar.indexCast v2
  let c0_194 : Index := 0#32
  let c0_195 : Index := 0#32
  ![v425.toNat, 0, 0]
def k0_cond3 (k0_t2 : Fin k0_t2_loop.trips) : BitVec 1 :=
  let c0_i32_119 : BitVec 32 := 0#32
  let c1_i32_121 : BitVec 32 := 1#32
  let arg15 : BitVec 32 := Scf.iv c0_i32_119 c1_i32_121 k0_t2
  let c0_i32_135 : BitVec 32 := 0#32
  let v328 : BitVec 1 := Scalar.cmpi .sgt arg15 c0_i32_135
  let v329 : BitVec 32 := Scalar.extui v328
  let c0_i32_136 : BitVec 32 := 0#32
  let v330 : BitVec 1 := Scalar.cmpi .ne v329 c0_i32_136
  v330

def k0_off7 (d0 : Dev nD) (k0_t2 : Fin k0_t2_loop.trips) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_131 : BitVec 32 := 8#32
  let v322 : BitVec 32 := Scalar.addi v2 c8_i32_131
  let c0_i32_119 : BitVec 32 := 0#32
  let c1_i32_121 : BitVec 32 := 1#32
  let arg15 : BitVec 32 := Scf.iv c0_i32_119 c1_i32_121 k0_t2
  let v323 : BitVec 32 := Scalar.subi v322 arg15
  let c8_i32_132 : BitVec 32 := 8#32
  let v324 : BitVec 32 := Scalar.remsi v323 c8_i32_132
  ![v324.toNat]
def k0_off8 (d0 : Dev nD) (k0_t2 : Fin k0_t2_loop.trips) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_131 : BitVec 32 := 8#32
  let v322 : BitVec 32 := Scalar.addi v2 c8_i32_131
  let c0_i32_119 : BitVec 32 := 0#32
  let c1_i32_121 : BitVec 32 := 1#32
  let arg15 : BitVec 32 := Scf.iv c0_i32_119 c1_i32_121 k0_t2
  let v323 : BitVec 32 := Scalar.subi v322 arg15
  let c8_i32_132 : BitVec 32 := 8#32
  let v324 : BitVec 32 := Scalar.remsi v323 c8_i32_132
  let c0_i32_197 : BitVec 32 := 0#32
  let c0_i32_198 : BitVec 32 := 0#32
  ![v324.toNat, 0, 0]
def k0_off9 (d0 : Dev nD) (k0_t2 : Fin k0_t2_loop.trips) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_131 : BitVec 32 := 8#32
  let v322 : BitVec 32 := Scalar.addi v2 c8_i32_131
  let c0_i32_119 : BitVec 32 := 0#32
  let c1_i32_121 : BitVec 32 := 1#32
  let arg15 : BitVec 32 := Scf.iv c0_i32_119 c1_i32_121 k0_t2
  let v323 : BitVec 32 := Scalar.subi v322 arg15
  let c8_i32_132 : BitVec 32 := 8#32
  let v324 : BitVec 32 := Scalar.remsi v323 c8_i32_132
  let v331 : Index := Scalar.indexCast v324
  let c0_137 : Index := 0#32
  let c0_138 : Index := 0#32
  ![v331.toNat, 0, 0]
def k0_off10 (d0 : Dev nD) (k0_t2 : Fin k0_t2_loop.trips) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_131 : BitVec 32 := 8#32
  let v322 : BitVec 32 := Scalar.addi v2 c8_i32_131
  let c0_i32_119 : BitVec 32 := 0#32
  let c1_i32_121 : BitVec 32 := 1#32
  let arg15 : BitVec 32 := Scf.iv c0_i32_119 c1_i32_121 k0_t2
  let v323 : BitVec 32 := Scalar.subi v322 arg15
  let c8_i32_132 : BitVec 32 := 8#32
  let v324 : BitVec 32 := Scalar.remsi v323 c8_i32_132
  let v338 : Index := Scalar.indexCast v324
  let c0_143 : Index := 0#32
  let c0_144 : Index := 0#32
  ![v338.toNat, 0, 0]
def k0_off11 (d0 : Dev nD) (k0_t2 : Fin k0_t2_loop.trips) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_131 : BitVec 32 := 8#32
  let v322 : BitVec 32 := Scalar.addi v2 c8_i32_131
  let c0_i32_119 : BitVec 32 := 0#32
  let c1_i32_121 : BitVec 32 := 1#32
  let arg15 : BitVec 32 := Scf.iv c0_i32_119 c1_i32_121 k0_t2
  let v323 : BitVec 32 := Scalar.subi v322 arg15
  let c8_i32_132 : BitVec 32 := 8#32
  let v324 : BitVec 32 := Scalar.remsi v323 c8_i32_132
  let v342 : Index := Scalar.indexCast v324
  let c64 : Index := 64#32
  let c0_145 : Index := 0#32
  ![v342.toNat, 64, 0]
def k0_off12 (d0 : Dev nD) (k0_t2 : Fin k0_t2_loop.trips) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_131 : BitVec 32 := 8#32
  let v322 : BitVec 32 := Scalar.addi v2 c8_i32_131
  let c0_i32_119 : BitVec 32 := 0#32
  let c1_i32_121 : BitVec 32 := 1#32
  let arg15 : BitVec 32 := Scf.iv c0_i32_119 c1_i32_121 k0_t2
  let v323 : BitVec 32 := Scalar.subi v322 arg15
  let c8_i32_132 : BitVec 32 := 8#32
  let v324 : BitVec 32 := Scalar.remsi v323 c8_i32_132
  let v349 : Index := Scalar.indexCast v324
  let c64_149 : Index := 64#32
  let c0_150 : Index := 0#32
  ![v349.toNat, 64, 0]
def k0_off13 (d0 : Dev nD) (k0_t2 : Fin k0_t2_loop.trips) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_131 : BitVec 32 := 8#32
  let v322 : BitVec 32 := Scalar.addi v2 c8_i32_131
  let c0_i32_119 : BitVec 32 := 0#32
  let c1_i32_121 : BitVec 32 := 1#32
  let arg15 : BitVec 32 := Scf.iv c0_i32_119 c1_i32_121 k0_t2
  let v323 : BitVec 32 := Scalar.subi v322 arg15
  let c8_i32_132 : BitVec 32 := 8#32
  let v324 : BitVec 32 := Scalar.remsi v323 c8_i32_132
  let v353 : Index := Scalar.indexCast v324
  let c128_151 : Index := 128#32
  let c0_152 : Index := 0#32
  ![v353.toNat, 128, 0]
def k0_off14 (d0 : Dev nD) (k0_t2 : Fin k0_t2_loop.trips) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_131 : BitVec 32 := 8#32
  let v322 : BitVec 32 := Scalar.addi v2 c8_i32_131
  let c0_i32_119 : BitVec 32 := 0#32
  let c1_i32_121 : BitVec 32 := 1#32
  let arg15 : BitVec 32 := Scf.iv c0_i32_119 c1_i32_121 k0_t2
  let v323 : BitVec 32 := Scalar.subi v322 arg15
  let c8_i32_132 : BitVec 32 := 8#32
  let v324 : BitVec 32 := Scalar.remsi v323 c8_i32_132
  let v360 : Index := Scalar.indexCast v324
  let c128_156 : Index := 128#32
  let c0_157 : Index := 0#32
  ![v360.toNat, 128, 0]
def k0_off15 (d0 : Dev nD) (k0_t2 : Fin k0_t2_loop.trips) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_131 : BitVec 32 := 8#32
  let v322 : BitVec 32 := Scalar.addi v2 c8_i32_131
  let c0_i32_119 : BitVec 32 := 0#32
  let c1_i32_121 : BitVec 32 := 1#32
  let arg15 : BitVec 32 := Scf.iv c0_i32_119 c1_i32_121 k0_t2
  let v323 : BitVec 32 := Scalar.subi v322 arg15
  let c8_i32_132 : BitVec 32 := 8#32
  let v324 : BitVec 32 := Scalar.remsi v323 c8_i32_132
  let v364 : Index := Scalar.indexCast v324
  let c192 : Index := 192#32
  let c0_158 : Index := 0#32
  ![v364.toNat, 192, 0]
def k0_off16 (d0 : Dev nD) (k0_t2 : Fin k0_t2_loop.trips) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_131 : BitVec 32 := 8#32
  let v322 : BitVec 32 := Scalar.addi v2 c8_i32_131
  let c0_i32_119 : BitVec 32 := 0#32
  let c1_i32_121 : BitVec 32 := 1#32
  let arg15 : BitVec 32 := Scf.iv c0_i32_119 c1_i32_121 k0_t2
  let v323 : BitVec 32 := Scalar.subi v322 arg15
  let c8_i32_132 : BitVec 32 := 8#32
  let v324 : BitVec 32 := Scalar.remsi v323 c8_i32_132
  let v371 : Index := Scalar.indexCast v324
  let c192_162 : Index := 192#32
  let c0_163 : Index := 0#32
  ![v371.toNat, 192, 0]
def k0_off17 (d0 : Dev nD) (k0_t2 : Fin k0_t2_loop.trips) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_131 : BitVec 32 := 8#32
  let v322 : BitVec 32 := Scalar.addi v2 c8_i32_131
  let c0_i32_119 : BitVec 32 := 0#32
  let c1_i32_121 : BitVec 32 := 1#32
  let arg15 : BitVec 32 := Scf.iv c0_i32_119 c1_i32_121 k0_t2
  let v323 : BitVec 32 := Scalar.subi v322 arg15
  let c8_i32_132 : BitVec 32 := 8#32
  let v324 : BitVec 32 := Scalar.remsi v323 c8_i32_132
  let v375 : Index := Scalar.indexCast v324
  let c256_164 : Index := 256#32
  let c0_165 : Index := 0#32
  ![v375.toNat, 256, 0]
def k0_off18 (d0 : Dev nD) (k0_t2 : Fin k0_t2_loop.trips) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_131 : BitVec 32 := 8#32
  let v322 : BitVec 32 := Scalar.addi v2 c8_i32_131
  let c0_i32_119 : BitVec 32 := 0#32
  let c1_i32_121 : BitVec 32 := 1#32
  let arg15 : BitVec 32 := Scf.iv c0_i32_119 c1_i32_121 k0_t2
  let v323 : BitVec 32 := Scalar.subi v322 arg15
  let c8_i32_132 : BitVec 32 := 8#32
  let v324 : BitVec 32 := Scalar.remsi v323 c8_i32_132
  let v382 : Index := Scalar.indexCast v324
  let c256_169 : Index := 256#32
  let c0_170 : Index := 0#32
  ![v382.toNat, 256, 0]
def k0_off19 (d0 : Dev nD) (k0_t2 : Fin k0_t2_loop.trips) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_131 : BitVec 32 := 8#32
  let v322 : BitVec 32 := Scalar.addi v2 c8_i32_131
  let c0_i32_119 : BitVec 32 := 0#32
  let c1_i32_121 : BitVec 32 := 1#32
  let arg15 : BitVec 32 := Scf.iv c0_i32_119 c1_i32_121 k0_t2
  let v323 : BitVec 32 := Scalar.subi v322 arg15
  let c8_i32_132 : BitVec 32 := 8#32
  let v324 : BitVec 32 := Scalar.remsi v323 c8_i32_132
  let v386 : Index := Scalar.indexCast v324
  let c320 : Index := 320#32
  let c0_171 : Index := 0#32
  ![v386.toNat, 320, 0]
def k0_off20 (d0 : Dev nD) (k0_t2 : Fin k0_t2_loop.trips) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_131 : BitVec 32 := 8#32
  let v322 : BitVec 32 := Scalar.addi v2 c8_i32_131
  let c0_i32_119 : BitVec 32 := 0#32
  let c1_i32_121 : BitVec 32 := 1#32
  let arg15 : BitVec 32 := Scf.iv c0_i32_119 c1_i32_121 k0_t2
  let v323 : BitVec 32 := Scalar.subi v322 arg15
  let c8_i32_132 : BitVec 32 := 8#32
  let v324 : BitVec 32 := Scalar.remsi v323 c8_i32_132
  let v393 : Index := Scalar.indexCast v324
  let c320_175 : Index := 320#32
  let c0_176 : Index := 0#32
  ![v393.toNat, 320, 0]
def k0_off21 (d0 : Dev nD) (k0_t2 : Fin k0_t2_loop.trips) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_131 : BitVec 32 := 8#32
  let v322 : BitVec 32 := Scalar.addi v2 c8_i32_131
  let c0_i32_119 : BitVec 32 := 0#32
  let c1_i32_121 : BitVec 32 := 1#32
  let arg15 : BitVec 32 := Scf.iv c0_i32_119 c1_i32_121 k0_t2
  let v323 : BitVec 32 := Scalar.subi v322 arg15
  let c8_i32_132 : BitVec 32 := 8#32
  let v324 : BitVec 32 := Scalar.remsi v323 c8_i32_132
  let v397 : Index := Scalar.indexCast v324
  let c384_177 : Index := 384#32
  let c0_178 : Index := 0#32
  ![v397.toNat, 384, 0]
def k0_off22 (d0 : Dev nD) (k0_t2 : Fin k0_t2_loop.trips) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_131 : BitVec 32 := 8#32
  let v322 : BitVec 32 := Scalar.addi v2 c8_i32_131
  let c0_i32_119 : BitVec 32 := 0#32
  let c1_i32_121 : BitVec 32 := 1#32
  let arg15 : BitVec 32 := Scf.iv c0_i32_119 c1_i32_121 k0_t2
  let v323 : BitVec 32 := Scalar.subi v322 arg15
  let c8_i32_132 : BitVec 32 := 8#32
  let v324 : BitVec 32 := Scalar.remsi v323 c8_i32_132
  let v404 : Index := Scalar.indexCast v324
  let c384_182 : Index := 384#32
  let c0_183 : Index := 0#32
  ![v404.toNat, 384, 0]
def k0_off23 (d0 : Dev nD) (k0_t2 : Fin k0_t2_loop.trips) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_131 : BitVec 32 := 8#32
  let v322 : BitVec 32 := Scalar.addi v2 c8_i32_131
  let c0_i32_119 : BitVec 32 := 0#32
  let c1_i32_121 : BitVec 32 := 1#32
  let arg15 : BitVec 32 := Scf.iv c0_i32_119 c1_i32_121 k0_t2
  let v323 : BitVec 32 := Scalar.subi v322 arg15
  let c8_i32_132 : BitVec 32 := 8#32
  let v324 : BitVec 32 := Scalar.remsi v323 c8_i32_132
  let v408 : Index := Scalar.indexCast v324
  let c448 : Index := 448#32
  let c0_184 : Index := 0#32
  ![v408.toNat, 448, 0]
def k0_off24 (d0 : Dev nD) (k0_t2 : Fin k0_t2_loop.trips) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_131 : BitVec 32 := 8#32
  let v322 : BitVec 32 := Scalar.addi v2 c8_i32_131
  let c0_i32_119 : BitVec 32 := 0#32
  let c1_i32_121 : BitVec 32 := 1#32
  let arg15 : BitVec 32 := Scf.iv c0_i32_119 c1_i32_121 k0_t2
  let v323 : BitVec 32 := Scalar.subi v322 arg15
  let c8_i32_132 : BitVec 32 := 8#32
  let v324 : BitVec 32 := Scalar.remsi v323 c8_i32_132
  let v415 : Index := Scalar.indexCast v324
  let c448_188 : Index := 448#32
  let c0_189 : Index := 0#32
  ![v415.toNat, 448, 0]
def k0_cond4 (k0_t2 : Fin k0_t2_loop.trips) : BitVec 1 :=
  let c0_i32_119 : BitVec 32 := 0#32
  let c1_i32_121 : BitVec 32 := 1#32
  let arg15 : BitVec 32 := Scf.iv c0_i32_119 c1_i32_121 k0_t2
  let c0_i32_190 : BitVec 32 := 0#32
  let v419 : BitVec 1 := Scalar.cmpi .eq arg15 c0_i32_190
  let v420 : BitVec 32 := Scalar.extui v419
  let c0_i32_191 : BitVec 32 := 0#32
  let v421 : BitVec 1 := Scalar.cmpi .ne v420 c0_i32_191
  v421

def k0_off25 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v425 : Index := Scalar.indexCast v2
  let c0_194 : Index := 0#32
  let c0_195 : Index := 0#32
  ![v425.toNat, 0, 0]
def k0_cond5 (k0_t2 : Fin k0_t2_loop.trips) : BitVec 1 :=
  let c0_i32_119 : BitVec 32 := 0#32
  let c1_i32_121 : BitVec 32 := 1#32
  let arg15 : BitVec 32 := Scf.iv c0_i32_119 c1_i32_121 k0_t2
  let c0_i32_192 : BitVec 32 := 0#32
  let v422 : BitVec 1 := Scalar.cmpi .sgt arg15 c0_i32_192
  let v423 : BitVec 32 := Scalar.extui v422
  let c0_i32_193 : BitVec 32 := 0#32
  let v424 : BitVec 1 := Scalar.cmpi .ne v423 c0_i32_193
  v424

def k0_off26 (k0_t2 : Fin k0_t2_loop.trips) : Fin 1 → Nat :=
  let c0_i32_119 : BitVec 32 := 0#32
  let c1_i32_121 : BitVec 32 := 1#32
  let arg15 : BitVec 32 := Scf.iv c0_i32_119 c1_i32_121 k0_t2
  ![arg15.toNat]
def k0_off27 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off28 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_196 : BitVec 32 := 0#32
  let c0_i32_197 : BitVec 32 := 0#32
  ![v2.toNat, 0, 0]
def k0_off29 (d0 : Dev nD) (k0_t2 : Fin k0_t2_loop.trips) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_131 : BitVec 32 := 8#32
  let v322 : BitVec 32 := Scalar.addi v2 c8_i32_131
  let c0_i32_119 : BitVec 32 := 0#32
  let c1_i32_121 : BitVec 32 := 1#32
  let arg15 : BitVec 32 := Scf.iv c0_i32_119 c1_i32_121 k0_t2
  let v323 : BitVec 32 := Scalar.subi v322 arg15
  let c8_i32_132 : BitVec 32 := 8#32
  let v324 : BitVec 32 := Scalar.remsi v323 c8_i32_132
  let c0_i32_198 : BitVec 32 := 0#32
  let c0_i32_199 : BitVec 32 := 0#32
  ![v324.toNat, 0, 0]
def k0_dev9 (d0 : Dev nD) (k0_t2 : Fin k0_t2_loop.trips) : Nat :=
  let c0_i32_195 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_131 : BitVec 32 := 8#32
  let v322 : BitVec 32 := Scalar.addi v2 c8_i32_131
  let c0_i32_119 : BitVec 32 := 0#32
  let c1_i32_121 : BitVec 32 := 1#32
  let arg15 : BitVec 32 := Scf.iv c0_i32_119 c1_i32_121 k0_t2
  let v323 : BitVec 32 := Scalar.subi v322 arg15
  let c8_i32_132 : BitVec 32 := 8#32
  let v324 : BitVec 32 := Scalar.remsi v323 c8_i32_132
  let c1_i32_194 : BitVec 32 := 1#32
  let v425 : BitVec 32 := Scalar.muli v324 c1_i32_194
  let v426 : BitVec 32 := Scalar.addi c0_i32_195 v425
  v426.toNat
@[reducible] def k0_t3_loop : Scf.Loop 32 :=
  let c0_i32_123 : BitVec 32 := 0#32
  let c8_i32_124 : BitVec 32 := 8#32
  let v320 : BitVec 32 := Scalar.addi c0_i32_123 c8_i32_124
  let c1_i32_125 : BitVec 32 := 1#32
  ⟨c0_i32_123, v320, c1_i32_125⟩
def k0_cond6 (k0_t3 : Fin k0_t3_loop.trips) : BitVec 1 :=
  let c0_i32_123 : BitVec 32 := 0#32
  let c1_i32_125 : BitVec 32 := 1#32
  let arg15 : BitVec 32 := Scf.iv c0_i32_123 c1_i32_125 k0_t3
  let c0_i32_132 : BitVec 32 := 0#32
  let v324 : BitVec 1 := Scalar.cmpi .sgt arg15 c0_i32_132
  let v325 : BitVec 32 := Scalar.extui v324
  let c0_i32_133 : BitVec 32 := 0#32
  let v326 : BitVec 1 := Scalar.cmpi .ne v325 c0_i32_133
  v326

def k0_off30 (d0 : Dev nD) (k0_t3 : Fin k0_t3_loop.trips) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_123 : BitVec 32 := 0#32
  let c1_i32_125 : BitVec 32 := 1#32
  let arg15 : BitVec 32 := Scf.iv c0_i32_123 c1_i32_125 k0_t3
  let v322 : BitVec 32 := Scalar.addi v2 arg15
  let c8_i32_131 : BitVec 32 := 8#32
  let v323 : BitVec 32 := Scalar.remsi v322 c8_i32_131
  ![v323.toNat]
def k0_off31 (d0 : Dev nD) (k0_t3 : Fin k0_t3_loop.trips) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_123 : BitVec 32 := 0#32
  let c1_i32_125 : BitVec 32 := 1#32
  let arg15 : BitVec 32 := Scf.iv c0_i32_123 c1_i32_125 k0_t3
  let v322 : BitVec 32 := Scalar.addi v2 arg15
  let c8_i32_131 : BitVec 32 := 8#32
  let v323 : BitVec 32 := Scalar.remsi v322 c8_i32_131
  let c0_i32_146 : BitVec 32 := 0#32
  let c0_i32_147 : BitVec 32 := 0#32
  ![v323.toNat, 0, 0]
def k0_off32 (d0 : Dev nD) (k0_t3 : Fin k0_t3_loop.trips) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_123 : BitVec 32 := 0#32
  let c1_i32_125 : BitVec 32 := 1#32
  let arg15 : BitVec 32 := Scf.iv c0_i32_123 c1_i32_125 k0_t3
  let v322 : BitVec 32 := Scalar.addi v2 arg15
  let c8_i32_131 : BitVec 32 := 8#32
  let v323 : BitVec 32 := Scalar.remsi v322 c8_i32_131
  let v337 : Index := Scalar.indexCast v323
  let c0_136 : Index := 0#32
  let c0_137 : Index := 0#32
  ![v337.toNat, 0, 0]
@[reducible] def k0_t4_loop : Scf.Loop 32 :=
  let c1_i32_127 : BitVec 32 := 1#32
  let c7_i32_128 : BitVec 32 := 7#32
  let v321 : BitVec 32 := Scalar.addi c1_i32_127 c7_i32_128
  let c1_i32_129 : BitVec 32 := 1#32
  ⟨c1_i32_127, v321, c1_i32_129⟩
def k0_off33 (k0_t4 : Fin k0_t4_loop.trips) : Fin 1 → Nat :=
  let c1_i32_127 : BitVec 32 := 1#32
  let c1_i32_129 : BitVec 32 := 1#32
  let arg15 : BitVec 32 := Scf.iv c1_i32_127 c1_i32_129 k0_t4
  ![arg15.toNat]
def k0_off34 (d0 : Dev nD) (k0_t4 : Fin k0_t4_loop.trips) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_127 : BitVec 32 := 1#32
  let c1_i32_129 : BitVec 32 := 1#32
  let arg15 : BitVec 32 := Scf.iv c1_i32_127 c1_i32_129 k0_t4
  let v322 : BitVec 32 := Scalar.addi v2 arg15
  let c8_i32_131 : BitVec 32 := 8#32
  let v323 : BitVec 32 := Scalar.remsi v322 c8_i32_131
  let c0_i32_134 : BitVec 32 := 0#32
  let c0_i32_135 : BitVec 32 := 0#32
  ![v323.toNat, 0, 0]
def k0_off35 (d0 : Dev nD) (k0_t4 : Fin k0_t4_loop.trips) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_127 : BitVec 32 := 1#32
  let c1_i32_129 : BitVec 32 := 1#32
  let arg15 : BitVec 32 := Scf.iv c1_i32_127 c1_i32_129 k0_t4
  let v322 : BitVec 32 := Scalar.addi v2 arg15
  let c8_i32_131 : BitVec 32 := 8#32
  let v323 : BitVec 32 := Scalar.remsi v322 c8_i32_131
  let c0_i32_140 : BitVec 32 := 0#32
  let c0_i32_141 : BitVec 32 := 0#32
  ![v323.toNat, 0, 0]
abbrev stage0_0 : Fin 1 → Memref sig .tc .vmem S2048x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x1 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2048x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S16384x512 : Shape := ⟨2, ![16384, 512]⟩
abbrev S512x64 : Shape := ⟨2, ![512, 64]⟩
abbrev S16384x1 : Shape := ⟨2, ![16384, 1]⟩
abbrev S64x512x1024 : Shape := ⟨3, ![64, 512, 1024]⟩
abbrev S512x1024 : Shape := ⟨2, ![512, 1024]⟩
abbrev S16384x64 : Shape := ⟨2, ![16384, 64]⟩
abbrev S_ : Shape := ⟨0, ![]⟩
abbrev S16384 : Shape := ⟨1, ![16384]⟩
abbrev S16384x1024 : Shape := ⟨2, ![16384, 1024]⟩
abbrev S16384x1x1 : Shape := ⟨3, ![16384, 1, 1]⟩
abbrev S16384x512x1024 : Shape := ⟨3, ![16384, 512, 1024]⟩

abbrev nBuf : Space → Nat
  | .hbm => 39
  | .vmem => 0
  | .smem => 0
  | _ => 0

abbrev bufTy : (tb : Table) → Fin (tcTables nBuf tb) → BufTy
  | .hbm, ⟨0, _⟩ => ⟨S16384x512, .bf16⟩
  | .hbm, ⟨1, _⟩ => ⟨S512x64, .bf16⟩
  | .hbm, ⟨2, _⟩ => ⟨S16384x1, .i32⟩
  | .hbm, ⟨3, _⟩ => ⟨S64x512x1024, .bf16⟩
  | .hbm, ⟨4, _⟩ => ⟨S512x1024, .bf16⟩
  | .hbm, ⟨5, _⟩ => ⟨S16384x512, .f32⟩
  | .hbm, ⟨6, _⟩ => ⟨S512x64, .f32⟩
  | .hbm, ⟨7, _⟩ => ⟨S16384x64, .f32⟩
  | .hbm, ⟨8, _⟩ => ⟨S_, .f32⟩
  | .hbm, ⟨9, _⟩ => ⟨S16384, .f32⟩
  | .hbm, ⟨10, _⟩ => ⟨S16384x1, .f32⟩
  | .hbm, ⟨11, _⟩ => ⟨S16384x64, .f32⟩
  | .hbm, ⟨12, _⟩ => ⟨S16384x64, .f32⟩
  | .hbm, ⟨13, _⟩ => ⟨S16384x64, .f32⟩
  | .hbm, ⟨14, _⟩ => ⟨S_, .f32⟩
  | .hbm, ⟨15, _⟩ => ⟨S16384, .f32⟩
  | .hbm, ⟨16, _⟩ => ⟨S16384x1, .f32⟩
  | .hbm, ⟨17, _⟩ => ⟨S16384x64, .f32⟩
  | .hbm, ⟨18, _⟩ => ⟨S16384x64, .f32⟩
  | .hbm, ⟨19, _⟩ => ⟨S512x1024, .f32⟩
  | .hbm, ⟨20, _⟩ => ⟨S16384x1024, .f32⟩
  | .hbm, ⟨21, _⟩ => ⟨S_, .i32⟩
  | .hbm, ⟨22, _⟩ => ⟨S16384x1, .i32⟩
  | .hbm, ⟨23, _⟩ => ⟨S16384x1, .i1⟩
  | .hbm, ⟨24, _⟩ => ⟨S_, .i32⟩
  | .hbm, ⟨25, _⟩ => ⟨S16384x1, .i32⟩
  | .hbm, ⟨26, _⟩ => ⟨S16384x1, .i32⟩
  | .hbm, ⟨27, _⟩ => ⟨S16384x1, .i32⟩
  | .hbm, ⟨28, _⟩ => ⟨S16384x1x1, .i32⟩
  | .hbm, ⟨29, _⟩ => ⟨S16384x1, .f32⟩
  | .hbm, ⟨30, _⟩ => ⟨S64x512x1024, .f32⟩
  | .hbm, ⟨31, _⟩ => ⟨S16384, .i32⟩
  | .hbm, ⟨32, _⟩ => ⟨S16384x1, .i32⟩
  | .hbm, ⟨33, _⟩ => ⟨S16384x512x1024, .f32⟩
  | .hbm, ⟨34, _⟩ => ⟨S16384x1024, .f32⟩
  | .hbm, ⟨35, _⟩ => ⟨S16384x1024, .f32⟩
  | .hbm, ⟨36, _⟩ => ⟨S16384x1024, .f32⟩
  | .hbm, ⟨37, _⟩ => ⟨S16384x1024, .f32⟩
  | .hbm, ⟨38, _⟩ => ⟨S16384x1024, .bf16⟩
  | _, _ => ⟨S16384x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_call0_c : Ref sig .tc := ⟨.hbm, 21, rfl⟩
abbrev main_call0_v0 : Ref sig .tc := ⟨.hbm, 22, rfl⟩
abbrev main_call0_v1 : Ref sig .tc := ⟨.hbm, 23, rfl⟩
abbrev main_call0_c_0 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_call0_v5 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_call1_v0 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩

abbrev nD : Nat := 1
abbrev τ : Topo := Topo.v7x

variable {F : FTy → Type} [FloatOps F]
-- ==== Proof.Offsets.lean ====
/-
The closed forms of the offsets, device numbers and conditions the kernel computes.  A device is an element of
`Fin 8`, whose addition is the kernel's addition modulo 8: trip `k` of a loop on device `c` speaks of device
`c + k` (when it dispatches and combines) or `c - k` (when it processes what `c - k` sent).
-/
module

public import proofs.«01_k».proof.Proof.Gen.KernelIdeal
public import proofs.«01_k».proof.Proof.Gen.KernelIdeal.Skeleton

@[expose] public section

namespace Cert.MoE

open Cert.KernelIdeal Cert.KernelIdeal.Gen Idealize.ShloMosaic

/-- A trip of one of the first three loops, as the number `k` it runs at. -/
abbrev k1 (t : Fin k0_t1_loop.trips) : Fin 8 := Fin.cast (by decide) t
abbrev k2 (t : Fin k0_t2_loop.trips) : Fin 8 := Fin.cast (by decide) t
abbrev k3 (t : Fin k0_t3_loop.trips) : Fin 8 := Fin.cast (by decide) t
/-- A trip of the last loop, which starts at `k = 1`. -/
abbrev k4 (t : Fin k0_t4_loop.trips) : Fin 8 := Fin.succ (Fin.cast (by decide) t : Fin 7)
/-- The trip at which the first loop runs at `k`. -/
abbrev t1 (k : Fin 8) : Fin k0_t1_loop.trips := Fin.cast (by decide) k
abbrev t3 (k : Fin 8) : Fin k0_t3_loop.trips := Fin.cast (by decide) k

theorem k1_t1 (k : Fin 8) : k1 (t1 k) = k := rfl
theorem t1_k1 (t : Fin k0_t1_loop.trips) : t1 (k1 t) = t := rfl

theorem dev1 : ∀ c : Dev nD, k0_dev1 c = ((c + 1 : Fin 8) : ℕ) := by decide +kernel
theorem dev2 : ∀ c : Dev nD, k0_dev2 c = ((c + 2 : Fin 8) : ℕ) := by decide +kernel
theorem dev3 : ∀ c : Dev nD, k0_dev3 c = ((c + 3 : Fin 8) : ℕ) := by decide +kernel
theorem dev4 : ∀ c : Dev nD, k0_dev4 c = ((c + 4 : Fin 8) : ℕ) := by decide +kernel
theorem dev5 : ∀ c : Dev nD, k0_dev5 c = ((c + 5 : Fin 8) : ℕ) := by decide +kernel
theorem dev6 : ∀ c : Dev nD, k0_dev6 c = ((c + 6 : Fin 8) : ℕ) := by decide +kernel
theorem dev7 : ∀ c : Dev nD, k0_dev7 c = ((c + 7 : Fin 8) : ℕ) := by decide +kernel

/-- The offsets of slab `s` of a stack of eight matrices, and of one cell of an array of eight semaphores. -/
abbrev o3 (s : Fin 8) : Fin 3 → ℕ := ![s.val, 0, 0]
abbrev o3r (s : Fin 8) (r : ℕ) : Fin 3 → ℕ := ![s.val, r, 0]
abbrev o1 (s : Fin 8) : Fin 1 → ℕ := ![s.val]

theorem off1 : ∀ (c : Dev nD) (t : Fin k0_t1_loop.trips), k0_off1 c t = o3 (c + k1 t) := by decide +kernel
theorem off2 : ∀ (t : Fin k0_t1_loop.trips), k0_off2 t = o1 (k1 t) := by decide +kernel
theorem off3 : ∀ (c : Dev nD), k0_off3 c = o1 c := by decide +kernel
theorem off4 : ∀ (c : Dev nD), k0_off4 c = o3 c := by decide +kernel
theorem off5 : ∀ (c : Dev nD) (t : Fin k0_t1_loop.trips), k0_off5 c t = o3 (c + k1 t) := by decide +kernel
theorem dev8 : ∀ (c : Dev nD) (t : Fin k0_t1_loop.trips), k0_dev8 c t = ((c + k1 t : Fin 8) : ℕ) := by decide +kernel
theorem cond1 : ∀ t : Fin k0_t1_loop.trips, k0_cond1 t = 1#1 ↔ k1 t ≠ 0 := by decide +kernel

theorem off6 : ∀ (c : Dev nD), k0_off6 c = o3 c := by decide +kernel
theorem off7 : ∀ (c : Dev nD) (t : Fin k0_t2_loop.trips), k0_off7 c t = o1 (c - k2 t) := by decide +kernel
theorem off8 : ∀ (c : Dev nD) (t : Fin k0_t2_loop.trips), k0_off8 c t = o3 (c - k2 t) := by decide +kernel
theorem off9 : ∀ (c : Dev nD) (t : Fin k0_t2_loop.trips), k0_off9 c t = o3r (c - k2 t) 0 := by decide +kernel
theorem off10 : ∀ (c : Dev nD) (t : Fin k0_t2_loop.trips), k0_off10 c t = o3r (c - k2 t) 0 := by decide +kernel
theorem off11 : ∀ (c : Dev nD) (t : Fin k0_t2_loop.trips), k0_off11 c t = o3r (c - k2 t) 64 := by decide +kernel
theorem off12 : ∀ (c : Dev nD) (t : Fin k0_t2_loop.trips), k0_off12 c t = o3r (c - k2 t) 64 := by decide +kernel
theorem off13 : ∀ (c : Dev nD) (t : Fin k0_t2_loop.trips), k0_off13 c t = o3r (c - k2 t) 128 := by decide +kernel
theorem off14 : ∀ (c : Dev nD) (t : Fin k0_t2_loop.trips), k0_off14 c t = o3r (c - k2 t) 128 := by decide +kernel
theorem off15 : ∀ (c : Dev nD) (t : Fin k0_t2_loop.trips), k0_off15 c t = o3r (c - k2 t) 192 := by decide +kernel
theorem off16 : ∀ (c : Dev nD) (t : Fin k0_t2_loop.trips), k0_off16 c t = o3r (c - k2 t) 192 := by decide +kernel
theorem off17 : ∀ (c : Dev nD) (t : Fin k0_t2_loop.trips), k0_off17 c t = o3r (c - k2 t) 256 := by decide +kernel
theorem off18 : ∀ (c : Dev nD) (t : Fin k0_t2_loop.trips), k0_off18 c t = o3r (c - k2 t) 256 := by decide +kernel
theorem off19 : ∀ (c : Dev nD) (t : Fin k0_t2_loop.trips), k0_off19 c t = o3r (c - k2 t) 320 := by decide +kernel
theorem off20 : ∀ (c : Dev nD) (t : Fin k0_t2_loop.trips), k0_off20 c t = o3r (c - k2 t) 320 := by decide +kernel
theorem off21 : ∀ (c : Dev nD) (t : Fin k0_t2_loop.trips), k0_off21 c t = o3r (c - k2 t) 384 := by decide +kernel
theorem off22 : ∀ (c : Dev nD) (t : Fin k0_t2_loop.trips), k0_off22 c t = o3r (c - k2 t) 384 := by decide +kernel
theorem off23 : ∀ (c : Dev nD) (t : Fin k0_t2_loop.trips), k0_off23 c t = o3r (c - k2 t) 448 := by decide +kernel
theorem off24 : ∀ (c : Dev nD) (t : Fin k0_t2_loop.trips), k0_off24 c t = o3r (c - k2 t) 448 := by decide +kernel
theorem off25 : ∀ (c : Dev nD), k0_off25 c = o3 c := by decide +kernel
theorem off26 : ∀ (t : Fin k0_t2_loop.trips), k0_off26 t = o1 (k2 t) := by decide +kernel
theorem off27 : ∀ (c : Dev nD), k0_off27 c = o1 c := by decide +kernel
theorem off28 : ∀ (c : Dev nD), k0_off28 c = o3 c := by decide +kernel
theorem off29 : ∀ (c : Dev nD) (t : Fin k0_t2_loop.trips), k0_off29 c t = o3 (c - k2 t) := by decide +kernel
theorem dev9 : ∀ (c : Dev nD) (t : Fin k0_t2_loop.trips), k0_dev9 c t = ((c - k2 t : Fin 8) : ℕ) := by decide +kernel
theorem cond2 : ∀ t : Fin k0_t2_loop.trips, k0_cond2 t = 1#1 ↔ k2 t = 0 := by decide +kernel
theorem cond3 : ∀ t : Fin k0_t2_loop.trips, k0_cond3 t = 1#1 ↔ k2 t ≠ 0 := by decide +kernel
theorem cond4 : ∀ t : Fin k0_t2_loop.trips, k0_cond4 t = 1#1 ↔ k2 t = 0 := by decide +kernel
theorem cond5 : ∀ t : Fin k0_t2_loop.trips, k0_cond5 t = 1#1 ↔ k2 t ≠ 0 := by decide +kernel

theorem off30 : ∀ (c : Dev nD) (t : Fin k0_t3_loop.trips), k0_off30 c t = o1 (c + k3 t) := by decide +kernel
theorem off31 : ∀ (c : Dev nD) (t : Fin k0_t3_loop.trips), k0_off31 c t = o3 (c + k3 t) := by decide +kernel
theorem off32 : ∀ (c : Dev nD) (t : Fin k0_t3_loop.trips), k0_off32 c t = o3 (c + k3 t) := by decide +kernel
theorem cond6 : ∀ t : Fin k0_t3_loop.trips, k0_cond6 t = 1#1 ↔ k3 t ≠ 0 := by decide +kernel

theorem off33 : ∀ (t : Fin k0_t4_loop.trips), k0_off33 t = o1 (k4 t) := by decide +kernel
theorem off34 : ∀ (c : Dev nD) (t : Fin k0_t4_loop.trips), k0_off34 c t = o3 (c + k4 t) := by decide +kernel
theorem off35 : ∀ (c : Dev nD) (t : Fin k0_t4_loop.trips), k0_off35 c t = o3 (c + k4 t) := by decide +kernel

end Cert.MoE

end
-- ==== Proof.Slab.lean ====
/-
Slabs.  The kernel's exchange buffers are stacks of eight matrices; it loads, stores and sends one matrix of a
stack (a slab), or some rows of one.  Here: the indices of a slab, and what a rectangle of a stack, with or
without its leading axis squeezed away, reads and writes.
-/
module

public import Idealize.ShloMosaic.Lib.Pipeline.Kit
public import Idealize.ShloMosaic.Lib.Tactic

@[expose] public section

namespace Cert.MoE

open Idealize.ShloMosaic

/-- The stack's shape, its slabs' shape, and the rows of a slab as the kernel addresses them. -/
abbrev Stk (a b : ℕ) : Shape := ⟨3, ![8, a, b]⟩
abbrev One (a b : ℕ) : Shape := ⟨3, ![1, a, b]⟩
abbrev Mat (a b : ℕ) : Shape := ⟨2, ![a, b]⟩

variable {a b : ℕ}

/-- Entry `x` of slab `s`. -/
abbrev at3 (s : Fin 8) (x : (Mat a b).Idx) : (Stk a b).Idx := Fin.cons (α := fun j => Fin ((Stk a b).size j)) s x
/-- The only slab's entry `x`. -/
abbrev at1 (x : (Mat a b).Idx) : (One a b).Idx := Fin.cons (α := fun j => Fin ((One a b).size j)) (0 : Fin 1) x
/-- The row and column of an entry of a stack, and of a stack of one. -/
abbrev tl (i : (Stk a b).Idx) : (Mat a b).Idx := fun j => i j.succ
abbrev tl1 (i : (One a b).Idx) : (Mat a b).Idx := fun j => i j.succ
/-- Which slab an entry is in. -/
abbrev hd (i : (Stk a b).Idx) : Fin 8 := i 0

theorem at3_hd_tl (i : (Stk a b).Idx) : at3 (hd i) (tl i) = i := Fin.cons_self_tail (α := fun j => Fin ((Stk a b).size j)) i
theorem at1_tl1 (i : (One a b).Idx) : at1 (tl1 i) = i := by
  refine Eq.trans ?_ (Fin.cons_self_tail (α := fun j => Fin ((One a b).size j)) i)
  have : i 0 = (0 : Fin 1) := Subsingleton.elim (α := Fin 1) _ _
  rw [this]; rfl
theorem tl_at3 (s : Fin 8) (x : (Mat a b).Idx) : tl (at3 s x) = x := rfl
theorem hd_at3 (s : Fin 8) (x : (Mat a b).Idx) : hd (at3 s x) = s := rfl
theorem tl1_at1 (x : (Mat a b).Idx) : tl1 (at1 x) = x := rfl

/-- Slab `s`'s entries. -/
def slab (a b : ℕ) (s : Fin 8) : Finset (Stk a b).Idx := Finset.univ.filter fun i => hd i = s

theorem mem_slab {s : Fin 8} {i : (Stk a b).Idx} : i ∈ slab a b s ↔ hd i = s := by simp [slab]
theorem at3_mem_slab (s : Fin 8) (x : (Mat a b).Idx) : at3 s x ∈ slab a b s := mem_slab.mpr rfl

theorem slab_disjoint {s s' : Fin 8} (h : s ≠ s') : Disjoint (slab a b s) (slab a b s') := by
  rw [Finset.disjoint_left]; intro i h1 h2; exact h ((mem_slab.mp h1).symm.trans (mem_slab.mp h2))
theorem slab_cover : (Finset.univ : Finset (Fin 8)).biUnion (slab a b) = Finset.univ := by
  ext i; simp [mem_slab]

/-- The rectangle of slab `s`: where its entries sit. -/
theorem unit_emb {s : Fin 8} {off : Fin 3 → ℕ} (hoff : off = ![s.val, 0, 0])
    (inb : ∀ j, off j + (One a b).size j ≤ (Stk a b).size j) (y : (One a b).Idx) :
    (Rect.unit (s := Stk a b) off (One a b).size inb).emb y = at3 s (tl1 y) := by
  subst hoff
  funext j
  refine Fin.ext ?_
  have h0 : ((y 0 : Fin 1) : ℕ) = 0 := by exact Nat.lt_one_iff.mp (y 0 : Fin 1).isLt
  refine Fin.cases ?_ (fun j => ?_) j
  · show s.val + 1 * ((y 0 : Fin 1) : ℕ) = s.val; rw [h0]; rfl
  · refine Fin.cases ?_ (fun j => ?_) j
    · show 0 + 1 * ((y 1 : Fin _) : ℕ) = ((y 1 : Fin _) : ℕ); omega
    · have : j = 0 := Subsingleton.elim _ _
      subst this
      show 0 + 1 * ((y 2 : Fin _) : ℕ) = ((y 2 : Fin _) : ℕ); omega

theorem unit_set {s : Fin 8} {off : Fin 3 → ℕ} (hoff : off = ![s.val, 0, 0])
    (inb : ∀ j, off j + (One a b).size j ≤ (Stk a b).size j) :
    (Rect.unit (s := Stk a b) off (One a b).size inb).set = slab a b s := by
  rw [← Rect.map_emb_univ]
  ext i
  simp only [Finset.mem_map, Finset.mem_univ, true_and, unit_emb hoff, mem_slab]
  constructor
  · rintro ⟨y, rfl⟩; rfl
  · intro h; exact ⟨at1 (tl i), by rw [tl1_at1, ← h, at3_hd_tl]⟩

section View

variable {sig : RefSig} {κ : Kind} {sp : Space} {e : EltTy} {Val : EltTy → Type} (v : View sig κ sp (Stk a b) e)

/-- The slab's view, as a load or a store goes through it. -/
theorem slice_set {s : Fin 8} {off : Fin 3 → ℕ} (hoff : off = ![s.val, 0, 0])
    (inb : ∀ j, off j + (One a b).size j ≤ (Stk a b).size j) :
    (v.slice (Rect.unit (s := Stk a b) off (One a b).size inb)).set = v.setOn (slab a b s) := by
  rw [View.set_slice, unit_set hoff]; rfl

theorem slice_read {s : Fin 8} {off : Fin 3 → ℕ} (hoff : off = ![s.val, 0, 0])
    (inb : ∀ j, off j + (One a b).size j ≤ (Stk a b).size j) (f : v.ty.Contents Val) (y : (One a b).Idx) :
    (v.slice (Rect.unit (s := Stk a b) off (One a b).size inb)).read Val f y = v.read Val f (at3 s (tl1 y)) := by
  rw [← unit_emb hoff inb y]; rfl

/-- The slab's view with its leading axis squeezed away, as a transfer goes through it. -/
theorem squeeze_emb {s : Fin 8} {off : Fin 3 → ℕ} (hoff : off = ![s.val, 0, 0])
    (inb : ∀ j, off j + (One a b).size j ≤ (Stk a b).size j) (h : (Mat a b).numel = (One a b).numel) (x : (Mat a b).Idx) :
    ((v.slice (Rect.unit (s := Stk a b) off (One a b).size inb)).reshape (Mat a b) h).emb x = v.emb (at3 s x) := by
  show v.emb ((Rect.unit (s := Stk a b) off (One a b).size inb).emb (Shape.reshapeEquiv h x)) = _
  rw [unit_emb hoff]
  have : Shape.reshapeEquiv h x = at1 x := Shape.reshapeEquiv_cons_one h x
  rw [this]; rfl

theorem squeeze_set {s : Fin 8} {off : Fin 3 → ℕ} (hoff : off = ![s.val, 0, 0])
    (inb : ∀ j, off j + (One a b).size j ≤ (Stk a b).size j) (h : (Mat a b).numel = (One a b).numel) :
    ((v.slice (Rect.unit (s := Stk a b) off (One a b).size inb)).reshape (Mat a b) h).set = v.setOn (slab a b s) := by
  ext i
  simp only [View.set, View.setOn, Finset.mem_map, Finset.mem_univ, true_and]
  constructor
  · rintro ⟨x, rfl⟩; exact ⟨at3 s x, at3_mem_slab s x, (squeeze_emb v hoff inb h x).symm⟩
  · rintro ⟨i, hi, rfl⟩; exact ⟨tl i, by rw [squeeze_emb v hoff, ← mem_slab.mp hi, at3_hd_tl]⟩

theorem squeeze_read {s : Fin 8} {off : Fin 3 → ℕ} (hoff : off = ![s.val, 0, 0])
    (inb : ∀ j, off j + (One a b).size j ≤ (Stk a b).size j) (h : (Mat a b).numel = (One a b).numel)
    (f : v.ty.Contents Val) (x : (Mat a b).Idx) :
    ((v.slice (Rect.unit (s := Stk a b) off (One a b).size inb)).reshape (Mat a b) h).read Val f x = v.read Val f (at3 s x) := by
  rw [View.read_apply, View.read_apply, ← squeeze_emb v hoff inb h x]

/-- A store of rows `r`, …, `r + h - 1` of slab `s`: where the rows above it hold `T` already and what is stored is
    `T`'s rows, one block of rows more holds `T`. -/
theorem rows_write {s : Fin 8} {r h : ℕ} {off : Fin 3 → ℕ} (hoff : off = ![s.val, r, 0])
    (inb : ∀ j, off j + (One h b).size j ≤ (Stk a b).size j)
    (f : v.ty.Contents Val) (w : (One h b).Idx → Val e) (T f0 : (Stk a b).Idx → Val e)
    (hf : ∀ i ∈ slab a b s, v.read Val f i = if (i 1).val < r then T i else f0 i)
    (hw : ∀ (y : (One h b).Idx) (i : (Stk a b).Idx), hd i = s → (i 1).val = r + (y 1).val → (i 2).val = (y 2).val → w y = T i) :
    ∀ i ∈ slab a b s, v.read Val ((v.slice (Rect.unit (s := Stk a b) off (One h b).size inb)).write Val f w Finset.univ) i
      = if (i 1).val < r + h then T i else f0 i := by
  subst hoff
  intro i hi
  by_cases hm : i ∈ (Rect.unit (s := Stk a b) ![s.val, r, 0] (One h b).size inb).set
  · have hm' := hm
    rw [← Rect.map_emb_univ, Finset.mem_map] at hm'
    obtain ⟨y, -, rfl⟩ := hm'
    have h1 : (((Rect.unit (s := Stk a b) ![s.val, r, 0] (One h b).size inb).emb y) 1).val = r + (y 1).val := by
      show r + 1 * (y 1).val = _; omega
    have h2 : (((Rect.unit (s := Stk a b) ![s.val, r, 0] (One h b).size inb).emb y) 2).val = (y 2).val := by
      show 0 + 1 * (y 2).val = _; omega
    have hlt : (y 1).val < h := (y 1).isLt
    rw [View.read_apply]
    have := View.write_emb_of_mem (v := v.slice (Rect.unit (s := Stk a b) ![s.val, r, 0] (One h b).size inb)) (Val := Val) f w (Finset.mem_univ y)
    rw [show v.emb ((Rect.unit (s := Stk a b) ![s.val, r, 0] (One h b).size inb).emb y)
        = (v.slice (Rect.unit (s := Stk a b) ![s.val, r, 0] (One h b).size inb)).emb y from rfl, this, cast_cast, cast_eq,
      if_pos (by rw [h1]; omega)]
    exact hw y _ (mem_slab.mp hi) h1 h2
  · have hn : v.emb i ∉ (v.slice (Rect.unit (s := Stk a b) ![s.val, r, 0] (One h b).size inb)).setOn Finset.univ := by
      rw [View.setOn_univ, View.set_slice]; exact fun hx => hm ((Finset.mem_map' v.emb).mp hx)
    rw [View.read_apply, View.write_of_not_mem _ _ _ hn, ← View.read_apply, hf i hi]
    have : ¬ (r ≤ (i 1).val ∧ (i 1).val < r + h) := by
      intro hr
      refine hm ?_
      rw [← Rect.map_emb_univ, Finset.mem_map]
      refine ⟨at1 (Shape.pair (d := ![h, b]) (⟨(i 1).val - r, by omega⟩ : Fin h) (i 2 : Fin b)), Finset.mem_univ _, ?_⟩
      funext j
      refine Fin.ext ?_
      refine Fin.cases ?_ (fun j => ?_) j
      · show s.val + 1 * 0 = (hd i).val; rw [mem_slab.mp hi]; rfl
      · refine Fin.cases ?_ (fun j => ?_) j
        · show r + 1 * ((i 1).val - r) = (i 1).val; omega
        · have : j = 0 := Subsingleton.elim _ _
          subst this
          show 0 + 1 * (i 2).val = (i 2).val; omega
    by_cases h1 : (i 1).val < r
    · rw [if_pos h1, if_pos (by omega)]
    · rw [if_neg h1, if_neg (by omega)]

end View

/-! ### Whole stacks -/

section Whole

variable {sig : RefSig} {κ : Kind} {e : EltTy} {Val : EltTy → Type}

/-- What a store of `w` through a view leaves where the view reads index `x`. -/
theorem write_at {sp : Space} {sh : Shape} (v : View sig κ sp sh e) (f : v.ty.Contents Val) (w : sh.Idx → Val e) (i : v.ty.Idx) (x : sh.Idx)
    (h : v.emb x = i) : v.write Val f w Finset.univ i = cast (congrArg Val v.elt_eq.symm) (w x) := by
  subst h; exact View.write_emb_of_mem _ _ (Finset.mem_univ x)

end Whole

end Cert.MoE

end
-- ==== Proof.Contents.lean ====
/-
What the kernel's buffers hold, on every device, as functions of the launch memory: the staged inputs, the token
slots, the dispatched tokens, the experts' answers and the running result.
-/
module

public import proofs.«01_k».proof.Proof.Offsets
public import proofs.«01_k».proof.Proof.Slab
public import proofs.«01_k».proof.Proof.Gen.KernelIdeal.Frame
public import Idealize.ShloMosaic.Lib.Pipeline.Value

@[expose] public section

noncomputable section

namespace Cert.MoE

open Cert.KernelIdeal Cert.KernelIdeal.Gen Idealize.ShloMosaic Idealize.ShloMosaic.TcCoe Idealize.SL Idealize.SL.Sem

variable {F : FTy → Type} [FloatOps F] (m : (ℓ : Loc nD τ sig) → Buf (Elt F) ℓ)

/-- The device's own number, as the kernel computes it. -/
def v2w (c : Dev nD) : BitVec 32 := Scalar.remsi (Scalar.divsi (Dev.word c) 1#32) 8#32

/-- The staged inputs of device `c`: its tokens, the router, its tokens' experts, its experts' weights, the shared
    expert's weights. -/
def xS (c : Dev nD) : Vec F S2048x512 .bf16 := iblk m c 0 t0_0
def rS (c : Dev nD) : Vec F S512x64 .bf16 := iblk m c 1 t0_0
def iS (c : Dev nD) : Vec F S2048x1 .i32 := iblk m c 2 t0_0
def eS (c : Dev nD) : Vec F S8x512x1024 .bf16 := iblk m c 3 t0_0
def sS (c : Dev nD) : Vec F S512x1024 .bf16 := iblk m c 4 t0_0

/-- The tokens scaled by their experts' probabilities. -/
def xp (c : Dev nD) : FVec F S2048x512 .bf16 := k0_pay15 (xS m c) (rS m c) (iS m c)
/-- Which expert each token goes to, one-hot. -/
def oh (c : Dev nD) : FVec F S2048x64 .bf16 := k0_pay17 (iS m c)
/-- Row numbers of a block of 128 rows. -/
def rows : IVec S128x128 32 := iota .tc S128x128 32 [0] iota_S128x128_d0_w32

/-- The rank of a token among its device's tokens of the same expert, a block of 128 tokens at a time, as the kernel
    computes it from the one-hot matrix. -/
def rkf (v : FVec F S2048x64 .bf16) : Fin 16 → FVec F S128x1 .f32 :=
  let a44 := k0_pay18 (F := F) rows
  let a75 := k0_pay25 v
  let a76 := k0_pay26 v
  let a120 := k0_pay35 v a75 a76
  let a121 := k0_pay36 v
  let a124 := k0_pay37 v a44 a75 a76
  let a165 := k0_pay45 v a120 a121
  let a166 := k0_pay46 v
  let z : FVec F S128x64 .f32 := constant S128x64 .f32 0x00000000#32
  let a195 := k0_pay51 v a165 a166
  let a209 := k0_pay54 v
  let a240 := k0_pay61 v a195 a209
  let a252 := k0_pay64 v
  ![k0_pay21 v rows, k0_pay24 v rows, k0_pay28 (k0_pay27 v rows), k0_pay31 v a44 a75 a76, k0_pay34 v a44 a75 a76,
    k0_pay38 a121 a124, k0_pay41 v a44 a120 a121, k0_pay44 v a44 a120 a121, k0_pay47 a44 a165 a166 z,
    k0_pay50 v a44 a165 a166, k0_pay53 v a44 a165 a166, k0_pay57 v a44 a195 a209, k0_pay60 v a44 a195 a209,
    k0_pay63 v a44 a195 a209, k0_pay67 v a44 a240 a252, k0_pay68 v a44 a240 a252]

/-- A column of 2048 entries from its sixteen blocks of 128. -/
def ofBlocks (g : Fin 16 → FVec F S128x1 .f32) : FVec F S2048x1 .f32 := fun i =>
  g ⟨(i 0).val / 128, by have : (i 0).val < 2048 := (i 0).isLt; omega⟩
    (Shape.pair (d := ![128, 1]) (⟨(i 0).val % 128, Nat.mod_lt _ (by decide)⟩ : Fin 128) (0 : Fin 1))

def rankV (c : Dev nD) : FVec F S2048x1 .f32 := ofBlocks (rkf (oh m c))

/-- The slot of each token: 64 slots an expert, 512 a device. -/
def slotV (c : Dev nD) : IVec S2048x1 32 := k0_pay69 (iS m c) (rankV m c)

/-- What device `c` dispatches: slab `d` holds the scaled tokens of device `d`'s experts, each in its slot. -/
def DS (c : Dev nD) : S8x512x512.Idx → Elt F .bf16 := fun i => k0_pay1 (v2w c) (xp m c) (slotV m c) (t1 (hd i - c)) (at1 (tl i))
/-- What device `c` receives: slab `s` holds what `s` dispatched to `c`. -/
def DR (c : Dev nD) : S8x512x512.Idx → Elt F .bf16 := fun i => DS m (hd i) (at3 c (tl i))

/-- The rows of slab `s` in front of local expert `j`, and the expert's weights. -/
def drRows (c : Dev nD) (s : Fin 8) (j : Fin 8) : Vec F S1x64x512 .bf16 := fun y =>
  DR m c (at3 s (Shape.pair (d := ![512, 512]) (⟨64 * j.val + (y 1).val, by have : (y 1).val < 64 := (y 1).isLt; omega⟩ : Fin 512) (y 2 : Fin 512)))
def ewSlab (c : Dev nD) (j : Fin 8) : Vec F S1x512x1024 .bf16 := fun y => eS m c (at3 j (tl1 y))

/-- The experts' answers: slab `s` holds the products of what `s` dispatched with device `c`'s experts' weights. -/
def RS (c : Dev nD) : S8x512x1024.Idx → Elt F .bf16 := fun i =>
  k0_pay5 (drRows m c (hd i) ⟨(i 1).val / 64, by have : (i 1).val < 512 := (i 1).isLt; omega⟩)
    (ewSlab m c ⟨(i 1).val / 64, by have : (i 1).val < 512 := (i 1).isLt; omega⟩)
    (at1 (Shape.pair (d := ![64, 1024]) (⟨(i 1).val % 64, Nat.mod_lt _ (by decide)⟩ : Fin 64) (i 2 : Fin 1024)))
/-- What comes back to device `c`: slab `d` holds `d`'s experts' answers to `c`. -/
def CR (c : Dev nD) : S8x512x1024.Idx → Elt F .bf16 := fun i => RS m (hd i) (at3 c (tl i))

/-- The running result after `n` devices' answers are added to the shared expert's. -/
def ACC (c : Dev nD) : ℕ → FVec F S2048x1024 .bf16
  | 0 => k0_pay16 (xS m c) (sS m c)
  | n + 1 => if h : n < 8 then k0_pay3 (v2w c) (slotV m c) (t3 ⟨n, h⟩) (fun y => CR m c (at3 (c + ⟨n, h⟩) (tl1 y))) (ACC c n) else ACC c n

theorem ACC_succ (c : Dev nD) (k : Fin 8) :
    ACC m c (k.val + 1) = k0_pay3 (v2w c) (slotV m c) (t3 k) (fun y => CR m c (at3 (c + k) (tl1 y))) (ACC m c k.val) := by
  show (if h : k.val < 8 then _ else _) = _
  rw [dif_pos k.isLt]

/-- The store of a slab back where it was read leaves it as it was. -/
theorem pay2_eq (v : Vec F S1x512x1024 .bf16) : k0_pay2 v = v := by
  unfold k0_pay2
  dsimp only
  exact shapeCast_shapeCast (s := ⟨3, _⟩) (t := ⟨2, _⟩) v _ _
theorem pay4_eq (v : Vec F S1x512x512 .bf16) : k0_pay4 v = v := by
  unfold k0_pay4
  dsimp only
  exact shapeCast_shapeCast (s := ⟨3, _⟩) (t := ⟨2, _⟩) v _ _

/-- A device's own slab travels nowhere. -/
theorem DR_self (c : Dev nD) (x : (Mat 512 512).Idx) : DR m c (at3 c x) = DS m c (at3 c x) := rfl
theorem CR_self (c : Dev nD) (x : (Mat 512 1024).Idx) : CR m c (at3 c x) = RS m c (at3 c x) := rfl

end Cert.MoE

end
-- ==== Proof.Protocol.lean ====
/-
The protocol between the eight devices: every semaphore cell of the kernel, who pays it, how much, and what the
payment hands over; what each device owes at each moment; the order in which the cells may be waited for.
-/
module

public import proofs.«01_k».proof.Proof.Contents
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.MoE

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra -/

abbrev UB : Type := URounds (GSem nD τ sig) (Fin 8)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## The cells -/

/-- The barrier semaphore of the launch. -/
abbrev barS : Sem sig := (SemArray.scalar (sig.barrier 0 rfl) : Sems sig S_).sem

/-- The kernel's own copy semaphores: for `a = 0, 1, 2, 3` the arrays that count the dispatch's sends, its landings, the
    combine's sends and its landings. -/
def dq (a : Fin 4) (k : Fin 8) : DmaSem sig := (⟨6 + 8 * a.val + k.val, by have := a.isLt; have := k.isLt; omega⟩ : Fin 38)

/-- The cells of a device that its kernel uses. -/
abbrev CI : Type := Unit ⊕ (Fin 4 × Fin 8)

abbrev csem : CI → SemLoc sig
  | .inl _ => .reg barS
  | .inr (a, k) => .dma (dq a k)

/-- Which cell a semaphore is. -/
def kind : SemLoc sig → Option CI
  | .reg _ => some (.inl ())
  | .dma q => if h : 6 ≤ q.val then some (.inr (⟨(q.val - 6) / 8, by have : q.val < 38 := q.isLt; omega⟩, ⟨(q.val - 6) % 8, Nat.mod_lt _ (by decide)⟩)) else none

theorem kind_csem (i : CI) : kind (csem i) = some i := by
  rcases i with _ | ⟨a, k⟩
  · rfl
  · show (if h : 6 ≤ 6 + 8 * a.val + k.val then _ else _) = _
    rw [dif_pos (by omega)]
    have ha := a.isLt
    have hk := k.isLt
    refine congrArg some (congrArg Sum.inr (Prod.ext (Fin.ext ?_) (Fin.ext ?_)))
    · show (6 + 8 * a.val + k.val - 6) / 8 = a.val
      omega
    · show (6 + 8 * a.val + k.val - 6) % 8 = k.val
      omega

abbrev cell (c : Dev nD) (i : CI) : GSem nD τ sig := ((c : Thread nD τ), csem i)
abbrev barCell (c : Dev nD) : GSem nD τ sig := cell c (.inl ())
abbrev dcell (c : Dev nD) (a : Fin 4) (k : Fin 8) : GSem nD τ sig := cell c (.inr (a, k))

abbrev kcell (ck : Dev nD × CI) : GSem nD τ sig := cell ck.1 ck.2

theorem csem_injective : Function.Injective csem := fun i j h => by
  have := congrArg kind h
  rw [kind_csem, kind_csem] at this
  exact Option.some.inj this

theorem kcell_injective : Function.Injective kcell := by
  rintro ⟨c, i⟩ ⟨c', i'⟩ h
  have h1 : c = c' := congrArg (fun g : GSem nD τ sig => g.1.1) h
  exact Prod.ext h1 (csem_injective (congrArg Prod.snd h))

/-- A landing of a slab of dispatched tokens, and of a slab of answers, counts this much. -/
def N1 : ℕ := (((Memref.whole cc0_scratch1).slice (Rect.unit (s := S8x512x512) ![0, 0, 0] S1x512x512.size (by decide)) (fun _ => rfl)).squeeze S512x512 squeezes_S1x512x512_S512x512).view.dmaCredit
def N2 : ℕ := (((Memref.whole cc0_scratch3).slice (Rect.unit (s := S8x512x1024) ![0, 0, 0] S1x512x1024.size (by decide)) (fun _ => rfl)).squeeze S512x1024 squeezes_S1x512x1024_S512x1024).view.dmaCredit

theorem N1_pos : 0 < N1 := View.dmaCredit_pos _ (by decide)
theorem N2_pos : 0 < N2 := View.dmaCredit_pos _ (by decide)

/-! ## The slabs -/

/-- Slab `s` of the dispatch's send buffer, its landing buffer, the answers and their landing buffer. -/
abbrev P6 (c : Dev nD) (s : Fin 8) (f : S8x512x512.Idx → Elt F .bf16) : sProp 𝕄 := ((c : Thread nD τ).loc cc0_scratch0) ↦[slab 512 512 s]{fullShare} f
abbrev P7 (c : Dev nD) (s : Fin 8) (f : S8x512x512.Idx → Elt F .bf16) : sProp 𝕄 := ((c : Thread nD τ).loc cc0_scratch1) ↦[slab 512 512 s]{fullShare} f
abbrev P8 (c : Dev nD) (s : Fin 8) (f : S8x512x1024.Idx → Elt F .bf16) : sProp 𝕄 := ((c : Thread nD τ).loc cc0_scratch2) ↦[slab 512 1024 s]{fullShare} f
abbrev P9 (c : Dev nD) (s : Fin 8) (f : S8x512x1024.Idx → Elt F .bf16) : sProp 𝕄 := ((c : Thread nD τ).loc cc0_scratch3) ↦[slab 512 1024 s]{fullShare} f

/-! ## The schedule: one round -/

/-- The payments of a cell of device `c`. A barrier cell is paid once by each other device, duty `k` by the device `k` before
    `c`; the copy cell of a device's own slab is never paid, any other once. -/
def dutyOf (c : Fin 8) : CI → Finset (Fin 8)
  | .inl _ => Finset.univ.erase 0
  | .inr (a, k) => if k = (if a.val % 2 = 0 then 0 else c) then ∅ else {0}

def amtOf : CI → ℕ
  | .inl _ => 1
  | .inr (a, _) => if a.val < 2 then N1 else N2

/-- What a payment hands over. A barrier signal: the signaller's slabs into which the signalled device will copy. A landing:
    the slab that landed; a completed send: the slab that was sent. -/
def payOf (c : Fin 8) : CI → Fin 8 → sProp 𝕄
  | .inl _, d => iprop((∃ f, P7 (c - d) c f) ∗ (∃ f, P9 (c - d) c f))
  | .inr (a, k), _ => match a with
    | 0 => P6 c (c + k) (DS m c)
    | 1 => P7 c k (DR m c)
    | 2 => P8 c (c - k) (RS m c)
    | 3 => P9 c k (CR m c)

omit [FloatOps F] in
theorem amtOf_pos (i : CI) : 0 < amtOf i := by
  rcases i with _ | ⟨a, k⟩
  · exact Nat.one_pos
  · unfold amtOf; dsimp only; split
    · exact N1_pos
    · exact N2_pos

instance payOf_storable (c : Fin 8) (i : CI) (d : Fin 8) : BI.Storable (upEmb : UEmb _ 𝕄) (payOf m c i d) := by
  rcases i with _ | ⟨a, k⟩
  · unfold payOf; infer_instance
  · fin_cases a <;> (unfold payOf; dsimp only; infer_instance)

def Rd : Rounds.Schedule (GSem nD τ sig) (Fin 8) 𝕄 where
  duties g r := if r = 0 ∧ g.1.2 = .tc then (kind g.2).elim ∅ (dutyOf g.1.1) else ∅
  unitless _ := False
  amount g _ _ := (kind g.2).elim 1 amtOf
  payload g _ d := (kind g.2).elim iprop(emp) fun i => payOf m g.1.1 i d
  amount_pos g _ _ _ := by
    cases kind g.2 with
    | none => exact Nat.one_pos
    | some i => exact amtOf_pos i

instance Rd_payload_storable (g : GSem nD τ sig) (r : ℕ) (d : Fin 8) : BI.Storable (upEmb : UEmb _ 𝕄) ((Rd m).payload g r d) := by
  show BI.Storable upEmb ((kind g.2).elim iprop(emp) fun i => payOf m g.1.1 i d)
  cases kind g.2 with
  | none => show BI.Storable upEmb iprop(emp); infer_instance
  | some i => exact payOf_storable m g.1.1 i d

theorem duties_eq (c : Dev nD) (i : CI) : (Rd m).duties (cell c i) 0 = dutyOf c i := by
  have h : ((0 : ℕ) = 0 ∧ (cell c i).1.2 = .tc) := ⟨rfl, rfl⟩
  dsimp only [Rd]
  rw [if_pos h, kind_csem]; rfl
theorem amount_eq (c : Dev nD) (i : CI) (d : Fin 8) : (Rd m).amount (cell c i) 0 d = amtOf i := by
  show (kind (csem i)).elim 1 amtOf = _
  rw [kind_csem]; rfl
theorem payload_eq (c : Dev nD) (i : CI) (d : Fin 8) : (Rd m).payload (cell c i) 0 d = payOf m c i d := by
  show ((kind (csem i)).elim iprop(emp) fun i => payOf m c i d) = _
  rw [kind_csem]; rfl
theorem duties_later (g : GSem nD τ sig) (r : ℕ) (hr : 1 ≤ r) : (Rd m).duties g r = ∅ := if_neg fun h => by omega
/-- A cell no one pays may be closed at once. -/
theorem duties_none (c : Dev nD) (i : CI) (h : dutyOf c i = ∅) (r : ℕ) (_ : 0 ≤ r) : (Rd m).duties (cell c i) r = ∅ := by
  rcases r with _ | r
  · rw [duties_eq, h]
  · exact duties_later m _ _ (by omega)

theorem duty_even {a : Fin 4} (ha : a.val % 2 = 0) (c k : Fin 8) (hk : k ≠ 0) : dutyOf c (.inr (a, k)) = {0} := by
  unfold dutyOf; dsimp only; rw [if_pos ha, if_neg hk]
theorem duty_odd {a : Fin 4} (ha : a.val % 2 ≠ 0) (c s : Fin 8) (hs : s ≠ c) : dutyOf c (.inr (a, s)) = {0} := by
  unfold dutyOf; dsimp only; rw [if_neg ha, if_neg hs]

theorem expect_bar (c : Dev nD) : (Rd m).expect (barCell c) 0 = 7 := by
  unfold Schedule.expect Schedule.amountOf
  rw [duties_eq, Finset.sum_congr rfl fun d _ => amount_eq m c (.inl ()) d]
  show ∑ d ∈ (Finset.univ : Finset (Fin 8)).erase 0, 1 = 7
  decide
theorem expect_copy (c : Dev nD) (a : Fin 4) (k : Fin 8) (h : dutyOf c (.inr (a, k)) = {0}) :
    (Rd m).expect (dcell c a k) 0 = if a.val < 2 then N1 else N2 := by
  unfold Schedule.expect Schedule.amountOf
  rw [duties_eq, h, Finset.sum_singleton, amount_eq]; rfl
theorem rest_copy (c : Dev nD) (a : Fin 4) (k : Fin 8) (h : dutyOf c (.inr (a, k)) = {0}) :
    bigSep ((Rd m).duties (dcell c a k) 0 \ ∅) (fun d => (Rd m).payload (dcell c a k) 0 d) = payOf m c (.inr (a, k)) 0 := by
  rw [Finset.sdiff_empty, duties_eq, h, bigSep_singleton, payload_eq]
theorem rest_bar (c : Dev nD) :
    bigSep ((Rd m).duties (barCell c) 0 \ ∅) (fun d => (Rd m).payload (barCell c) 0 d)
      = bigSep (Finset.univ.erase 0) fun d => iprop((∃ f, P7 (F := F) (c - d) c f) ∗ (∃ f, P9 (F := F) (c - d) c f)) := by
  rw [Finset.sdiff_empty, duties_eq]
  exact bigSep_congr fun d _ => payload_eq m c (.inl ()) d

/-! ## What a device owes -/

/-- What is still to be paid of one payment of `N` to each cell `g k`, `k = 1, …, 7`, in order, before the `t`-th. -/
def owe (g : Fin 8 → GSem nD τ sig) (N : ℕ) (t : ℕ) : CellTallies nD τ sig Unit :=
  ∑ k ∈ Finset.univ.filter (fun k : Fin 8 => k ≠ 0 ∧ t ≤ k.val), tallyAt (g k) () N

theorem owe_zero (g : Fin 8 → GSem nD τ sig) (N : ℕ) : owe g N 0 = owe g N 1 := by
  unfold owe
  refine Finset.sum_congr (Finset.ext fun k => ?_) fun _ _ => rfl
  simp only [Finset.mem_filter, Finset.mem_univ, true_and]
  constructor
  · rintro ⟨h, -⟩; exact ⟨h, Nat.one_le_iff_ne_zero.mpr fun h' => h (Fin.ext h')⟩
  · rintro ⟨h, -⟩; exact ⟨h, Nat.zero_le _⟩

theorem owe_step (g : Fin 8 → GSem nD τ sig) (N : ℕ) (k : Fin 8) (hk : k ≠ 0) :
    owe g N k.val = owe g N (k.val + 1) + tallyAt (g k) () N := by
  unfold owe
  rw [show (Finset.univ.filter fun j : Fin 8 => j ≠ 0 ∧ k.val ≤ j.val) = insert k (Finset.univ.filter fun j : Fin 8 => j ≠ 0 ∧ k.val + 1 ≤ j.val) from ?_,
    Finset.sum_insert (by simp), add_comm]
  ext j
  simp only [Finset.mem_filter, Finset.mem_univ, true_and, Finset.mem_insert]
  constructor
  · rintro ⟨h, h'⟩
    rcases Nat.eq_or_lt_of_le h' with h'' | h''
    · exact .inl (Fin.ext h''.symm)
    · exact .inr ⟨h, h''⟩
  · rintro (rfl | ⟨h, h'⟩)
    · exact ⟨hk, Nat.le_refl _⟩
    · exact ⟨h, by omega⟩

theorem owe_end (g : Fin 8 → GSem nD τ sig) (N : ℕ) : owe g N 8 = 0 := by
  unfold owe
  rw [Finset.filter_false_of_mem (fun k _ h => by have := k.isLt; omega), Finset.sum_empty]

theorem owe_pos {g : Fin 8 → GSem nD τ sig} {N t : ℕ} {h : GSem nD τ sig} {u : Unit} (hp : 0 < owe g N t h u) : ∃ k, k ≠ 0 ∧ h = g k := by
  unfold owe at hp
  rw [Finset.sum_apply, Finsupp.finset_sum_apply] at hp
  obtain ⟨k, hk, hne⟩ := Finset.exists_ne_zero_of_sum_ne_zero (Nat.pos_iff_ne_zero.mp hp)
  rw [tallyAt_apply] at hne
  by_cases hh : h = g k ∧ u = ()
  · exact ⟨k, (Finset.mem_filter.mp hk).2.1, hh.1⟩
  · rw [if_neg hh] at hne; exact absurd rfl hne

/-- The barrier units, the dispatched slabs and the answers device `c` still owes. -/
abbrev oweB (c : Dev nD) (t : ℕ) : CellTallies nD τ sig Unit := owe (fun k => barCell (c + k)) 1 t
abbrev oweD (c : Dev nD) (t : ℕ) : CellTallies nD τ sig Unit := owe (fun k => dcell (c + k) 1 c) N1 t
abbrev oweC (c : Dev nD) (t : ℕ) : CellTallies nD τ sig Unit := owe (fun k => dcell (c - k) 3 c) N2 t

theorem oweB_zero (c : Dev nD) : oweB c 0 = oweB c 1 := owe_zero _ _
theorem oweB_step (c : Dev nD) (k : Fin 8) (hk : k ≠ 0) : oweB c k.val = oweB c (k.val + 1) + tallyAt (barCell (c + k)) () 1 := owe_step _ _ k hk
theorem oweB_end (c : Dev nD) : oweB c 8 = 0 := owe_end _ _
theorem oweD_zero (c : Dev nD) : oweD c 0 = oweD c 1 := owe_zero _ _
theorem oweD_step (c : Dev nD) (k : Fin 8) (hk : k ≠ 0) : oweD c k.val = oweD c (k.val + 1) + tallyAt (dcell (c + k) 1 c) () N1 := owe_step _ _ k hk
theorem oweD_end (c : Dev nD) : oweD c 8 = 0 := owe_end _ _
theorem oweC_zero (c : Dev nD) : oweC c 0 = oweC c 1 := owe_zero _ _
theorem oweC_step (c : Dev nD) (k : Fin 8) (hk : k ≠ 0) : oweC c k.val = oweC c (k.val + 1) + tallyAt (dcell (c - k) 3 c) () N2 := owe_step _ _ k hk
theorem oweC_end (c : Dev nD) : oweC c 8 = 0 := owe_end _ _

def O₀ (c : Dev nD) : CellTallies nD τ sig Unit := oweC c 0 + oweD c 0 + oweB c 0

/-! ## The levels -/

def L (g : GSem nD τ sig) : Finset Unit := if g.1.2 = .tc then {()} else ∅
def lvk : Option CI → ℕ
  | some (.inl _) => 1
  | some (.inr (1, _)) => 2
  | some (.inr (3, _)) => 3
  | _ => 0
/-- Barrier cells at 1, the dispatch's landings at 2, the answers' landings at 3, everything else at 0. -/
def lv (g : GSem nD τ sig) (_ : Unit) : ℕ := lvk (kind g.2)

theorem L_of_ne (g : GSem nD τ sig) (h : g.1.2 ≠ .tc) : L g = ∅ := if_neg h
theorem L_tc (c : Dev nD) (sm : SemLoc sig) : L ((c : Thread nD τ), sm) = {()} := if_pos rfl

theorem lv_cell (c : Dev nD) (i : CI) (u : Unit) : lv (cell c i) u = lvk (some i) := by unfold lv; rw [kind_csem]

/-- A device may wait for a cell below every cell it still owes. -/
theorem mayWait_below (c : Dev nD) (sm : SemLoc sig) (O : CellTallies nD τ sig Unit) (n : ℕ) (hsm : lvk (kind sm) ≤ n)
    (hO : ∀ g u, 0 < O g u → ∃ c' i, g = cell c' i ∧ n < lvk (some i)) :
    (levAts L lv : sProp 𝕄) ⊢ MayWait (c : Thread nD τ) sm () O :=
  MayOwe.of_cut (L := L) (lev := lv) n
    (fun p hp => by rw [Finset.mem_singleton.mp hp, L_tc]; exact Finset.mem_singleton_self _)
    (fun g u hg => by obtain ⟨c', i, rfl, -⟩ := hO g u hg; rw [L_tc]; exact Finset.mem_singleton_self _)
    (fun p hp => by rw [Finset.mem_singleton.mp hp]; exact hsm)
    (fun g u hg => by obtain ⟨c', i, rfl, h⟩ := hO g u hg; rw [lv_cell]; exact h)

theorem add_pos_cases {O O' : CellTallies nD τ sig Unit} {g : GSem nD τ sig} {u : Unit} (h : 0 < (O + O') g u) : 0 < O g u ∨ 0 < O' g u := by
  rw [Pi.add_apply, Finsupp.add_apply] at h; omega

theorem mayWait_stage (c : Dev nD) (q : DmaSem sig) (hq : kind (.dma q) = none) (O : CellTallies nD τ sig Unit) (hO : O = O₀ c ∨ O = 0) :
    (levAts L lv : sProp 𝕄) ⊢ MayWait (c : Thread nD τ) (.dma q) () O := by
  rcases hO with rfl | rfl
  · refine mayWait_below c _ _ 0 (by rw [hq]; exact Nat.le_refl _) fun g u hg => ?_
    rcases add_pos_cases hg with hg | hg
    · rcases add_pos_cases hg with hg | hg
      · obtain ⟨k, -, rfl⟩ := owe_pos hg; exact ⟨_, _, rfl, (by show (0 : ℕ) < 3; decide)⟩
      · obtain ⟨k, -, rfl⟩ := owe_pos hg; exact ⟨_, _, rfl, (by show (0 : ℕ) < 2; decide)⟩
    · obtain ⟨k, -, rfl⟩ := owe_pos hg; exact ⟨_, _, rfl, (by show (0 : ℕ) < 1; decide)⟩
  · rw [MayWait_zero]; iintro -; iempintro

/-- At its barrier wait a device owes the dispatch's and the answers' landings. -/
theorem mayWait_bar (c : Dev nD) : (levAts L lv : sProp 𝕄) ⊢ MayWait (c : Thread nD τ) (.reg barS) () (oweC c 0 + oweD c 0) := by
  refine mayWait_below c _ _ 1 (Nat.le_refl _) fun g u hg => ?_
  rcases add_pos_cases hg with hg | hg
  · obtain ⟨k, -, rfl⟩ := owe_pos hg; exact ⟨_, _, rfl, (by show (1 : ℕ) < 3; decide)⟩
  · obtain ⟨k, -, rfl⟩ := owe_pos hg; exact ⟨_, _, rfl, (by show (1 : ℕ) < 2; decide)⟩

/-- At its wait for a dispatched slab a device owes answers only. -/
theorem mayWait_land (c : Dev nD) (s : Fin 8) (t : ℕ) : (levAts L lv : sProp 𝕄) ⊢ MayWait (c : Thread nD τ) (.dma (dq 1 s)) () (oweC c t) := by
  refine mayWait_below c _ _ 2 (by rw [show (SemLoc.dma (dq 1 s) : SemLoc sig) = csem (.inr (1, s)) from rfl, kind_csem]; exact Nat.le_refl _) fun g u hg => ?_
  obtain ⟨k, -, rfl⟩ := owe_pos hg; exact ⟨_, _, rfl, (by show (2 : ℕ) < 3; decide)⟩

/-! ## The records every device reads -/

/-- The invariants of all the cells of all the devices, and that each has reached its round. -/
def records (K : Dev nD × CI → ℕ) : sProp 𝕄 :=
  iprop((bigSep Finset.univ fun ck : Dev nD × CI => cellInv ER (Rd m) (K ck) (kcell ck))
    ∗ bigSep Finset.univ fun ck : Dev nD × CI => reached ER (kcell ck) 0)

instance records_persistent (K : Dev nD × CI → ℕ) : BI.Persistent (records m K) := by unfold records; infer_instance

theorem inv_at (K : Dev nD × CI → ℕ) (c : Dev nD) (i : CI) : records m K ⊢ cellInv ER (Rd m) (K (c, i)) (cell c i) := by
  unfold records
  exact sep_elim_left.trans (bigSep_elim (Finset.mem_univ (c, i)))
theorem reached_at (K : Dev nD × CI → ℕ) (c : Dev nD) (i : CI) : records m K ⊢ reached ER (cell c i) 0 := by
  unfold records
  exact sep_elim_right.trans (bigSep_elim (Finset.mem_univ (c, i)))

/-- A cell whose round is over, or that has none, gives its counter back at zero. -/
theorem close_at (K : Dev nD × CI → ℕ) (c : Dev nD) (i : CI) (R : ℕ) (h : ∀ r, R ≤ r → (Rd m).duties (cell c i) r = ∅) :
    iprop(records m K ∗ atPos ER (cell c i) R ∅ 0) ⊢ |={Set.univ}=> semVal (cell c i) 0 :=
  (sep_mono_left (inv_at m K c i)).trans (Rounds.cell_close ER (Rd m) (Set.mem_univ (K (c, i))) (fun h => h) (R := R) h)

end Cert.MoE

end
-- ==== Proof.Steps.lean ====
/-
One step of the kernel each: the load and the store of a slab, of a few rows of a slab, the copy of a slab to another
device and the wait for one, over the slabs' contents.
-/
module

public import proofs.«01_k».proof.Proof.Protocol
public import Idealize.ShloMosaic.Lib.VecWindow

@[expose] public section

noncomputable section

namespace Cert.MoE

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

/-! ## Loads and stores of slabs -/

section Slabs

variable {a d : ℕ} (mm : Memref sig .tc .vmem (Stk a d) .bf16) (c : Dev nD) {s : Fin 8}
  {S : Finset (Idx (mm.view.loc (c : Thread nD τ)))} (hS : mm.view.setOn (slab a d s) = S)

theorem load_slab {α : Type} {Q : α → sProp 𝕄} (hS : mm.view.setOn (slab a d s) ⊆ S) {off : Fin 3 → ℕ} (hoff : off = ![s.val, 0, 0]) (inb : ∀ j, off j + (One a d).size j ≤ (Stk a d).size j)
    {hl : mm.view.LoadsAt (Rect.unit (s := Stk a d) off (One a d).size inb).toLoadRect}
    {k : ((One a d).Idx → Elt F .bf16) → Prog (TpuEff nD τ sig (Elt F) Λ₀ .tc) α} {f : Buf (Elt F) (mm.view.loc (c : Thread nD τ))} :
    (mm.view.loc (c : Thread nD τ) ↦[S]{fullShare} f : sProp 𝕄)
      ⊢ iprop(((mm.view.loc (c : Thread nD τ) ↦[S]{fullShare} f) -∗ wp frame (wpE (defs₀ (F := F)) 𝒱₀ (c : Thread nD τ) none) Set.univ (k (fun y => mm.view.read (Elt F) f (at3 s (tl1 y)))) Q)
        -∗ wp frame (wpE (defs₀ (F := F)) 𝒱₀ (c : Thread nD τ) none) Set.univ (.op (.load mm (Rect.unit (s := Stk a d) off (One a d).size inb).toLoadRect hl) k) Q) := by
  have h := wp_load_rect (defs := defs₀ (F := F)) 𝒱₀ (c : Thread nD τ) none Set.univ (m := mm) (r := Rect.unit (s := Stk a d) off (One a d).size inb) (hl := hl) (k := k) (Q := Q)
    (S := S) (q := fullShare) (f := f) (Ix := Unit) (Name := ℕ) (U := UU) (Lvl := ℕ) (Γ := .empty)
    ((slice_set mm.view hoff inb).le.trans hS)
  rwa [show (mm.access (Rect.unit (s := Stk a d) off (One a d).size inb)).read (Elt F) f = fun y => mm.view.read (Elt F) f (at3 s (tl1 y)) from
    funext fun y => slice_read mm.view hoff inb f y] at h

include hS in
theorem store_slab {α : Type} {Q : α → sProp 𝕄} {off : Fin 3 → ℕ} (hoff : off = ![s.val, 0, 0]) (inb : ∀ j, off j + (One a d).size j ≤ (Stk a d).size j)
    {w : (One a d).Idx → Elt F .bf16} {hx : (mm.access (Rect.unit (s := Stk a d) off (One a d).size inb)).Stores Finset.univ} {hm}
    {k : PUnit → Prog (TpuEff nD τ sig (Elt F) Λ₀ .tc) α} {f g : Buf (Elt F) (mm.view.loc (c : Thread nD τ))}
    (hg : ∀ x, mm.view.read (Elt F) g (at3 s x) = w (at1 x)) :
    (mm.view.loc (c : Thread nD τ) ↦[S]{fullShare} f : sProp 𝕄)
      ⊢ iprop(((mm.view.loc (c : Thread nD τ) ↦[S]{fullShare} g) -∗ wp frame (wpE (defs₀ (F := F)) 𝒱₀ (c : Thread nD τ) none) Set.univ (k ⟨⟩) Q)
        -∗ wp frame (wpE (defs₀ (F := F)) 𝒱₀ (c : Thread nD τ) none) Set.univ (.op (.store mm (Rect.unit (s := Stk a d) off (One a d).size inb) w Finset.univ hx hm) k) Q) := by
  have h := wp_store (defs := defs₀ (F := F)) 𝒱₀ (c : Thread nD τ) none Set.univ (m := mm) (r := Rect.unit (s := Stk a d) off (One a d).size inb) (hx := hx) (hm := hm) (k := k) (Q := Q)
    (S := S) (f := f) (w := w) (Mk := Finset.univ) (Ix := Unit) (Name := ℕ) (U := UU) (Lvl := ℕ) (Γ := .empty)
    (by rw [← hS]; exact (slice_set mm.view hoff inb).le)
  refine h.trans (Entails.of_eq ?_)
  rw [pointsTo_congr (g := g) ?_]
  intro i hi
  rw [← hS] at hi
  obtain ⟨j, hj, rfl⟩ := Finset.mem_map.mp hi
  have e1 := rows_write (Val := Elt F) mm.view (r := 0) (h := a) hoff inb f w (fun i => mm.view.read (Elt F) g i) (fun i => mm.view.read (Elt F) f i)
    (fun i _ => by rw [if_neg (Nat.not_lt_zero _)])
    (fun y i h0 h1 h2 => by
      have : i = at3 s (tl1 y) := by
        funext q; refine Fin.ext ?_
        refine Fin.cases ?_ (fun q => ?_) q
        · exact congrArg Fin.val h0
        · refine Fin.cases ?_ (fun q => ?_) q
          · rw [Nat.zero_add] at h1; exact h1
          · have : q = 0 := Subsingleton.elim _ _
            subst this; exact h2
      rw [this, hg, at1_tl1]) j hj
  rw [if_pos (by have : (j 1).val < a := (j 1).isLt; omega), View.read_apply, View.read_apply] at e1
  exact (cast_bijective _).1 e1

/-- Some rows of a slab. -/
theorem load_rows {α : Type} {Q : α → sProp 𝕄} {r h : ℕ} {off : Fin 3 → ℕ} (hoff : off = ![s.val, r, 0]) (inb : ∀ j, off j + (One h d).size j ≤ (Stk a d).size j)
    (hra : r + h ≤ a)
    {hl : mm.view.LoadsAt (Rect.unit (s := Stk a d) off (One h d).size inb).toLoadRect}
    {k : ((One h d).Idx → Elt F .bf16) → Prog (TpuEff nD τ sig (Elt F) Λ₀ .tc) α} {f : Buf (Elt F) (mm.view.loc (c : Thread nD τ))}
    (hS : mm.view.setOn (slab a d s) = S) :
    (mm.view.loc (c : Thread nD τ) ↦[S]{fullShare} f : sProp 𝕄)
      ⊢ iprop(((mm.view.loc (c : Thread nD τ) ↦[S]{fullShare} f) -∗ wp frame (wpE (defs₀ (F := F)) 𝒱₀ (c : Thread nD τ) none) Set.univ (k (fun y => mm.view.read (Elt F) f
            (at3 s (Shape.pair (d := ![a, d]) (⟨r + (y 1).val, by have : (y 1).val < h := (y 1).isLt; omega⟩ : Fin a) (y 2 : Fin d))))) Q)
        -∗ wp frame (wpE (defs₀ (F := F)) 𝒱₀ (c : Thread nD τ) none) Set.univ (.op (.load mm (Rect.unit (s := Stk a d) off (One h d).size inb).toLoadRect hl) k) Q) := by
  have e (y : (One h d).Idx) : (Rect.unit (s := Stk a d) off (One h d).size inb).emb y
      = at3 s (Shape.pair (d := ![a, d]) (⟨r + (y 1).val, by have : (y 1).val < h := (y 1).isLt; omega⟩ : Fin a) (y 2 : Fin d)) := by
    subst hoff
    have h0 : ((y 0 : Fin 1) : ℕ) = 0 := by exact Nat.lt_one_iff.mp (y 0 : Fin 1).isLt
    funext j
    refine Fin.ext ?_
    refine Fin.cases ?_ (fun j => ?_) j
    · show s.val + 1 * ((y 0 : Fin 1) : ℕ) = s.val; rw [h0]; rfl
    · refine Fin.cases ?_ (fun j => ?_) j
      · show r + 1 * (y 1).val = r + (y 1).val; omega
      · have : j = 0 := Subsingleton.elim _ _
        subst this
        show 0 + 1 * (y 2).val = (y 2).val; omega
  have h' := wp_load_rect (defs := defs₀ (F := F)) 𝒱₀ (c : Thread nD τ) none Set.univ (m := mm) (r := Rect.unit (s := Stk a d) off (One h d).size inb) (hl := hl) (k := k) (Q := Q)
    (S := S) (q := fullShare) (f := f) (Ix := Unit) (Name := ℕ) (U := UU) (Lvl := ℕ) (Γ := .empty)
    (by
      rw [← hS]
      intro i hi
      rw [View.set_slice] at hi
      obtain ⟨j, hj, rfl⟩ := Finset.mem_map.mp hi
      rw [← Rect.map_emb_univ, Finset.mem_map] at hj
      obtain ⟨y, -, rfl⟩ := hj
      exact Finset.mem_map_of_mem _ (by rw [e]; exact at3_mem_slab _ _))
  rwa [show (mm.access (Rect.unit (s := Stk a d) off (One h d).size inb)).read (Elt F) f
      = fun y => mm.view.read (Elt F) f (at3 s (Shape.pair (d := ![a, d]) (⟨r + (y 1).val, by have : (y 1).val < h := (y 1).isLt; omega⟩ : Fin a) (y 2 : Fin d))) from
    funext fun y => by rw [← e y]; rfl] at h'

/-- A store of the next rows of a slab whose earlier rows hold `T`. -/
theorem store_rows {α : Type} {Q : α → sProp 𝕄} {r h : ℕ} {off : Fin 3 → ℕ} (hoff : off = ![s.val, r, 0]) (inb : ∀ j, off j + (One h d).size j ≤ (Stk a d).size j)
    {w : (One h d).Idx → Elt F .bf16} {hx : (mm.access (Rect.unit (s := Stk a d) off (One h d).size inb)).Stores Finset.univ} {hm}
    {k : PUnit → Prog (TpuEff nD τ sig (Elt F) Λ₀ .tc) α} (T : (Stk a d).Idx → Elt F .bf16)
    (hw : ∀ (y : (One h d).Idx) (i : (Stk a d).Idx), hd i = s → (i 1).val = r + (y 1).val → (i 2).val = (y 2).val → w y = T i)
    (hS : mm.view.setOn (slab a d s) = S) :
    (iprop(∃ f, ⌜∀ i ∈ slab a d s, (i 1).val < r → mm.view.read (Elt F) f i = T i⌝ ∗ (mm.view.loc (c : Thread nD τ) ↦[S]{fullShare} f)) : sProp 𝕄)
      ⊢ iprop(((∃ f, ⌜∀ i ∈ slab a d s, (i 1).val < r + h → mm.view.read (Elt F) f i = T i⌝ ∗ (mm.view.loc (c : Thread nD τ) ↦[S]{fullShare} f)) -∗ wp frame (wpE (defs₀ (F := F)) 𝒱₀ (c : Thread nD τ) none) Set.univ (k ⟨⟩) Q)
        -∗ wp frame (wpE (defs₀ (F := F)) 𝒱₀ (c : Thread nD τ) none) Set.univ (.op (.store mm (Rect.unit (s := Stk a d) off (One h d).size inb) w Finset.univ hx hm) k) Q) := by
  iintro ⟨%f, %hf, Hf⟩ Hk
  iapply (wp_store (defs := defs₀ (F := F)) 𝒱₀ (c : Thread nD τ) none Set.univ (m := mm) (r := Rect.unit (s := Stk a d) off (One h d).size inb) (hx := hx) (hm := hm) (k := k) (Q := Q)
    (S := S) (f := f) (w := w) (Mk := Finset.univ) (Ix := Unit) (Name := ℕ) (U := UU) (Lvl := ℕ) (Γ := .empty)
    (by
      rw [← hS]
      intro i hi
      rw [View.setOn_univ, View.set_slice] at hi
      obtain ⟨j, hj, rfl⟩ := Finset.mem_map.mp hi
      rw [← Rect.map_emb_univ, Finset.mem_map] at hj
      obtain ⟨y, -, rfl⟩ := hj
      refine Finset.mem_map_of_mem _ (mem_slab.mpr ?_)
      subst hoff
      have h0 : ((y 0 : Fin 1) : ℕ) = 0 := by exact Nat.lt_one_iff.mp (y 0 : Fin 1).isLt
      refine Fin.ext ?_
      show s.val + 1 * ((y 0 : Fin 1) : ℕ) = s.val; rw [h0]; rfl)) $$ Hf
  iintro Hf
  iapply Hk
  iexists _
  isplitr
  · ipureintro
    intro i hi hlt
    refine (rows_write (Val := Elt F) mm.view hoff inb f w T (fun i => mm.view.read (Elt F) f i) (fun i hi => ?_) hw i hi).trans (if_pos hlt)
    by_cases h1 : (i 1).val < r
    · rw [if_pos h1, hf i hi h1]
    · rw [if_neg h1]
  · iexact Hf

end Slabs

/-! ## Loads and stores of whole buffers and of blocks of rows -/

section Full

variable {sh : Shape} {e : EltTy} (mm : Memref sig .tc .vmem sh e) (c : Dev nD) {S : Finset (Idx (mm.view.loc (c : Thread nD τ)))}

theorem load_full {α : Type} {Q : α → sProp 𝕄} (hS : mm.view.set ⊆ S) {off : Fin sh.rank → ℕ} (inb : ∀ a, off a + sh.size a ≤ sh.size a)
    {hl : mm.view.LoadsAt (Rect.unit (s := sh) off sh.size inb).toLoadRect}
    {k : (sh.Idx → Elt F e) → Prog (TpuEff nD τ sig (Elt F) Λ₀ .tc) α} {q : PosShare TreeShare} {f : Buf (Elt F) (mm.view.loc (c : Thread nD τ))} :
    (mm.view.loc (c : Thread nD τ) ↦[S]{q} f : sProp 𝕄)
      ⊢ iprop(((mm.view.loc (c : Thread nD τ) ↦[S]{q} f) -∗ wp frame (wpE (defs₀ (F := F)) 𝒱₀ (c : Thread nD τ) none) Set.univ (k (mm.view.read (Elt F) f)) Q)
        -∗ wp frame (wpE (defs₀ (F := F)) 𝒱₀ (c : Thread nD τ) none) Set.univ (.op (.load mm (Rect.unit (s := sh) off sh.size inb).toLoadRect hl) k) Q) := by
  have h := wp_load_rect (defs := defs₀ (F := F)) 𝒱₀ (c : Thread nD τ) none Set.univ (m := mm) (r := Rect.unit (s := sh) off sh.size inb) (hl := hl) (k := k) (Q := Q)
    (S := S) (q := q) (f := f) (Ix := Unit) (Name := ℕ) (U := UU) (Lvl := ℕ) (Γ := .empty)
    (by
      rw [View.set_slice]
      exact (Finset.map_subset_map.mpr (Finset.subset_univ _)).trans hS)
  rwa [show (mm.access (Rect.unit (s := sh) off sh.size inb)).read (Elt F) f = mm.view.read (Elt F) f from
    funext fun y => congrArg (mm.view.read (Elt F) f) (Rect.emb_unit_full inb y)] at h

omit [FloatOps F] in
/-- A store through a rectangle of a memref: inside it what is stored, outside it what was there. -/
theorem read_put (r : Rect sh) (f : mm.view.ty.Contents (Elt F)) (w : r.shape.Idx → Elt F e) (y : r.shape.Idx) :
    mm.view.read (Elt F) ((mm.access r).write (Elt F) f w Finset.univ) (r.emb y) = w y :=
  congrFun (View.read_write_univ (v := mm.access r) f w) y
omit [FloatOps F] in
theorem read_keep (r : Rect sh) (f : mm.view.ty.Contents (Elt F)) (w : r.shape.Idx → Elt F e) (i : sh.Idx) (hi : ∀ y, r.emb y ≠ i) :
    mm.view.read (Elt F) ((mm.access r).write (Elt F) f w Finset.univ) i = mm.view.read (Elt F) f i := by
  have hn : mm.view.emb i ∉ (mm.view.slice r).setOn Finset.univ := by
    rw [View.setOn_univ, View.set_slice]
    intro hx
    have := (Finset.mem_map' mm.view.emb).mp hx
    rw [← Rect.map_emb_univ, Finset.mem_map] at this
    obtain ⟨y, -, hy⟩ := this
    exact hi y hy
  rw [View.read_apply, View.write_of_not_mem _ _ _ hn, ← View.read_apply]

theorem store_full {α : Type} {Q : α → sProp 𝕄} (hS : mm.view.set = S) {off : Fin sh.rank → ℕ} (inb : ∀ a, off a + sh.size a ≤ sh.size a)
    {w : sh.Idx → Elt F e} {hx : (mm.access (Rect.unit (s := sh) off sh.size inb)).Stores Finset.univ} {hm}
    {k : PUnit → Prog (TpuEff nD τ sig (Elt F) Λ₀ .tc) α} {f g : Buf (Elt F) (mm.view.loc (c : Thread nD τ))} (hg : mm.view.read (Elt F) g = w) :
    (mm.view.loc (c : Thread nD τ) ↦[S]{fullShare} f : sProp 𝕄)
      ⊢ iprop(((mm.view.loc (c : Thread nD τ) ↦[S]{fullShare} g) -∗ wp frame (wpE (defs₀ (F := F)) 𝒱₀ (c : Thread nD τ) none) Set.univ (k ⟨⟩) Q)
        -∗ wp frame (wpE (defs₀ (F := F)) 𝒱₀ (c : Thread nD τ) none) Set.univ (.op (.store mm (Rect.unit (s := sh) off sh.size inb) w Finset.univ hx hm) k) Q) := by
  have h := wp_store (defs := defs₀ (F := F)) 𝒱₀ (c : Thread nD τ) none Set.univ (m := mm) (r := Rect.unit (s := sh) off sh.size inb) (hx := hx) (hm := hm) (k := k) (Q := Q)
    (S := S) (f := f) (w := w) (Mk := Finset.univ) (Ix := Unit) (Name := ℕ) (U := UU) (Lvl := ℕ) (Γ := .empty)
    (by
      rw [View.setOn_univ, View.set_slice]
      exact (Finset.map_subset_map.mpr (Finset.subset_univ _)).trans hS.subset)
  refine h.trans (Entails.of_eq ?_)
  rw [pointsTo_congr (g := g) ?_]
  intro i hi
  rw [← hS] at hi
  obtain ⟨j, -, rfl⟩ := Finset.mem_map.mp hi
  have e1 : mm.view.read (Elt F) ((mm.access (Rect.unit (s := sh) off sh.size inb)).write (Elt F) f w Finset.univ) j = mm.view.read (Elt F) g j :=
    (congrArg (mm.view.read (Elt F) _) (Rect.emb_unit_full inb j).symm).trans ((read_put mm (Rect.unit (s := sh) off sh.size inb) f w j).trans (congrFun hg j).symm)
  rw [View.read_apply, View.read_apply] at e1
  exact (cast_bijective _).1 e1

end Full

/-- A store of the next `h` rows of a matrix whose earlier rows hold `T`. -/
theorem store_block {α : Type} {Q : α → sProp 𝕄} {a d r h : ℕ} (mm : Memref sig .tc .vmem (Mat a d) .f32) (c : Dev nD) {S : Finset (Idx (mm.view.loc (c : Thread nD τ)))} (hS : mm.view.set = S) {off : Fin 2 → ℕ} (hoff : off = ![r, 0])
    (inb : ∀ j, off j + (Mat h d).size j ≤ (Mat a d).size j)
    {w : (Mat h d).Idx → Elt F .f32} {hx : (mm.access (Rect.unit (s := Mat a d) off (Mat h d).size inb)).Stores Finset.univ} {hm}
    {k : PUnit → Prog (TpuEff nD τ sig (Elt F) Λ₀ .tc) α} (T : (Mat a d).Idx → Elt F .f32)
    (hw : ∀ (y : (Mat h d).Idx) (i : (Mat a d).Idx), (i 0).val = r + (y 0).val → (i 1).val = (y 1).val → w y = T i) :
    (iprop(∃ f, ⌜∀ i, (i 0).val < r → mm.view.read (Elt F) f i = T i⌝ ∗ (mm.view.loc (c : Thread nD τ) ↦[S]{fullShare} f)) : sProp 𝕄)
      ⊢ iprop(((∃ f, ⌜∀ i, (i 0).val < r + h → mm.view.read (Elt F) f i = T i⌝ ∗ (mm.view.loc (c : Thread nD τ) ↦[S]{fullShare} f)) -∗ wp frame (wpE (defs₀ (F := F)) 𝒱₀ (c : Thread nD τ) none) Set.univ (k ⟨⟩) Q)
        -∗ wp frame (wpE (defs₀ (F := F)) 𝒱₀ (c : Thread nD τ) none) Set.univ (.op (.store mm (Rect.unit (s := Mat a d) off (Mat h d).size inb) w Finset.univ hx hm) k) Q) := by
  subst hoff
  iintro ⟨%f, %hf, Hf⟩ Hk
  iapply (wp_store (defs := defs₀ (F := F)) 𝒱₀ (c : Thread nD τ) none Set.univ (m := mm) (r := Rect.unit (s := Mat a d) ![r, 0] (Mat h d).size inb) (hx := hx) (hm := hm) (k := k) (Q := Q)
    (S := S) (f := f) (w := w) (Mk := Finset.univ) (Ix := Unit) (Name := ℕ) (U := UU) (Lvl := ℕ) (Γ := .empty)
    (by
      rw [View.setOn_univ, View.set_slice]
      exact (Finset.map_subset_map.mpr (Finset.subset_univ _)).trans hS.subset)) $$ Hf
  iintro Hf
  iapply Hk
  iexists _
  isplitr
  · ipureintro
    intro i hlt
    have e (y : (Mat h d).Idx) : (((Rect.unit (s := Mat a d) ![r, 0] (Mat h d).size inb).emb y) 0).val = r + (y 0).val := by
      show r + 1 * (y 0).val = _; omega
    have e' (y : (Mat h d).Idx) : (((Rect.unit (s := Mat a d) ![r, 0] (Mat h d).size inb).emb y) 1).val = (y 1).val := by
      show 0 + 1 * (y 1).val = _; omega
    by_cases h1 : (i 0).val < r
    · refine (read_keep mm (Rect.unit (s := Mat a d) ![r, 0] (Mat h d).size inb) f w i fun y hy => ?_).trans (hf i h1)
      have := e y
      rw [hy] at this
      omega
    · have hi : (Rect.unit (s := Mat a d) ![r, 0] (Mat h d).size inb).emb (Shape.pair (d := ![h, d]) (⟨(i 0).val - r, by omega⟩ : Fin h) (i 1 : Fin d)) = i := by
        funext j
        refine Fin.ext ?_
        refine Fin.cases ?_ (fun j => ?_) j
        · refine (e _).trans ?_
          show r + ((i 0).val - r) = (i 0).val; omega
        · have : j = 0 := Subsingleton.elim _ _
          subst this
          exact e' _
      have := read_put mm (Rect.unit (s := Mat a d) ![r, 0] (Mat h d).size inb) f w (Shape.pair (d := ![h, d]) (⟨(i 0).val - r, by omega⟩ : Fin h) (i 1 : Fin d))
      rw [hi] at this
      refine this.trans (hw _ _ ?_ rfl)
      show (i 0).val = r + ((i 0).val - r); omega
  · iexact Hf

/-! ## The semaphores the kernel names -/

theorem sem_one (base : ℕ) (h : base + S8.numel ≤ 38) {k : Fin 8} {off : Fin 1 → ℕ} (hoff : off = o1 k) (inb : ∀ j, off j + S1.size j ≤ S8.size j) :
    (((SemArray.consecutive (n := 38) base S8 h).slice (Rect.unit (s := S8) off S1.size inb)).squeeze S_ squeezes_S1_S_).sem.val = base + k.val := by
  subst hoff
  refine congrArg (base + ·) ?_
  refine (Shape.rowMajor_val_one _).trans ?_
  have h0 (z : Fin 1) : (z : ℕ) = 0 := Nat.lt_one_iff.mp z.isLt
  exact (congrArg (fun n => k.val + 1 * n) (h0 _)).trans rfl
theorem sem11 {k : Fin 8} {off : Fin 1 → ℕ} (hoff : off = o1 k) (inb : ∀ j, off j + S1.size j ≤ S8.size j) :
    ((cc0_scratch5.slice (Rect.unit (s := S8) off S1.size inb)).squeeze S_ squeezes_S1_S_).sem = dq 0 k :=
  Fin.ext (sem_one 6 _ hoff inb)
theorem sem12 {k : Fin 8} {off : Fin 1 → ℕ} (hoff : off = o1 k) (inb : ∀ j, off j + S1.size j ≤ S8.size j) :
    ((cc0_scratch6.slice (Rect.unit (s := S8) off S1.size inb)).squeeze S_ squeezes_S1_S_).sem = dq 1 k :=
  Fin.ext (sem_one 14 _ hoff inb)
theorem sem13 {k : Fin 8} {off : Fin 1 → ℕ} (hoff : off = o1 k) (inb : ∀ j, off j + S1.size j ≤ S8.size j) :
    ((cc0_scratch7.slice (Rect.unit (s := S8) off S1.size inb)).squeeze S_ squeezes_S1_S_).sem = dq 2 k :=
  Fin.ext (sem_one 22 _ hoff inb)
theorem sem14 {k : Fin 8} {off : Fin 1 → ℕ} (hoff : off = o1 k) (inb : ∀ j, off j + S1.size j ≤ S8.size j) :
    ((cc0_scratch8.slice (Rect.unit (s := S8) off S1.size inb)).squeeze S_ squeezes_S1_S_).sem = dq 3 k :=
  Fin.ext (sem_one 30 _ hoff inb)

/-! ## Copies and waits -/

theorem ne_add : ∀ c k : Fin 8, k ≠ 0 → c ≠ c + k := by decide
theorem ne_sub : ∀ c k : Fin 8, k ≠ 0 → c ≠ c - k := by decide
theorem add_ne : ∀ c k : Fin 8, k ≠ 0 → c + k ≠ c := by decide
theorem sub_ne : ∀ c k : Fin 8, k ≠ 0 → c - k ≠ c := by decide

theorem squeeze_write {a d : ℕ} (v : View sig .tc .vmem (Stk a d) .bf16) {s : Fin 8} {off : Fin 3 → ℕ} (hoff : off = ![s.val, 0, 0])
    (inb : ∀ j, off j + (One a d).size j ≤ (Stk a d).size j) (h : (Mat a d).numel = (One a d).numel)
    (f : v.ty.Contents (Elt F)) (w : (Mat a d).Idx → Elt F .bf16) (i : (Stk a d).Idx) (hi : i ∈ slab a d s) :
    v.read (Elt F) (((v.slice (Rect.unit (s := Stk a d) off (One a d).size inb)).reshape (Mat a d) h).write (Elt F) f w Finset.univ) i = w (tl i) := by
  rw [View.read_apply, write_at ((v.slice (Rect.unit (s := Stk a d) off (One a d).size inb)).reshape (Mat a d) h) f w (v.emb i) (tl i) (by rw [squeeze_emb v hoff, ← mem_slab.mp hi, at3_hd_tl])]
  exact cast_cast _ _ _ |>.trans (cast_eq _ _)

/-- The slab of a memref as a copy names it. -/
abbrev sl6 (off : Fin 3 → ℕ) (inb : ∀ j, off j + S1x512x512.size j ≤ S8x512x512.size j) : Memref sig .tc .vmem S512x512 .bf16 :=
  ((Memref.whole cc0_scratch0).slice (Rect.unit (s := S8x512x512) off S1x512x512.size inb) (fun _ => rfl)).squeeze S512x512 squeezes_S1x512x512_S512x512
abbrev sl7 (off : Fin 3 → ℕ) (inb : ∀ j, off j + S1x512x512.size j ≤ S8x512x512.size j) : Memref sig .tc .vmem S512x512 .bf16 :=
  ((Memref.whole cc0_scratch1).slice (Rect.unit (s := S8x512x512) off S1x512x512.size inb) (fun _ => rfl)).squeeze S512x512 squeezes_S1x512x512_S512x512
abbrev sl8 (off : Fin 3 → ℕ) (inb : ∀ j, off j + S1x512x1024.size j ≤ S8x512x1024.size j) : Memref sig .tc .vmem S512x1024 .bf16 :=
  ((Memref.whole cc0_scratch2).slice (Rect.unit (s := S8x512x1024) off S1x512x1024.size inb) (fun _ => rfl)).squeeze S512x1024 squeezes_S1x512x1024_S512x1024
abbrev sl9 (off : Fin 3 → ℕ) (inb : ∀ j, off j + S1x512x1024.size j ≤ S8x512x1024.size j) : Memref sig .tc .vmem S512x1024 .bf16 :=
  ((Memref.whole cc0_scratch3).slice (Rect.unit (s := S8x512x1024) off S1x512x1024.size inb) (fun _ => rfl)).squeeze S512x1024 squeezes_S1x512x1024_S512x1024

variable (m : (ℓ : Loc nD τ sig) → Buf (Elt F) ℓ) (K : Dev nD × CI → ℕ)

set_option maxHeartbeats 1000000 in
/-- The copy of a dispatched slab to the device `k` after `c`. -/
theorem send_disp (c n : Dev nD) (k : Fin 8) (hk : k ≠ 0) (hn : n = c + k) {off5 off4 : Fin 3 → ℕ} (h5 : off5 = o3 (c + k)) (h4 : off4 = o3 c) {inb5 inb4}
    {sS sV : DmaSem sig} (hS : sS = dq 0 k) (hV : sV = dq 1 c)
    {hsc : (sl7 off4 inb4).view.ref.isScScratch = false}
    {hsrc : (sl6 off5 inb5).view.WordExact} {hdst : (sl7 off4 inb4).view.WordExact}
    {hsem : DmaTarget.Typed .vmem (.dma sV) (.remote (Dev.tc n : Thread nD τ) (sl7 off4 inb4) (.dma sS) hsc)}
    {α : Type} {Q : α → sProp 𝕄} {kk : PUnit → Prog (TpuEff nD τ sig (Elt F) Λ₀ .tc) α} (f : S8x512x512.Idx → Elt F .bf16)
    (O₀ O : CellTallies nD τ sig Unit) (hO : O₀ = O + tallyAt (dcell (c + k) 1 c) () N1) (W : Waits sig Unit) :
    iprop(records m K ∗ P6 c (c + k) (DS m c) ∗ P7 (c + k) c f ∗ owes (c : Thread nD τ) O₀ W
        ∗ dutyTok ER (dcell c 0 k) 0 0 ∗ dutyTok ER (dcell (c + k) 1 c) 0 0)
      ⊢ iprop(((cred (tallyAt (dcell c 0 k) () N1) ∗ owes (c : Thread nD τ) O W) -∗ wp frame (wpE (defs₀ (F := F)) 𝒱₀ (c : Thread nD τ) none) Set.univ (kk ⟨⟩) Q)
          -∗ wp frame (wpE (defs₀ (F := F)) 𝒱₀ (c : Thread nD τ) none) Set.univ (.op (.enqueueDma (sl6 off5 inb5) (.remote (Dev.tc n : Thread nD τ) (sl7 off4 inb4) (.dma sS) hsc) (.dma sV) hsrc hdst hsem) kk) Q) := by
  subst hn h5 h4 hS hV
  have hne : c ≠ c + k := ne_add c k hk
  have hset6 : (sl6 (o3 (c + k)) inb5).view.set = slab 512 512 (c + k) := (squeeze_set (View.whole cc0_scratch0) rfl inb5 _).trans Finset.map_refl
  have hset7 : (sl7 (o3 c) inb4).view.set = slab 512 512 c := (squeeze_set (View.whole cc0_scratch1) rfl inb4 _).trans Finset.map_refl
  iintro ⟨#HR, H6, H7, HO, Ht0, Ht1⟩ Hk
  ihave #HI0 := (inv_at m K c (.inr (0, k))) $$ HR
  ihave #HI1 := (inv_at m K (c + k) (.inr (1, c))) $$ HR
  ihave #Hr0 := (reached_at m K c (.inr (0, k))) $$ HR
  ihave #Hr1 := (reached_at m K (c + k) (.inr (1, c))) $$ HR
  iapply (Rounds.wp_send_pointsTo 𝒱₀ ER (Rd m) (c : Thread nD τ) none (c' := ((c + k : Dev nD) : Thread nD τ)) (κ₁ := K (c, .inr (0, k))) (κ₂ := K (c + k, .inr (1, c)))
    (src := sl6 (o3 (c + k)) inb5) (dst := sl7 (o3 c) inb4) (sS := .dma (dq 0 k)) (sem := .dma (dq 1 c))
    (r₁ := 0) (r₂ := 0) (d₁ := 0) (d₂ := 0) (q := fullShare) (fs := DS m c) (fd := f)
    (by rw [show ((c : Thread nD τ), SemLoc.dma (dq 0 k)) = cell c (.inr (0, k)) from rfl, duties_eq, duty_even rfl _ _ hk]; exact Finset.mem_singleton_self _)
    (by rw [show (((c + k : Dev nD) : Thread nD τ), SemLoc.dma (dq 1 c)) = cell (c + k) (.inr (1, c)) from rfl, duties_eq, duty_odd (by decide) _ _ hne]; exact Finset.mem_singleton_self _)
    () () N1 rfl (amount_eq m c (.inr (0, k)) 0) (amount_eq m (c + k) (.inr (1, c)) 0) O hO (W := W)
    (by
      rw [show (Rd m).payload ((c : Thread nD τ), SemLoc.dma (dq 0 k)) 0 0 = _ from payload_eq m c (.inr (0, k)) 0, hset6]
      exact BI.Entails.refl _)
    (by
      rw [show (Rd m).payload (((c + k : Dev nD) : Thread nD τ), SemLoc.dma (dq 1 c)) 0 0 = _ from payload_eq m (c + k) (.inr (1, c)) 0, hset7]
      refine Entails.of_eq (pointsTo_congr fun i hi => ?_)
      refine (squeeze_write (View.whole cc0_scratch1) rfl inb4 _ f _ i hi).trans ?_
      refine (squeeze_read (View.whole cc0_scratch0) rfl inb5 _ _ _).trans ?_
      show DS m c (at3 (c + k) (tl i)) = DS m (hd i) (at3 (c + k) (tl i))
      rw [mem_slab.mp hi])) $$ [H6 H7 HO Ht0 Ht1]
  · rw [hset6, hset7]
    isplitr; · iexact HI0
    isplitr; · iexact HI1
    isplitl [H6]; · iexact H6
    isplitl [H7]; · iexact H7
    isplitl [HO]; · iexact HO
    isplitl [Ht0]; · iexact Ht0
    isplitr; · iexact Hr0
    isplitl [Ht1]; · iexact Ht1
    iexact Hr1
  iexact Hk

set_option maxHeartbeats 1000000 in
/-- The copy of the answers back to the device `k` before `c`. -/
theorem send_comb (c n : Dev nD) (k : Fin 8) (hk : k ≠ 0) (hn : n = c - k) {off5 off4 : Fin 3 → ℕ} (h5 : off5 = o3 (c - k)) (h4 : off4 = o3 c) {inb5 inb4}
    {sS sV : DmaSem sig} (hS : sS = dq 2 k) (hV : sV = dq 3 c)
    {hsc : (sl9 off4 inb4).view.ref.isScScratch = false}
    {hsrc : (sl8 off5 inb5).view.WordExact} {hdst : (sl9 off4 inb4).view.WordExact}
    {hsem : DmaTarget.Typed .vmem (.dma sV) (.remote (Dev.tc n : Thread nD τ) (sl9 off4 inb4) (.dma sS) hsc)}
    {α : Type} {Q : α → sProp 𝕄} {kk : PUnit → Prog (TpuEff nD τ sig (Elt F) Λ₀ .tc) α} (f : S8x512x1024.Idx → Elt F .bf16)
    (O₀ O : CellTallies nD τ sig Unit) (hO : O₀ = O + tallyAt (dcell (c - k) 3 c) () N2) (W : Waits sig Unit) :
    iprop(records m K ∗ P8 c (c - k) (RS m c) ∗ P9 (c - k) c f ∗ owes (c : Thread nD τ) O₀ W
        ∗ dutyTok ER (dcell c 2 k) 0 0 ∗ dutyTok ER (dcell (c - k) 3 c) 0 0)
      ⊢ iprop(((cred (tallyAt (dcell c 2 k) () N2) ∗ owes (c : Thread nD τ) O W) -∗ wp frame (wpE (defs₀ (F := F)) 𝒱₀ (c : Thread nD τ) none) Set.univ (kk ⟨⟩) Q)
          -∗ wp frame (wpE (defs₀ (F := F)) 𝒱₀ (c : Thread nD τ) none) Set.univ (.op (.enqueueDma (sl8 off5 inb5) (.remote (Dev.tc n : Thread nD τ) (sl9 off4 inb4) (.dma sS) hsc) (.dma sV) hsrc hdst hsem) kk) Q) := by
  subst hn h5 h4 hS hV
  have hne : c ≠ c - k := ne_sub c k hk
  have hset8 : (sl8 (o3 (c - k)) inb5).view.set = slab 512 1024 (c - k) := (squeeze_set (View.whole cc0_scratch2) rfl inb5 _).trans Finset.map_refl
  have hset9 : (sl9 (o3 c) inb4).view.set = slab 512 1024 c := (squeeze_set (View.whole cc0_scratch3) rfl inb4 _).trans Finset.map_refl
  iintro ⟨#HR, H6, H7, HO, Ht0, Ht1⟩ Hk
  ihave #HI0 := (inv_at m K c (.inr (2, k))) $$ HR
  ihave #HI1 := (inv_at m K (c - k) (.inr (3, c))) $$ HR
  ihave #Hr0 := (reached_at m K c (.inr (2, k))) $$ HR
  ihave #Hr1 := (reached_at m K (c - k) (.inr (3, c))) $$ HR
  iapply (Rounds.wp_send_pointsTo 𝒱₀ ER (Rd m) (c : Thread nD τ) none (c' := ((c - k : Dev nD) : Thread nD τ)) (κ₁ := K (c, .inr (2, k))) (κ₂ := K (c - k, .inr (3, c)))
    (src := sl8 (o3 (c - k)) inb5) (dst := sl9 (o3 c) inb4) (sS := .dma (dq 2 k)) (sem := .dma (dq 3 c))
    (r₁ := 0) (r₂ := 0) (d₁ := 0) (d₂ := 0) (q := fullShare) (fs := RS m c) (fd := f)
    (by rw [show ((c : Thread nD τ), SemLoc.dma (dq 2 k)) = cell c (.inr (2, k)) from rfl, duties_eq, duty_even rfl _ _ hk]; exact Finset.mem_singleton_self _)
    (by rw [show (((c - k : Dev nD) : Thread nD τ), SemLoc.dma (dq 3 c)) = cell (c - k) (.inr (3, c)) from rfl, duties_eq, duty_odd (by decide) _ _ hne]; exact Finset.mem_singleton_self _)
    () () N2 rfl (amount_eq m c (.inr (2, k)) 0) (amount_eq m (c - k) (.inr (3, c)) 0) O hO (W := W)
    (by
      rw [show (Rd m).payload ((c : Thread nD τ), SemLoc.dma (dq 2 k)) 0 0 = _ from payload_eq m c (.inr (2, k)) 0, hset8]
      exact BI.Entails.refl _)
    (by
      rw [show (Rd m).payload (((c - k : Dev nD) : Thread nD τ), SemLoc.dma (dq 3 c)) 0 0 = _ from payload_eq m (c - k) (.inr (3, c)) 0, hset9]
      refine Entails.of_eq (pointsTo_congr fun i hi => ?_)
      refine (squeeze_write (View.whole cc0_scratch3) rfl inb4 _ f _ i hi).trans ?_
      refine (squeeze_read (View.whole cc0_scratch2) rfl inb5 _ _ _).trans ?_
      show RS m c (at3 (c - k) (tl i)) = RS m (hd i) (at3 (c - k) (tl i))
      rw [mem_slab.mp hi])) $$ [H6 H7 HO Ht0 Ht1]
  · rw [hset8, hset9]
    isplitr; · iexact HI0
    isplitr; · iexact HI1
    isplitl [H6]; · iexact H6
    isplitl [H7]; · iexact H7
    isplitl [HO]; · iexact HO
    isplitl [Ht0]; · iexact Ht0
    isplitr; · iexact Hr0
    isplitl [Ht1]; · iexact Ht1
    iexact Hr1
  iexact Hk

/-- The wait for a copy on one of the device's own cells: what the copy hands over, and the cell's counter at zero. -/
theorem wait_copy (c : Dev nD) (a : Fin 4) (k : Fin 8) (N : ℕ) (hN : (if a.val < 2 then N1 else N2) = N) (hd : dutyOf c (.inr (a, k)) = {0}) {sm : DmaSem sig} (hsm : sm = dq a k)
    {sp sp' : Space} {s s' : Shape} {e e' : EltTy} {src : Memref sig .tc sp' s' e'} {dst : Memref sig .tc sp s e} {hsrc : src.view.WordExact} {hdst : dst.view.WordExact}
    (hamt : dst.view.dmaCredit = N)
    {α : Type} {Q : α → sProp 𝕄} {kk : PUnit → Prog (TpuEff nD τ sig (Elt F) Λ₀ .tc) α}
    (O : CellTallies nD τ sig Unit) (W : Waits sig Unit) (hO : (levAts L lv : sProp 𝕄) ⊢ MayWait (c : Thread nD τ) (.dma (dq a k)) () O) :
    iprop(records m K ∗ levAts L lv ∗ cred (tallyAt (dcell c a k) () N) ∗ owes (c : Thread nD τ) O W ∗ atPos ER (dcell c a k) 0 ∅ 0)
      ⊢ iprop(((owes (c : Thread nD τ) O (insert (SemLoc.dma (dq a k), ()) W) ∗ semVal (dcell c a k) 0 ∗ payOf m c (.inr (a, k)) 0) -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 sm src dst hsrc hdst) kk) Q) := by
  subst hsm hamt
  iintro ⟨#HR, #Hlev, Hc, HO, Hat⟩ Hk
  ihave #HI := (inv_at m K c (.inr (a, k))) $$ HR
  iapply (Rounds.wp_wait_rest_token 𝒱₀ ER (Rd m) (c : Thread nD τ) none (κ := K (c, .inr (a, k)))
      (wpE_waitDma2_eq 𝒱₀ (c : Thread nD τ) none Set.univ) (Set.mem_univ _) () (O := O) (W := W) (R := 0) (m := 0) (T := ∅)
      (by rw [Nat.zero_add]; exact hN.symm.trans (expect_copy m c a k hd).symm)) $$ [Hc HO Hat]
  · isplitr; · iexact HI
    isplitl [Hc]; · iexact Hc
    isplitl [HO]; · iexact HO
    isplitr; · iapply hO; iexact Hlev
    iexact Hat
  iintro ⟨HO, Hat, -, Hpay⟩
  ihave Hp := (Entails.of_eq (rest_copy m c a k hd)) $$ Hpay
  imod (close_at m K c (.inr (a, k)) (0 + 1) (fun r hr => duties_later m _ r hr)) $$ [Hat] with Hz
  · isplitr; · iexact HR
    iexact Hat
  iapply Hk
  isplitl [HO]; · iexact HO
  isplitl [Hz]; · iexact Hz
  iexact Hp

/-- A program's triple in front of what follows it. -/
theorem seq {α β : Type} {c : Dev nD} {p : Prog (TpuEff nD τ sig (Elt F) Λ₀ .tc) α} {k : α → Prog (TpuEff nD τ sig (Elt F) Λ₀ .tc) β} {P : sProp 𝕄} {Q : α → sProp 𝕄} {Φ : β → sProp 𝕄}
    (h : P ⊢ wp frame (wpE (defs₀ (F := F)) 𝒱₀ (c : Thread nD τ) none) Set.univ p Q) :
    P ⊢ iprop((∀ a, Q a -∗ wp frame (wpE (defs₀ (F := F)) 𝒱₀ (c : Thread nD τ) none) Set.univ (k a) Φ)
      -∗ wp frame (wpE (defs₀ (F := F)) 𝒱₀ (c : Thread nD τ) none) Set.univ (p >>= k) Φ) := by
  rw [wp_bind]
  exact h.trans (wp_wand _ _ _)

/-! ## A loop over the eight devices -/

/-- `t` of the eight are done. -/
def upto (Todo Done : Fin 8 → sProp 𝕄) (t : ℕ) : sProp 𝕄 := bigSep Finset.univ fun k : Fin 8 => if k.val < t then Done k else Todo k

theorem upto_zero (Todo Done : Fin 8 → sProp 𝕄) : upto Todo Done 0 = bigSep Finset.univ Todo :=
  bigSep_congr fun k _ => if_neg (Nat.not_lt_zero _)
theorem upto_end (Todo Done : Fin 8 → sProp 𝕄) : upto Todo Done 8 = bigSep Finset.univ Done :=
  bigSep_congr fun k _ => if_pos k.isLt

theorem upto_step (Todo Done : Fin 8 → sProp 𝕄) (k : Fin 8) :
    upto Todo Done k.val ⊢ iprop(Todo k ∗ (Done k -∗ upto Todo Done (k.val + 1))) := by
  unfold upto
  rw [bigSep_univ_at _ k, bigSep_univ_at (fun j : Fin 8 => if j.val < k.val + 1 then Done j else Todo j) k, if_neg (Nat.lt_irrefl _), if_pos (Nat.lt_succ_self _),
    bigSep_congr (s := Finset.univ.erase k) (Ψ := fun j : Fin 8 => if j.val < k.val + 1 then Done j else Todo j) fun j hj => by
      have hne : j.val ≠ k.val := fun h => (Finset.mem_erase.mp hj).1 (Fin.ext h)
      by_cases h : j.val < k.val
      · rw [if_pos h, if_pos (by omega)]
      · rw [if_neg h, if_neg (by omega)]]
  iintro ⟨Ht, Hr⟩
  isplitl [Ht]; · iexact Ht
  iintro Hd
  isplitl [Hd] <;> iassumption

end Cert.MoE

end
-- ==== Proof.Build.lean ====
/-
The first loop of the kernel: device `c` gathers the tokens for each device `c + k` and sends them to it.
-/
module

public import proofs.«01_k».proof.Proof.Steps
public import proofs.«01_k».proof.Proof.Gen.KernelIdeal.Skeleton

@[expose] public section

noncomputable section

namespace Cert.MoE

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × CI → ℕ)

/-- What the trip for `c + k` needs: the slab it fills, and, unless that is the device's own, the slab of `c + k` it copies
    into and the right to do so. -/
def Todo1 (c k : Fin 8) : sProp 𝕄 :=
  iprop((∃ f, P6 c (c + k) f) ∗ (if k = 0 then iprop(emp) else iprop((∃ f, P7 (c + k) c f) ∗ dutyTok ER (dcell (c + k) 1 c) 0 0 ∗ dutyTok ER (dcell c 0 k) 0 0)))
/-- What it leaves: the device's own slab, filled, or the credit of the copy under way. -/
def Done1 (c k : Fin 8) : sProp 𝕄 :=
  if k = 0 then P6 c c (DS m c) else cred (tallyAt (dcell c 0 k) () N1)

abbrev body1 (c : Dev nD) (t : Fin k0_t1_loop.trips) : Prog (TpuEff nD τ sig (Elt F) Λ₀ .tc) Unit :=
  k0_t1_body (Memref.whole cc0_stg0_0) (Memref.isWhole_whole _) (Memref.whole cc0_stg1_0) (Memref.isWhole_whole _) (Memref.whole cc0_stg2_0) (Memref.isWhole_whole _)
    (Memref.whole cc0_stg3_0) (Memref.isWhole_whole _) (Memref.whole cc0_stg4_0) (Memref.isWhole_whole _) (Memref.whole cc0_stg5_0) (Memref.isWhole_whole _)
    (Memref.whole cc0_scratch0) (Memref.isWhole_whole _) (Memref.whole cc0_scratch1) (Memref.isWhole_whole _) (Memref.whole cc0_scratch2) (Memref.isWhole_whole _)
    (Memref.whole cc0_scratch3) (Memref.isWhole_whole _) (Memref.whole cc0_scratch4) (Memref.isWhole_whole _) cc0_scratch5 cc0_scratch6 cc0_scratch7 cc0_scratch8
    c (v2w c) (xp m c) (slotV m c) t ()

theorem DS_slab (c : Dev nD) (t : Fin k0_t1_loop.trips) (x : (Mat 512 512).Idx) :
    DS m c (at3 (c + k1 t) x) = k0_pay1 (v2w c) (xp m c) (slotV m c) t (at1 x) := by
  show k0_pay1 (v2w c) (xp m c) (slotV m c) (t1 (c + k1 t - c)) (at1 x) = _
  rw [show (c + k1 t - c : Fin 8) = k1 t from by generalize k1 t = k; revert k; revert c; decide, t1_k1]

theorem trip1 (c : Dev nD) (t : Fin k0_t1_loop.trips) :
    iprop(records m K ∗ Todo1 c (k1 t) ∗ ∃ W, owes (c : Thread nD τ) (oweC c 0 + oweD c (k1 t).val) W)
      ⊢ wp frame (wpE (defs₀ (F := F)) 𝒱₀ (c : Thread nD τ) none) Set.univ (body1 m c t) fun _ => iprop(Done1 m c (k1 t) ∗ ∃ W, owes (c : Thread nD τ) (oweC c 0 + oweD c ((k1 t).val + 1)) W) := by
  unfold body1 k0_t1_body Todo1 Done1
  simp only [Prog.lift, Prog.bind_op, Prog.bind_ret, Prog.pure_eq_ret]
  by_cases hk : k1 t = 0
  · have hc : ¬ k0_cond1 t = 1#1 := fun h => (cond1 t).mp h hk
    have h0 : c + k1 t = c := by rw [hk]; revert c; decide
    simp only [dif_neg hc, if_pos hk]
    rw [show (k1 t).val = 0 from congrArg Fin.val hk, oweD_zero]
    iintro ⟨#HR, ⟨⟨%f, H6⟩, Hrest⟩, ⟨%W, HO⟩⟩
    iapply (load_slab (Memref.whole cc0_scratch0) c (S := slab 512 512 (c + k1 t)) Finset.map_refl.subset (off1 c t) (k0_off1_inb c t)) $$ H6
    iintro H6
    iapply (store_slab (Memref.whole cc0_scratch0) c (S := slab 512 512 (c + k1 t)) Finset.map_refl (off1 c t) (k0_off1_inb c t) (g := DS m c) (DS_slab m c t)) $$ H6
    iintro H6
    rw [wp_ret, h0]; imodintro
    isplitl [H6]; · iexact H6
    iexists W
    iexact HO
  · have hc : k0_cond1 t = 1#1 := (cond1 t).mpr hk
    simp only [dif_pos hc, if_neg hk]
    iintro ⟨#HR, ⟨⟨%f, H6⟩, Hrest⟩, ⟨%W, HO⟩⟩
    iapply (load_slab (Memref.whole cc0_scratch0) c (S := slab 512 512 (c + k1 t)) Finset.map_refl.subset (off1 c t) (k0_off1_inb c t)) $$ H6
    iintro H6
    iapply (store_slab (Memref.whole cc0_scratch0) c (S := slab 512 512 (c + k1 t)) Finset.map_refl (off1 c t) (k0_off1_inb c t) (g := DS m c) (DS_slab m c t)) $$ H6
    iintro H6
    icases Hrest with ⟨⟨%g, H7⟩, Ht1, Ht0⟩
    iapply (send_disp m K c _ (k1 t) hk (Fin.ext (dev8 c t)) (off5 c t) (off4 c) (sem11 (off2 t) _) (sem12 (off3 c) _) g
      (oweC c 0 + oweD c (k1 t).val) (oweC c 0 + oweD c ((k1 t).val + 1)) (by rw [oweD_step c _ hk, add_assoc]) W) $$ [H6 H7 HO Ht0 Ht1]
    · isplitr; · iexact HR
      isplitl [H6]; · iexact H6
      isplitl [H7]; · iexact H7
      isplitl [HO]; · iexact HO
      isplitl [Ht0] <;> iassumption
    iintro ⟨Hc, HO⟩
    rw [wp_ret]; imodintro
    isplitl [Hc]; · iexact Hc
    iexists W
    iexact HO

end Cert.MoE

end
-- ==== Proof.Process.lean ====
/-
The second loop of the kernel: device `c` takes the slab that `c - k` dispatched to it, multiplies each expert's rows by
the expert's weights, and sends the answers back.
-/
module

public import proofs.«01_k».proof.Proof.Steps
public import proofs.«01_k».proof.Proof.Gen.KernelIdeal.Skeleton

@[expose] public section

noncomputable section

namespace Cert.MoE

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × CI → ℕ)

/-- The staged weights of the device's experts. -/
abbrev PE (c : Dev nD) : sProp 𝕄 := ((c : Thread nD τ).loc cc0_stg3_0) ↦[Finset.univ]{fullShare} (eS m c)

/-- The answers to `s`, of which the first `r` rows are there. -/
def Rows (c : Dev nD) (s : Fin 8) (r : ℕ) : sProp 𝕄 :=
  iprop(∃ f, ⌜∀ i ∈ slab 512 1024 s, (i 1).val < r → (Memref.whole cc0_scratch2).view.read (Elt F) f i = RS m c i⌝
    ∗ ((Memref.whole cc0_scratch2).view.loc (c : Thread nD τ) ↦[slab 512 1024 s]{fullShare} f))

theorem rows_zero (c : Dev nD) (s : Fin 8) : iprop(∃ f, P8 (F := F) c s f) ⊢ Rows m c s 0 := by
  unfold Rows
  iintro ⟨%f, H⟩
  iexists f
  isplitr
  · ipureintro; exact fun i _ h => absurd h (Nat.not_lt_zero _)
  · iexact H

theorem rows_all (c : Dev nD) (s : Fin 8) : Rows m c s 512 ⊢ P8 c s (RS m c) := by
  unfold Rows
  iintro ⟨%f, %hf, H⟩
  have h : ∀ i ∈ slab 512 1024 s, f i = RS m c i := fun i hi => hf i hi (i 1).isLt
  iapply (Entails.of_eq (pointsTo_congr h)) $$ H

/-- An entry of the answers in the rows of expert `j`. -/
theorem RS_row (c : Dev nD) (s j : Fin 8) (y : (One 64 1024).Idx) (i : (Stk 512 1024).Idx) (h0 : hd i = s) (h1 : (i 1).val = 64 * j.val + (y 1).val)
    (h2 : (i 2).val = (y 2).val) : k0_pay5 (drRows m c s j) (ewSlab m c j) y = RS m c i := by
  have hy : (y 1).val < 64 := (y 1).isLt
  have hj : (⟨(i 1).val / 64, by have : (i 1).val < 512 := (i 1).isLt; omega⟩ : Fin 8) = j := Fin.ext (by show (i 1).val / 64 = j.val; omega)
  have hx : at1 (Shape.pair (d := ![64, 1024]) (⟨(i 1).val % 64, Nat.mod_lt _ (by decide)⟩ : Fin 64) (i 2 : Fin 1024)) = y := by
    rw [← at1_tl1 y]
    refine congrArg at1 ?_
    funext q
    refine Fin.ext ?_
    refine Fin.cases ?_ (fun q => ?_) q
    · show (i 1).val % 64 = (y 1).val; omega
    · have : q = 0 := Subsingleton.elim _ _
      subst this; exact h2
  unfold RS
  rw [h0, hj, hx]

/-- One expert: its rows of the slab times its weights, into its rows of the answers. -/
theorem expert (c : Dev nD) (s j : Fin 8) {o7 o8 o3' : Fin 3 → ℕ} (h7 : o7 = o3r s (64 * j.val)) (h8 : o8 = o3r s (64 * j.val)) (h3 : o3' = o3 j)
    {inb7 : ∀ q, o7 q + S1x64x512.size q ≤ S8x512x512.size q} {inb8 : ∀ q, o8 q + S1x64x1024.size q ≤ S8x512x1024.size q} {inb3 : ∀ q, o3' q + S1x512x1024.size q ≤ S8x512x1024.size q}
    {hl7 hl3 hl8} {hx} {hm} {pay : Vec F S1x64x512 .bf16 → Vec F S1x512x1024 .bf16 → FVec F S1x64x1024 .bf16} (hp : pay = k0_pay5)
    {α : Type} {Q : α → sProp 𝕄} {kk : PUnit → Prog (TpuEff nD τ sig (Elt F) Λ₀ .tc) α} :
    iprop(P7 c s (DR m c) ∗ PE m c ∗ Rows m c s (64 * j.val))
      ⊢ iprop(((P7 c s (DR m c) ∗ PE m c ∗ Rows m c s (64 * j.val + 64)) -∗ wp frame (wpE (defs₀ (F := F)) 𝒱₀ (c : Thread nD τ) none) Set.univ (kk ⟨⟩) Q)
          -∗ wp frame (wpE (defs₀ (F := F)) 𝒱₀ (c : Thread nD τ) none) Set.univ
            (.op (.load (Memref.whole cc0_scratch1) (Rect.unit (s := S8x512x512) o7 S1x64x512.size inb7).toLoadRect hl7) fun v =>
              .op (.load (Memref.whole cc0_stg3_0) (Rect.unit (s := S8x512x1024) o3' S1x512x1024.size inb3).toLoadRect hl3) fun w =>
              .op (.load (Memref.whole cc0_scratch2) (Rect.unit (s := S8x512x1024) o8 S1x64x1024.size inb8).toLoadRect hl8) fun _ =>
              .op (.store (Memref.whole cc0_scratch2) (Rect.unit (s := S8x512x1024) o8 S1x64x1024.size inb8) (pay v w) Finset.univ hx hm) kk) Q) := by
  subst hp
  have hr : 64 * j.val + 64 ≤ 512 := by have := j.isLt; omega
  iintro ⟨H7, HE, HR⟩ Hk
  iapply (load_rows (Memref.whole cc0_scratch1) c (S := slab 512 512 s) h7 inb7 hr Finset.map_refl) $$ H7
  iintro H7
  iapply (load_slab (Memref.whole cc0_stg3_0) c (S := Finset.univ) (Finset.subset_univ _) h3 inb3) $$ HE
  iintro HE
  unfold Rows
  icases HR with ⟨%f, %hf, H8⟩
  iapply (load_rows (Memref.whole cc0_scratch2) c (S := slab 512 1024 s) h8 inb8 hr Finset.map_refl) $$ H8
  iintro H8
  iapply (store_rows (Memref.whole cc0_scratch2) c (S := slab 512 1024 s) h8 inb8 (RS m c) (RS_row m c s j) Finset.map_refl) $$ [H8]
  · iexists f
    isplitr
    · ipureintro; exact hf
    · iexact H8
  iintro H8
  iapply Hk
  isplitl [H7]; · iexact H7
  isplitl [HE]; · iexact HE
  iexact H8

/-- What the trip for `c - k` needs: the slab it fills with answers, the place where the dispatched tokens land and,
    unless that is the device's own, the credit of that landing, the slab of `c - k` that the answers go to and the right
    to send them. -/
def Todo2 (c k : Fin 8) : sProp 𝕄 :=
  iprop((∃ f, P8 c (c - k) f) ∗ atPos ER (dcell c 1 (c - k)) 0 ∅ 0
    ∗ (if k = 0 then iprop((∃ f, P7 c c f) ∗ (∃ f, P9 c c f) ∗ P6 c c (DS m c))
       else iprop(cred (tallyAt (dcell c 1 (c - k)) () N1) ∗ (∃ f, P9 (c - k) c f) ∗ dutyTok ER (dcell (c - k) 3 c) 0 0 ∗ dutyTok ER (dcell c 2 k) 0 0)))
/-- What it leaves: the landing slab and its counter at zero; the answers where they belong, or the credit of the copy under way. -/
def Done2 (c k : Fin 8) : sProp 𝕄 :=
  iprop((∃ f, P7 c (c - k) f) ∗ semVal (dcell c 1 (c - k)) 0
    ∗ (if k = 0 then iprop((∃ f, P6 c c f) ∗ P9 c c (CR m c) ∗ (∃ f, P8 c c f)) else cred (tallyAt (dcell c 2 k) () N2)))

abbrev body2 (c : Dev nD) (t : Fin k0_t2_loop.trips) : Prog (TpuEff nD τ sig (Elt F) Λ₀ .tc) Unit :=
  k0_t2_body (Memref.whole cc0_stg0_0) (Memref.isWhole_whole _) (Memref.whole cc0_stg1_0) (Memref.isWhole_whole _) (Memref.whole cc0_stg2_0) (Memref.isWhole_whole _)
    (Memref.whole cc0_stg3_0) (Memref.isWhole_whole _) (Memref.whole cc0_stg4_0) (Memref.isWhole_whole _) (Memref.whole cc0_stg5_0) (Memref.isWhole_whole _)
    (Memref.whole cc0_scratch0) (Memref.isWhole_whole _) (Memref.whole cc0_scratch1) (Memref.isWhole_whole _) (Memref.whole cc0_scratch2) (Memref.isWhole_whole _)
    (Memref.whole cc0_scratch3) (Memref.isWhole_whole _) (Memref.whole cc0_scratch4) (Memref.isWhole_whole _) cc0_scratch5 cc0_scratch6 cc0_scratch7 cc0_scratch8
    c (v2w c) t ()

theorem sub_none : ∀ c : Fin 8, c - 0 = c := by decide

/-- The device's own slab, where it lands and where it was. -/
theorem keep_disp (c : Dev nD) (x : (Mat 512 512).Idx) : (Memref.whole cc0_scratch1).view.read (Elt F) (DR m c) (at3 c x)
    = k0_pay4 (fun y => (Memref.whole cc0_scratch0).view.read (Elt F) (DS m c) (at3 c (tl1 y))) (at1 x) := by
  rw [pay4_eq]
  show DR m c (at3 c x) = DS m c (at3 c (tl1 (at1 x)))
  rw [tl1_at1]
  exact DR_self m c x
theorem keep_comb (c : Dev nD) (x : (Mat 512 1024).Idx) : (Memref.whole cc0_scratch3).view.read (Elt F) (CR m c) (at3 c x)
    = k0_pay2 (fun y => (Memref.whole cc0_scratch2).view.read (Elt F) (RS m c) (at3 c (tl1 y))) (at1 x) := by
  rw [pay2_eq]
  show CR m c (at3 c x) = RS m c (at3 c (tl1 (at1 x)))
  rw [tl1_at1]
  exact CR_self m c x
theorem own_none (c : Fin 8) : dutyOf c (.inr (1, c)) = ∅ := by
  unfold dutyOf
  exact if_pos (if_neg (show ¬ (1 : Fin 4).val % 2 = 0 by decide)).symm

/-- The tokens of `c - k` are there, and the first two experts' rows are done. -/
theorem part1_run (c : Dev nD) (t : Fin k0_t2_loop.trips) (v2 a b : BitVec 32) (O : CellTallies nD τ sig Unit) (hO : O = oweC c (k2 t).val) :
    iprop(records m K ∗ levAts L lv ∗ PE m c ∗ (∃ f, P8 c (c - k2 t) f) ∗ atPos ER (dcell c 1 (c - k2 t)) 0 ∅ 0
        ∗ (if k2 t = 0 then iprop((∃ f, P7 c c f) ∗ P6 c c (DS m c)) else cred (tallyAt (dcell c 1 (c - k2 t)) () N1)) ∗ ∃ W, owes (c : Thread nD τ) O W)
      ⊢ wp frame (wpE (defs₀ (F := F)) 𝒱₀ (c : Thread nD τ) none) Set.univ
      (k0_part1 (Memref.whole cc0_stg0_0) (Memref.isWhole_whole _) (Memref.whole cc0_stg1_0) (Memref.isWhole_whole _) (Memref.whole cc0_stg2_0) (Memref.isWhole_whole _)
        (Memref.whole cc0_stg3_0) (Memref.isWhole_whole _) (Memref.whole cc0_stg4_0) (Memref.isWhole_whole _) (Memref.whole cc0_stg5_0) (Memref.isWhole_whole _)
        (Memref.whole cc0_scratch0) (Memref.isWhole_whole _) (Memref.whole cc0_scratch1) (Memref.isWhole_whole _) (Memref.whole cc0_scratch2) (Memref.isWhole_whole _)
        (Memref.whole cc0_scratch3) (Memref.isWhole_whole _) (Memref.whole cc0_scratch4) (Memref.isWhole_whole _) cc0_scratch5 cc0_scratch6 cc0_scratch7 cc0_scratch8 c v2 a b t)
      fun _ => iprop((P7 c (c - k2 t) (DR m c) ∗ PE m c ∗ Rows m c (c - k2 t) (64 * (2 : Fin 8).val)) ∗ semVal (dcell c 1 (c - k2 t)) 0 ∗ (if k2 t = 0 then P6 c c (DS m c) else iprop(emp)) ∗ ∃ W, owes (c : Thread nD τ) O W) := by
  rw [k0_part1_eq_skeleton]
  unfold k0_part1_skel
  by_cases hk : k2 t = 0
  · have hc2 : k0_cond2 t = 1#1 := (cond2 t).mpr hk
    have hc3 : ¬ k0_cond3 t = 1#1 := fun h => (cond3 t).mp h hk
    have h0 : c - k2 t = c := by rw [hk]; exact sub_none c
    have o9 := off9 c t
    have o10 := off10 c t
    have o11 := off11 c t
    have o12 := off12 c t
    rw [h0] at o9 o10 o11 o12 ⊢
    simp only [dif_pos hc2, dif_neg hc3, if_pos hk, Prog.lift, Prog.bind_op, Prog.bind_ret, Prog.pure_eq_ret]
    iintro ⟨#HR, #Hlev, HE, H8, Hat, ⟨⟨%f7, H7⟩, H6⟩, HO⟩
    iapply (load_slab (Memref.whole cc0_scratch0) c (S := slab 512 512 c) Finset.map_refl.subset (off6 c) (k0_off6_inb c t hc2)) $$ H6
    iintro H6
    iapply (load_slab (Memref.whole cc0_scratch1) c (S := slab 512 512 c) Finset.map_refl.subset (off6 c) (k0_off6_inb c t hc2)) $$ H7
    iintro H7
    iapply (store_slab (Memref.whole cc0_scratch1) c (S := slab 512 512 c) Finset.map_refl (off6 c) (k0_off6_inb c t hc2) (g := DR m c)
      (keep_disp m c)) $$ H7
    iintro H7
    ihave HR8 := (rows_zero m c c) $$ H8
    iapply (expert m c c 0 o9 o10 rfl rfl) $$ [H7 HE HR8]
    · isplitl [H7]; · iexact H7
      isplitl [HE] <;> iassumption
    iintro H
    iapply (expert m c c 1 o11 o12 rfl rfl) $$ H
    iintro H
    rw [wp_ret]
    imod (close_at m K c (.inr (1, c)) 0 (duties_none m c _ (own_none c))) $$ [Hat] with Hz
    · isplitr; · iexact HR
      iexact Hat
    imodintro
    isplitl [H]; · iexact H
    isplitl [Hz]; · iexact Hz
    isplitl [H6] <;> iassumption
  · have hc2 : ¬ k0_cond2 t = 1#1 := fun h => hk ((cond2 t).mp h)
    have hc3 : k0_cond3 t = 1#1 := (cond3 t).mpr hk
    simp only [dif_neg hc2, dif_pos hc3, if_neg hk, Prog.lift, Prog.bind_op, Prog.bind_ret, Prog.pure_eq_ret]
    iintro ⟨#HR, #Hlev, HE, H8, Hat, Hc, ⟨%W, HO⟩⟩
    iapply (wait_copy m K c 1 (c - k2 t) N1 rfl (duty_odd (by decide) _ _ (sub_ne c (k2 t) hk)) (dst := sl7 (k0_off8 c t) (k0_off8_inb c t hc3)) (sem12 (off7 c t) _) rfl O W
      (by rw [hO]; exact mayWait_land c _ _)) $$ [Hc HO Hat]
    · isplitr; · iexact HR
      isplitr; · iexact Hlev
      isplitl [Hc]; · iexact Hc
      isplitl [HO] <;> iassumption
    iintro ⟨HO, Hz, H7⟩
    ihave H7 := (Entails.of_eq (show payOf m c (.inr (1, c - k2 t)) 0 = P7 c (c - k2 t) (DR m c) from rfl)) $$ H7
    ihave HR8 := (rows_zero m c (c - k2 t)) $$ H8
    iapply (expert m c (c - k2 t) 0 (off9 c t) (off10 c t) rfl rfl) $$ [H7 HE HR8]
    · isplitl [H7]; · iexact H7
      isplitl [HE] <;> iassumption
    iintro H
    iapply (expert m c (c - k2 t) 1 (off11 c t) (off12 c t) rfl rfl) $$ H
    iintro H
    rw [wp_ret]
    imodintro
    isplitl [H]; · iexact H
    isplitl [Hz]; · iexact Hz
    isplitr
    · iempintro
    · iexists _
      iexact HO
theorem part2_run (c : Dev nD) (t : Fin k0_t2_loop.trips) (v : BitVec 32) :
    iprop(P7 c (c - k2 t) (DR m c) ∗ PE m c ∗ Rows m c (c - k2 t) (64 * (2 : Fin 8).val)) ⊢ wp frame (wpE (defs₀ (F := F)) 𝒱₀ (c : Thread nD τ) none) Set.univ
      (k0_part2 (Memref.whole cc0_stg0_0) (Memref.isWhole_whole _) (Memref.whole cc0_stg1_0) (Memref.isWhole_whole _) (Memref.whole cc0_stg2_0) (Memref.isWhole_whole _)
        (Memref.whole cc0_stg3_0) (Memref.isWhole_whole _) (Memref.whole cc0_stg4_0) (Memref.isWhole_whole _) (Memref.whole cc0_stg5_0) (Memref.isWhole_whole _)
        (Memref.whole cc0_scratch0) (Memref.isWhole_whole _) (Memref.whole cc0_scratch1) (Memref.isWhole_whole _) (Memref.whole cc0_scratch2) (Memref.isWhole_whole _)
        (Memref.whole cc0_scratch3) (Memref.isWhole_whole _) (Memref.whole cc0_scratch4) (Memref.isWhole_whole _) cc0_scratch5 cc0_scratch6 cc0_scratch7 cc0_scratch8 c t v)
      fun _ => iprop(P7 c (c - k2 t) (DR m c) ∗ PE m c ∗ Rows m c (c - k2 t) (64 * (5 : Fin 8).val)) := by
  rw [k0_part2_eq_skeleton]
  unfold k0_part2_skel
  simp only [Prog.lift, Prog.bind_op, Prog.bind_ret, Prog.pure_eq_ret]
  iintro H
  iapply (expert m c (c - k2 t) 2 (off13 c t) (off14 c t) rfl rfl) $$ H
  iintro H
  iapply (expert m c (c - k2 t) 3 (off15 c t) (off16 c t) rfl rfl) $$ H
  iintro H
  iapply (expert m c (c - k2 t) 4 (off17 c t) (off18 c t) rfl rfl) $$ H
  iintro H
  rw [wp_ret]; imodintro
  iexact H
theorem part3_run (c : Dev nD) (t : Fin k0_t2_loop.trips) (w v : BitVec 32) :
    iprop(P7 c (c - k2 t) (DR m c) ∗ PE m c ∗ Rows m c (c - k2 t) (64 * (5 : Fin 8).val)) ⊢ wp frame (wpE (defs₀ (F := F)) 𝒱₀ (c : Thread nD τ) none) Set.univ
      (k0_part3 (Memref.whole cc0_stg0_0) (Memref.isWhole_whole _) (Memref.whole cc0_stg1_0) (Memref.isWhole_whole _) (Memref.whole cc0_stg2_0) (Memref.isWhole_whole _)
        (Memref.whole cc0_stg3_0) (Memref.isWhole_whole _) (Memref.whole cc0_stg4_0) (Memref.isWhole_whole _) (Memref.whole cc0_stg5_0) (Memref.isWhole_whole _)
        (Memref.whole cc0_scratch0) (Memref.isWhole_whole _) (Memref.whole cc0_scratch1) (Memref.isWhole_whole _) (Memref.whole cc0_scratch2) (Memref.isWhole_whole _)
        (Memref.whole cc0_scratch3) (Memref.isWhole_whole _) (Memref.whole cc0_scratch4) (Memref.isWhole_whole _) cc0_scratch5 cc0_scratch6 cc0_scratch7 cc0_scratch8 c t w v)
      fun _ => iprop(P7 c (c - k2 t) (DR m c) ∗ PE m c ∗ Rows m c (c - k2 t) 512) := by
  rw [k0_part3_eq_skeleton]
  unfold k0_part3_skel
  simp only [Prog.lift, Prog.bind_op, Prog.bind_ret, Prog.pure_eq_ret]
  iintro H
  iapply (expert m c (c - k2 t) 5 (off19 c t) (off20 c t) rfl rfl) $$ H
  iintro H
  iapply (expert m c (c - k2 t) 6 (off21 c t) (off22 c t) rfl rfl) $$ H
  iintro H
  iapply (expert m c (c - k2 t) 7 (off23 c t) (off24 c t) rfl rfl) $$ H
  iintro H
  rw [wp_ret]; imodintro
  iexact H

/-- One trip. -/
theorem trip2 (c : Dev nD) (t : Fin k0_t2_loop.trips) :
    iprop(records m K ∗ levAts L lv ∗ PE m c ∗ Todo2 m c (k2 t) ∗ ∃ W, owes (c : Thread nD τ) (oweC c (k2 t).val) W)
      ⊢ wp frame (wpE (defs₀ (F := F)) 𝒱₀ (c : Thread nD τ) none) Set.univ (body2 c t) fun _ => iprop(PE m c ∗ Done2 m c (k2 t) ∗ ∃ W, owes (c : Thread nD τ) (oweC c ((k2 t).val + 1)) W) := by
  unfold body2 k0_t2_body Todo2 Done2
  by_cases hk : k2 t = 0
  · have hc4 : k0_cond4 t = 1#1 := (cond4 t).mpr hk
    have hc5 : ¬ k0_cond5 t = 1#1 := fun h => (cond5 t).mp h hk
    have h0 : c - k2 t = c := by rw [hk]; exact sub_none c
    have hr1 := part1_run m K c t (v2w c) 0#32 1#32 _ rfl
    have hr2 := part2_run m c t
    have hr3 := part3_run m c t
    rw [h0, if_pos hk, if_pos hk] at hr1
    simp only [h0] at hr2 hr3
    rw [show oweC c ((k2 t).val + 1) = oweC c (k2 t).val by rw [show (k2 t).val = 0 from congrArg Fin.val hk, oweC_zero]]
    simp only [dif_pos hc4, dif_neg hc5, if_pos hk, h0, Prog.lift, Prog.pure_eq_ret]
    iintro ⟨#HR, #Hlev, HE, ⟨H8, Hat, H7, ⟨%f9, H9⟩, H6⟩, HO⟩
    iapply (seq hr1) $$ [HE H8 Hat H7 H6 HO]
    · isplitr; · iexact HR
      isplitr; · iexact Hlev
      isplitl [HE]; · iexact HE
      isplitl [H8]; · iexact H8
      isplitl [Hat]; · iexact Hat
      isplitl [H7 H6]
      · isplitl [H7] <;> iassumption
      iexact HO
    iintro %r ⟨H, Hz, H6, HO⟩
    iapply (seq (hr2 _)) $$ H
    iintro %r2 H
    iapply (seq (hr3 _ _)) $$ H
    iintro %r3 ⟨H7, HE, HR8⟩
    ihave H8 := (rows_all m c c) $$ HR8
    simp only [Prog.bind_op, Prog.bind_ret]
    iapply (load_slab (Memref.whole cc0_scratch2) c (S := slab 512 1024 c) Finset.map_refl.subset (off25 c) (k0_off25_inb c t hc4)) $$ H8
    iintro H8
    iapply (load_slab (Memref.whole cc0_scratch3) c (S := slab 512 1024 c) Finset.map_refl.subset (off25 c) (k0_off25_inb c t hc4)) $$ H9
    iintro H9
    iapply (store_slab (Memref.whole cc0_scratch3) c (S := slab 512 1024 c) Finset.map_refl (off25 c) (k0_off25_inb c t hc4) (g := CR m c)
      (keep_comb m c)) $$ H9
    iintro H9
    rw [wp_ret]; imodintro
    isplitl [HE]; · iexact HE
    isplitr [HO]
    · isplitl [H7]; · iexists _; iexact H7
      isplitl [Hz]; · iexact Hz
      isplitl [H6]; · iexists _; iexact H6
      isplitl [H9]; · iexact H9
      iexists _; iexact H8
    · iexact HO
  · have hc4 : ¬ k0_cond4 t = 1#1 := fun h => hk ((cond4 t).mp h)
    have hc5 : k0_cond5 t = 1#1 := (cond5 t).mpr hk
    have hr1 := part1_run m K c t (v2w c) 0#32 1#32 _ rfl
    rw [if_neg hk, if_neg hk] at hr1
    simp only [dif_neg hc4, dif_pos hc5, if_neg hk, Prog.lift, Prog.pure_eq_ret]
    iintro ⟨#HR, #Hlev, HE, ⟨H8, Hat, Hc, ⟨%f9, H9⟩, Ht3, Ht2⟩, HO⟩
    iapply (seq hr1) $$ [HE H8 Hat Hc HO]
    · isplitr; · iexact HR
      isplitr; · iexact Hlev
      isplitl [HE]; · iexact HE
      isplitl [H8]; · iexact H8
      isplitl [Hat]; · iexact Hat
      isplitl [Hc] <;> iassumption
    iintro %r ⟨H, Hz, -, ⟨%W, HO⟩⟩
    iapply (seq (part2_run m c t _)) $$ H
    iintro %r2 H
    iapply (seq (part3_run m c t _ _)) $$ H
    iintro %r3 ⟨H7, HE, HR8⟩
    ihave H8 := (rows_all m c (c - k2 t)) $$ HR8
    simp only [Prog.bind_op, Prog.bind_ret]
    iapply (send_comb m K c _ (k2 t) hk (Fin.ext (dev9 c t)) (off29 c t) (off28 c) (sem13 (off26 t) _) (sem14 (off27 c) _) f9
      (oweC c (k2 t).val) (oweC c ((k2 t).val + 1)) (oweC_step c _ hk) W) $$ [H8 H9 HO Ht2 Ht3]
    · isplitr; · iexact HR
      isplitl [H8]; · iexact H8
      isplitl [H9]; · iexact H9
      isplitl [HO]; · iexact HO
      isplitl [Ht2] <;> iassumption
    iintro ⟨Hc, HO⟩
    rw [wp_ret]; imodintro
    isplitl [HE]; · iexact HE
    isplitr [HO]
    · isplitl [H7]; · iexists _; iexact H7
      isplitl [Hz]; · iexact Hz
      iexact Hc
    · iexists _; iexact HO

end Cert.MoE

end
-- ==== Proof.Combine.lean ====
/-
The third loop of the kernel: device `c` adds the answers of `c + k`'s experts to its result.
-/
module

public import proofs.«01_k».proof.Proof.Steps
public import proofs.«01_k».proof.Proof.Gen.KernelIdeal.Skeleton

@[expose] public section

noncomputable section

namespace Cert.MoE

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × CI → ℕ)

/-- The staged result. -/
abbrev PO (c : Dev nD) (v : Vec F S2048x1024 .bf16) : sProp 𝕄 := ((c : Thread nD τ).loc cc0_stg5_0) ↦[Finset.univ]{fullShare} v

/-- What the trip for `c + k` needs, and what it leaves. -/
def Todo3 (c k : Fin 8) : sProp 𝕄 :=
  iprop(atPos ER (dcell c 3 (c + k)) 0 ∅ 0 ∗ (if k = 0 then P9 c c (CR m c) else cred (tallyAt (dcell c 3 (c + k)) () N2)))
def Done3 (c k : Fin 8) : sProp 𝕄 := iprop((∃ f, P9 (F := F) c (c + k) f) ∗ semVal (dcell c 3 (c + k)) 0)

abbrev body3 (c : Dev nD) (t : Fin k0_t3_loop.trips) : Prog (TpuEff nD τ sig (Elt F) Λ₀ .tc) Unit :=
  k0_t3_body (Memref.whole cc0_stg0_0) (Memref.isWhole_whole _) (Memref.whole cc0_stg1_0) (Memref.isWhole_whole _) (Memref.whole cc0_stg2_0) (Memref.isWhole_whole _)
    (Memref.whole cc0_stg3_0) (Memref.isWhole_whole _) (Memref.whole cc0_stg4_0) (Memref.isWhole_whole _) (Memref.whole cc0_stg5_0) (Memref.isWhole_whole _)
    (Memref.whole cc0_scratch0) (Memref.isWhole_whole _) (Memref.whole cc0_scratch1) (Memref.isWhole_whole _) (Memref.whole cc0_scratch2) (Memref.isWhole_whole _)
    (Memref.whole cc0_scratch3) (Memref.isWhole_whole _) (Memref.whole cc0_scratch4) (Memref.isWhole_whole _) cc0_scratch5 cc0_scratch6 cc0_scratch7 cc0_scratch8
    c (v2w c) (slotV m c) t ()

theorem add_none : ∀ c : Fin 8, c + 0 = c := by decide
theorem own_none3 (c : Fin 8) : dutyOf c (.inr (3, c)) = ∅ := by
  unfold dutyOf
  exact if_pos (if_neg (show ¬ (3 : Fin 4).val % 2 = 0 by decide)).symm
theorem t3_k3 (t : Fin k0_t3_loop.trips) : t3 (k3 t) = t := rfl

/-- The addition itself. -/
theorem add_answers (c : Dev nD) (t : Fin k0_t3_loop.trips) (s : Fin 8) (hs : c + k3 t = s) {inb} {hl hl' hl''} {hx} {hm}
    {α : Type} {Q : α → sProp 𝕄} {kk : PUnit → Prog (TpuEff nD τ sig (Elt F) Λ₀ .tc) α} :
    iprop(P9 c s (CR m c) ∗ PO c (ACC m c (k3 t).val))
      ⊢ iprop(((P9 c s (CR m c) ∗ PO c (ACC m c ((k3 t).val + 1))) -∗ wp frame (wpE (defs₀ (F := F)) 𝒱₀ (c : Thread nD τ) none) Set.univ (kk ⟨⟩) Q)
        -∗ wp frame (wpE (defs₀ (F := F)) 𝒱₀ (c : Thread nD τ) none) Set.univ
            (.op (.load (Memref.whole cc0_scratch3) (Rect.unit (s := S8x512x1024) (k0_off32 c t) S1x512x1024.size (k0_off32_inb c t)).toLoadRect hl) fun v =>
              .op (.load (Memref.whole cc0_stg5_0) (Rect.unit (s := S2048x1024) ![0, 0] S2048x1024.size inb).toLoadRect hl') fun w =>
              .op (.load (Memref.whole cc0_stg5_0) (Rect.unit (s := S2048x1024) ![0, 0] S2048x1024.size inb).toLoadRect hl'') fun _ =>
              .op (.store (Memref.whole cc0_stg5_0) (Rect.unit (s := S2048x1024) ![0, 0] S2048x1024.size inb) (k0_pay3 (v2w c) (slotV m c) t v w) Finset.univ hx hm) kk) Q) := by
  have ho := off32 c t
  rw [hs] at ho
  iintro ⟨H9, HO⟩ Hk
  iapply (load_slab (Memref.whole cc0_scratch3) c (S := slab 512 1024 s) Finset.map_refl.subset ho (k0_off32_inb c t)) $$ H9
  iintro H9
  iapply (load_full (Memref.whole cc0_stg5_0) c (S := Finset.univ) (Finset.subset_univ _) inb) $$ HO
  iintro HO
  iapply (load_full (Memref.whole cc0_stg5_0) c (S := Finset.univ) (Finset.subset_univ _) inb) $$ HO
  iintro HO
  iapply (store_full (Memref.whole cc0_stg5_0) c (S := Finset.univ) (View.set_whole cc0_stg5_0) inb (g := ACC m c ((k3 t).val + 1)) (by
    rw [ACC_succ, t3_k3, hs]; rfl)) $$ HO
  iintro HO
  iapply Hk
  isplitl [H9] <;> iassumption

/-- One trip. -/
theorem trip3 (c : Dev nD) (t : Fin k0_t3_loop.trips) :
    iprop(records m K ∗ levAts L lv ∗ PO c (ACC m c (k3 t).val) ∗ Todo3 m c (k3 t) ∗ ∃ W, owes (c : Thread nD τ) 0 W)
      ⊢ wp frame (wpE (defs₀ (F := F)) 𝒱₀ (c : Thread nD τ) none) Set.univ (body3 m c t) fun _ => iprop(PO c (ACC m c ((k3 t).val + 1)) ∗ Done3 (F := F) c (k3 t) ∗ ∃ W, owes (c : Thread nD τ) 0 W) := by
  unfold body3 k0_t3_body Todo3 Done3
  simp only [Prog.lift, Prog.bind_op, Prog.bind_ret, Prog.pure_eq_ret]
  by_cases hk : k3 t = 0
  · have hc : ¬ k0_cond6 t = 1#1 := fun h => (cond6 t).mp h hk
    have h0 : c + k3 t = c := by rw [hk]; exact add_none c
    simp only [dif_neg hc, if_pos hk]
    rw [h0]
    iintro ⟨#HR, #Hlev, HP, ⟨Hat, H9⟩, HO⟩
    iapply (add_answers m c t c h0) $$ [H9 HP]
    · isplitl [H9] <;> iassumption
    iintro ⟨H9, HP⟩
    rw [wp_ret]
    imod (close_at m K c (.inr (3, c)) 0 (duties_none m c _ (own_none3 c))) $$ [Hat] with Hz
    · isplitr; · iexact HR
      iexact Hat
    imodintro
    isplitl [HP]; · iexact HP
    isplitr [HO]
    · isplitl [H9]
      · iexists _; iexact H9
      · iexact Hz
    · iexact HO
  · have hc : k0_cond6 t = 1#1 := (cond6 t).mpr hk
    simp only [dif_pos hc, if_neg hk]
    iintro ⟨#HR, #Hlev, HP, ⟨Hat, Hc⟩, ⟨%W, HO⟩⟩
    iapply (wait_copy m K c 3 (c + k3 t) N2 rfl (duty_odd (by decide) _ _ (add_ne c (k3 t) hk)) (dst := sl9 (k0_off31 c t) (k0_off31_inb c t hc)) (sem14 (off30 c t) _) rfl 0 W
      (by rw [MayWait_zero]; iintro -; iempintro)) $$ [Hc HO Hat]
    · isplitr; · iexact HR
      isplitr; · iexact Hlev
      isplitl [Hc]; · iexact Hc
      isplitl [HO] <;> iassumption
    iintro ⟨HO, Hz, H9⟩
    ihave H9 := (Entails.of_eq (show payOf m c (.inr (3, c + k3 t)) 0 = P9 c (c + k3 t) (CR m c) from rfl)) $$ H9
    iapply (add_answers m c t _ rfl) $$ [H9 HP]
    · isplitl [H9] <;> iassumption
    iintro ⟨H9, HP⟩
    rw [wp_ret]
    imodintro
    isplitl [HP]; · iexact HP
    isplitr [HO]
    · isplitl [H9]
      · iexists _; iexact H9
      · iexact Hz
    · iexists _; iexact HO

end Cert.MoE

end
-- ==== Proof.Drain.lean ====
/-
The last loop of the kernel: device `c` waits for its own copies to be over.
-/
module

public import proofs.«01_k».proof.Proof.Steps
public import proofs.«01_k».proof.Proof.Gen.KernelIdeal.Skeleton

@[expose] public section

noncomputable section

namespace Cert.MoE

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × CI → ℕ)

/-- What the trip for `k` needs, and what it leaves. -/
def Todo4 (c k : Fin 8) : sProp 𝕄 :=
  iprop(atPos ER (dcell c 0 k) 0 ∅ 0 ∗ atPos ER (dcell c 2 k) 0 ∅ 0
    ∗ (if k = 0 then iprop((∃ f, P6 (F := F) c c f) ∗ (∃ f, P8 (F := F) c c f)) else iprop(cred (tallyAt (dcell c 0 k) () N1) ∗ cred (tallyAt (dcell c 2 k) () N2))))
def Done4 (c k : Fin 8) : sProp 𝕄 :=
  iprop((∃ f, P6 (F := F) c (c + k) f) ∗ (∃ f, P8 (F := F) c (c - k) f) ∗ semVal (dcell c 0 k) 0 ∗ semVal (dcell c 2 k) 0)

abbrev body4 (c : Dev nD) (t : Fin k0_t4_loop.trips) : Prog (TpuEff nD τ sig (Elt F) Λ₀ .tc) Unit :=
  k0_t4_body (Memref.whole cc0_stg0_0) (Memref.isWhole_whole _) (Memref.whole cc0_stg1_0) (Memref.isWhole_whole _) (Memref.whole cc0_stg2_0) (Memref.isWhole_whole _)
    (Memref.whole cc0_stg3_0) (Memref.isWhole_whole _) (Memref.whole cc0_stg4_0) (Memref.isWhole_whole _) (Memref.whole cc0_stg5_0) (Memref.isWhole_whole _)
    (Memref.whole cc0_scratch0) (Memref.isWhole_whole _) (Memref.whole cc0_scratch1) (Memref.isWhole_whole _) (Memref.whole cc0_scratch2) (Memref.isWhole_whole _)
    (Memref.whole cc0_scratch3) (Memref.isWhole_whole _) (Memref.whole cc0_scratch4) (Memref.isWhole_whole _) cc0_scratch5 cc0_scratch6 cc0_scratch7 cc0_scratch8
    c t ()

theorem own_none0 (c : Fin 8) : dutyOf c (.inr (0, 0)) = ∅ := by
  unfold dutyOf
  exact if_pos (if_pos (show (0 : Fin 4).val % 2 = 0 by decide)).symm
theorem own_none2 (c : Fin 8) : dutyOf c (.inr (2, 0)) = ∅ := by
  unfold dutyOf
  exact if_pos (if_pos (show (2 : Fin 4).val % 2 = 0 by decide)).symm
theorem c_add_none : ∀ c : Fin 8, c + 0 = c := by decide
theorem c_sub_none : ∀ c : Fin 8, c - 0 = c := by decide

/-- The device's own slabs are copied nowhere: nothing to wait for. -/
theorem drain_own (c : Dev nD) : iprop(records m K ∗ Todo4 (F := F) c 0) ⊢ |={Set.univ}=> Done4 (F := F) c 0 := by
  unfold Todo4 Done4
  rw [if_pos rfl, c_add_none, c_sub_none]
  iintro ⟨#HR, Ha, Hb, H6, H8⟩
  imod (close_at m K c (.inr (0, 0)) 0 (duties_none m c _ (own_none0 c))) $$ [Ha] with Hz
  · isplitr; · iexact HR
    iexact Ha
  imod (close_at m K c (.inr (2, 0)) 0 (duties_none m c _ (own_none2 c))) $$ [Hb] with Hz'
  · isplitr; · iexact HR
    iexact Hb
  imodintro
  isplitl [H6]; · iexact H6
  isplitl [H8]; · iexact H8
  isplitl [Hz] <;> iassumption

/-- One trip. -/
theorem trip4 (c : Dev nD) (t : Fin k0_t4_loop.trips) (hk : k4 t ≠ 0) :
    iprop(records m K ∗ levAts L lv ∗ Todo4 (F := F) c (k4 t) ∗ ∃ W, owes (c : Thread nD τ) 0 W)
      ⊢ wp frame (wpE (defs₀ (F := F)) 𝒱₀ (c : Thread nD τ) none) Set.univ (body4 (F := F) c t) fun _ => iprop(Done4 (F := F) c (k4 t) ∗ ∃ W, owes (c : Thread nD τ) 0 W) := by
  unfold body4 k0_t4_body Todo4 Done4
  simp only [Prog.lift, Prog.bind_op, Prog.bind_ret, Prog.pure_eq_ret, if_neg hk]
  iintro ⟨#HR, #Hlev, ⟨Ha, Hb, Hc, Hc'⟩, ⟨%W, HO⟩⟩
  iapply (wait_copy m K c 0 (k4 t) N1 rfl (duty_even rfl _ _ hk) (dst := sl6 (k0_off34 c t) (k0_off34_inb c t)) (sem11 (off33 t) _) rfl 0 W
    (by rw [MayWait_zero]; iintro -; iempintro)) $$ [Hc HO Ha]
  · isplitr; · iexact HR
    isplitr; · iexact Hlev
    isplitl [Hc]; · iexact Hc
    isplitl [HO] <;> iassumption
  iintro ⟨HO, Hz, H6⟩
  iapply (wait_copy m K c 2 (k4 t) N2 rfl (duty_even rfl _ _ hk) (dst := sl8 (k0_off35 c t) (k0_off35_inb c t)) (sem13 (off33 t) _) rfl 0 _
    (by rw [MayWait_zero]; iintro -; iempintro)) $$ [Hc' HO Hb]
  · isplitr; · iexact HR
    isplitr; · iexact Hlev
    isplitl [Hc']; · iexact Hc'
    isplitl [HO] <;> iassumption
  iintro ⟨HO, Hz', H8⟩
  ihave H6 := (Entails.of_eq (show payOf m c (.inr (0, k4 t)) 0 = P6 c (c + k4 t) (DS m c) from rfl)) $$ H6
  ihave H8 := (Entails.of_eq (show payOf m c (.inr (2, k4 t)) 0 = P8 c (c - k4 t) (RS m c) from rfl)) $$ H8
  rw [wp_ret]
  imodintro
  isplitr [HO]
  · isplitl [H6]; · iexists _; iexact H6
    isplitl [H8]; · iexists _; iexact H8
    isplitl [Hz] <;> iassumption
  · iexists _; iexact HO

end Cert.MoE

end
-- ==== Proof.Loops.lean ====
/-
The four loops of the kernel: each run of a trip is one device's share of a bundle over the eight devices, and between the
loops the bundle is split anew.
-/
module

public import proofs.«01_k».proof.Proof.Build
public import proofs.«01_k».proof.Proof.Process
public import proofs.«01_k».proof.Proof.Combine
public import proofs.«01_k».proof.Proof.Drain

@[expose] public section

noncomputable section

namespace Cert.MoE

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × CI → ℕ)

theorem upto_at (Todo Done : Fin 8 → sProp 𝕄) (k : Fin 8) (n : ℕ) (h : k.val = n) : upto Todo Done n ⊢ iprop(Todo k ∗ (Done k -∗ upto Todo Done (n + 1))) := by
  subst h
  exact upto_step Todo Done k

/-- A triple, with what follows from its result. -/
theorem wp_mono' {α : Type} {c : Dev nD} {p : Prog (TpuEff nD τ sig (Elt F) Λ₀ .tc) α} {P : sProp 𝕄} {Q Φ : α → sProp 𝕄}
    (h : P ⊢ wp frame (wpE (defs₀ (F := F)) 𝒱₀ (c : Thread nD τ) none) Set.univ p Q) :
    P ⊢ iprop((∀ a, Q a -∗ Φ a) -∗ wp frame (wpE (defs₀ (F := F)) 𝒱₀ (c : Thread nD τ) none) Set.univ p Φ) :=
  h.trans (wp_wand _ _ _)

/-- The first loop. -/
theorem loop1 (c : Dev nD) {β : Type} {kk : Unit → Prog (TpuEff nD τ sig (Elt F) Λ₀ .tc) β} {Q : β → sProp 𝕄} :
    iprop(records m K ∗ bigSep Finset.univ (Todo1 (F := F) c) ∗ ∃ W, owes (c : Thread nD τ) (oweC c 0 + oweD c 0) W)
      ⊢ iprop(((bigSep Finset.univ (Done1 m c) ∗ ∃ W, owes (c : Thread nD τ) (oweC c 0) W) -∗ wp frame (wpE (defs₀ (F := F)) 𝒱₀ (c : Thread nD τ) none) Set.univ (kk ()) Q)
        -∗ wp frame (wpE (defs₀ (F := F)) 𝒱₀ (c : Thread nD τ) none) Set.univ (Scf.Loop.for k0_t1_loop k0_t1_ok () (k0_t1_body (Memref.whole cc0_stg0_0) (Memref.isWhole_whole _) (Memref.whole cc0_stg1_0) (Memref.isWhole_whole _) (Memref.whole cc0_stg2_0) (Memref.isWhole_whole _)
        (Memref.whole cc0_stg3_0) (Memref.isWhole_whole _) (Memref.whole cc0_stg4_0) (Memref.isWhole_whole _) (Memref.whole cc0_stg5_0) (Memref.isWhole_whole _)
        (Memref.whole cc0_scratch0) (Memref.isWhole_whole _) (Memref.whole cc0_scratch1) (Memref.isWhole_whole _) (Memref.whole cc0_scratch2) (Memref.isWhole_whole _)
        (Memref.whole cc0_scratch3) (Memref.isWhole_whole _) (Memref.whole cc0_scratch4) (Memref.isWhole_whole _) cc0_scratch5 cc0_scratch6 cc0_scratch7 cc0_scratch8
        c (v2w c) (xp m c) (slotV m c)) >>= kk) Q) := by
  have h := Scf.wp_for_bind frame (wpE (defs₀ (F := F)) 𝒱₀ (c : Thread nD τ) none) Set.univ k0_t1_loop.lb k0_t1_loop.ub k0_t1_loop.st k0_t1_ok ()
    (fun t _ => body1 m c t)
    (fun t _ => iprop(records m K ∗ upto (Todo1 (F := F) c) (Done1 m c) t ∗ ∃ W, owes (c : Thread nD τ) (oweC c 0 + oweD c t) W))
    (fun t _ => by
      iintro ⟨#HR, HU, HO⟩
      ihave HU := (upto_at (Todo1 (F := F) c) (Done1 m c) (k1 t) t.val rfl) $$ HU
      icases HU with ⟨HT, HD⟩
      iapply (wp_mono' (trip1 m K c t)) $$ [HT HO]
      · isplitr; · iexact HR
        isplitl [HT]; · iexact HT
        iexact HO
      iintro %r ⟨HT, HO⟩
      isplitr; · iexact HR
      isplitl [HT HD]
      · iapply HD; iexact HT
      iexact HO) (kk := kk) (Q := Q)
  iintro ⟨#HR, HT, HO⟩ Hk
  iapply h $$ [HT HO]
  · isplitr; · iexact HR
    isplitl [HT]; · iapply (Entails.of_eq (upto_zero (Todo1 (F := F) c) (Done1 m c)).symm); iexact HT
    iexact HO
  iintro %u ⟨-, HT, ⟨%W, HO⟩⟩
  iapply Hk
  isplitl [HT]; · iapply (Entails.of_eq (upto_end (Todo1 (F := F) c) (Done1 m c))); iexact HT
  iexists W
  iapply (Entails.of_eq (show owes (c : Thread nD τ) (oweC c 0 + oweD c (Scf.trips k0_t1_loop.lb k0_t1_loop.ub k0_t1_loop.st)) W = (owes (c : Thread nD τ) (oweC c 0) W : sProp 𝕄) by rw [show (Scf.trips k0_t1_loop.lb k0_t1_loop.ub k0_t1_loop.st) = 8 from by decide]; rw [oweD_end, add_zero])) $$ HO

/-- The second. -/
theorem loop2 (c : Dev nD) {β : Type} {kk : Unit → Prog (TpuEff nD τ sig (Elt F) Λ₀ .tc) β} {Q : β → sProp 𝕄} :
    iprop(records m K ∗ levAts L lv ∗ PE m c ∗ bigSep Finset.univ (Todo2 m c) ∗ ∃ W, owes (c : Thread nD τ) (oweC c 0) W)
      ⊢ iprop(((PE m c ∗ bigSep Finset.univ (Done2 m c) ∗ ∃ W, owes (c : Thread nD τ) 0 W) -∗ wp frame (wpE (defs₀ (F := F)) 𝒱₀ (c : Thread nD τ) none) Set.univ (kk ()) Q)
        -∗ wp frame (wpE (defs₀ (F := F)) 𝒱₀ (c : Thread nD τ) none) Set.univ (Scf.Loop.for k0_t2_loop k0_t2_ok () (k0_t2_body (Memref.whole cc0_stg0_0) (Memref.isWhole_whole _) (Memref.whole cc0_stg1_0) (Memref.isWhole_whole _) (Memref.whole cc0_stg2_0) (Memref.isWhole_whole _)
        (Memref.whole cc0_stg3_0) (Memref.isWhole_whole _) (Memref.whole cc0_stg4_0) (Memref.isWhole_whole _) (Memref.whole cc0_stg5_0) (Memref.isWhole_whole _)
        (Memref.whole cc0_scratch0) (Memref.isWhole_whole _) (Memref.whole cc0_scratch1) (Memref.isWhole_whole _) (Memref.whole cc0_scratch2) (Memref.isWhole_whole _)
        (Memref.whole cc0_scratch3) (Memref.isWhole_whole _) (Memref.whole cc0_scratch4) (Memref.isWhole_whole _) cc0_scratch5 cc0_scratch6 cc0_scratch7 cc0_scratch8
        c (v2w c)) >>= kk) Q) := by
  have h := Scf.wp_for_bind frame (wpE (defs₀ (F := F)) 𝒱₀ (c : Thread nD τ) none) Set.univ k0_t2_loop.lb k0_t2_loop.ub k0_t2_loop.st k0_t2_ok ()
    (fun t _ => body2 (F := F) c t)
    (fun t _ => iprop(records m K ∗ levAts L lv ∗ PE m c ∗ upto (Todo2 m c) (Done2 m c) t ∗ ∃ W, owes (c : Thread nD τ) (oweC c t) W))
    (fun t _ => by
      iintro ⟨#HR, #Hlev, HP, HU, HO⟩
      ihave HU := (upto_at (Todo2 m c) (Done2 m c) (k2 t) t.val rfl) $$ HU
      icases HU with ⟨HT, HD⟩
      iapply (wp_mono' (trip2 m K c t)) $$ [HP HT HO]
      · isplitr; · iexact HR
        isplitr; · iexact Hlev
        isplitl [HP]; · iexact HP
        isplitl [HT]; · iexact HT
        iexact HO
      iintro %r ⟨HP, HT, HO⟩
      isplitr; · iexact HR
      isplitr; · iexact Hlev
      isplitl [HP]; · iexact HP
      isplitl [HT HD]
      · iapply HD; iexact HT
      iexact HO) (kk := kk) (Q := Q)
  iintro ⟨#HR, #Hlev, HP, HT, HO⟩ Hk
  iapply h $$ [HP HT HO]
  · isplitr; · iexact HR
    isplitr; · iexact Hlev
    isplitl [HP]; · iexact HP
    isplitl [HT]; · iapply (Entails.of_eq (upto_zero (Todo2 m c) (Done2 m c)).symm); iexact HT
    iexact HO
  iintro %u ⟨-, -, HP, HT, ⟨%W, HO⟩⟩
  iapply Hk
  isplitl [HP]; · iexact HP
  isplitl [HT]; · iapply (Entails.of_eq (upto_end (Todo2 m c) (Done2 m c))); iexact HT
  iexists W
  iapply (Entails.of_eq (show owes (c : Thread nD τ) (oweC c (Scf.trips k0_t2_loop.lb k0_t2_loop.ub k0_t2_loop.st)) W = (owes (c : Thread nD τ) 0 W : sProp 𝕄) by rw [show (Scf.trips k0_t2_loop.lb k0_t2_loop.ub k0_t2_loop.st) = 8 from by decide]; rw [oweC_end])) $$ HO

/-- The third. -/
theorem loop3 (c : Dev nD) {β : Type} {kk : Unit → Prog (TpuEff nD τ sig (Elt F) Λ₀ .tc) β} {Q : β → sProp 𝕄} :
    iprop(records m K ∗ levAts L lv ∗ PO c (ACC m c 0) ∗ bigSep Finset.univ (Todo3 m c) ∗ ∃ W, owes (c : Thread nD τ) 0 W)
      ⊢ iprop(((PO c (ACC m c 8) ∗ bigSep Finset.univ (Done3 (F := F) c) ∗ ∃ W, owes (c : Thread nD τ) 0 W) -∗ wp frame (wpE (defs₀ (F := F)) 𝒱₀ (c : Thread nD τ) none) Set.univ (kk ()) Q)
        -∗ wp frame (wpE (defs₀ (F := F)) 𝒱₀ (c : Thread nD τ) none) Set.univ (Scf.Loop.for k0_t3_loop k0_t3_ok () (k0_t3_body (Memref.whole cc0_stg0_0) (Memref.isWhole_whole _) (Memref.whole cc0_stg1_0) (Memref.isWhole_whole _) (Memref.whole cc0_stg2_0) (Memref.isWhole_whole _)
        (Memref.whole cc0_stg3_0) (Memref.isWhole_whole _) (Memref.whole cc0_stg4_0) (Memref.isWhole_whole _) (Memref.whole cc0_stg5_0) (Memref.isWhole_whole _)
        (Memref.whole cc0_scratch0) (Memref.isWhole_whole _) (Memref.whole cc0_scratch1) (Memref.isWhole_whole _) (Memref.whole cc0_scratch2) (Memref.isWhole_whole _)
        (Memref.whole cc0_scratch3) (Memref.isWhole_whole _) (Memref.whole cc0_scratch4) (Memref.isWhole_whole _) cc0_scratch5 cc0_scratch6 cc0_scratch7 cc0_scratch8
        c (v2w c) (slotV m c)) >>= kk) Q) := by
  have h := Scf.wp_for_bind frame (wpE (defs₀ (F := F)) 𝒱₀ (c : Thread nD τ) none) Set.univ k0_t3_loop.lb k0_t3_loop.ub k0_t3_loop.st k0_t3_ok ()
    (fun t _ => body3 m c t)
    (fun t _ => iprop(records m K ∗ levAts L lv ∗ PO c (ACC m c t) ∗ upto (Todo3 m c) (Done3 (F := F) c) t ∗ ∃ W, owes (c : Thread nD τ) 0 W))
    (fun t _ => by
      iintro ⟨#HR, #Hlev, HP, HU, HO⟩
      ihave HU := (upto_at (Todo3 m c) (Done3 (F := F) c) (k3 t) t.val rfl) $$ HU
      icases HU with ⟨HT, HD⟩
      iapply (wp_mono' (trip3 m K c t)) $$ [HP HT HO]
      · isplitr; · iexact HR
        isplitr; · iexact Hlev
        isplitl [HP]; · iexact HP
        isplitl [HT]; · iexact HT
        iexact HO
      iintro %r ⟨HP, HT, HO⟩
      isplitr; · iexact HR
      isplitr; · iexact Hlev
      isplitl [HP]; · iexact HP
      isplitl [HT HD]
      · iapply HD; iexact HT
      iexact HO) (kk := kk) (Q := Q)
  iintro ⟨#HR, #Hlev, HP, HT, HO⟩ Hk
  iapply h $$ [HP HT HO]
  · isplitr; · iexact HR
    isplitr; · iexact Hlev
    isplitl [HP]; · iexact HP
    isplitl [HT]; · iapply (Entails.of_eq (upto_zero (Todo3 m c) (Done3 (F := F) c)).symm); iexact HT
    iexact HO
  iintro %u ⟨-, -, HP, HT, HO⟩
  iapply Hk
  isplitl [HP]; · iexact HP
  isplitl [HT]; · iapply (Entails.of_eq (upto_end (Todo3 m c) (Done3 (F := F) c))); iexact HT
  iexact HO

theorem k4_val (t : Fin k0_t4_loop.trips) : (k4 t).val = t.val + 1 := rfl
theorem k4_ne (t : Fin k0_t4_loop.trips) : k4 t ≠ 0 := Fin.succ_ne_zero _

/-- The last loop, which leaves out the device's own slab. -/
theorem loop4 (c : Dev nD) {β : Type} {kk : Unit → Prog (TpuEff nD τ sig (Elt F) Λ₀ .tc) β} {Q : β → sProp 𝕄} :
    iprop(records m K ∗ levAts L lv ∗ bigSep Finset.univ (Todo4 (F := F) c) ∗ ∃ W, owes (c : Thread nD τ) 0 W)
      ⊢ iprop(((bigSep Finset.univ (Done4 (F := F) c) ∗ ∃ W, owes (c : Thread nD τ) 0 W) -∗ wp frame (wpE (defs₀ (F := F)) 𝒱₀ (c : Thread nD τ) none) Set.univ (kk ()) Q)
        -∗ wp frame (wpE (defs₀ (F := F)) 𝒱₀ (c : Thread nD τ) none) Set.univ (Scf.Loop.for k0_t4_loop k0_t4_ok () (k0_t4_body (Memref.whole cc0_stg0_0) (Memref.isWhole_whole _) (Memref.whole cc0_stg1_0) (Memref.isWhole_whole _) (Memref.whole cc0_stg2_0) (Memref.isWhole_whole _)
        (Memref.whole cc0_stg3_0) (Memref.isWhole_whole _) (Memref.whole cc0_stg4_0) (Memref.isWhole_whole _) (Memref.whole cc0_stg5_0) (Memref.isWhole_whole _)
        (Memref.whole cc0_scratch0) (Memref.isWhole_whole _) (Memref.whole cc0_scratch1) (Memref.isWhole_whole _) (Memref.whole cc0_scratch2) (Memref.isWhole_whole _)
        (Memref.whole cc0_scratch3) (Memref.isWhole_whole _) (Memref.whole cc0_scratch4) (Memref.isWhole_whole _) cc0_scratch5 cc0_scratch6 cc0_scratch7 cc0_scratch8
        c) >>= kk) Q) := by
  have h := Scf.wp_for_bind frame (wpE (defs₀ (F := F)) 𝒱₀ (c : Thread nD τ) none) Set.univ k0_t4_loop.lb k0_t4_loop.ub k0_t4_loop.st k0_t4_ok ()
    (fun t _ => body4 (F := F) c t)
    (fun t _ => iprop(records m K ∗ levAts L lv ∗ upto (Todo4 (F := F) c) (Done4 (F := F) c) (t + 1) ∗ ∃ W, owes (c : Thread nD τ) 0 W))
    (fun t _ => by
      iintro ⟨#HR, #Hlev, HU, HO⟩
      ihave HU := (upto_at (Todo4 (F := F) c) (Done4 (F := F) c) (k4 t) (t.val + 1) rfl) $$ HU
      icases HU with ⟨HT, HD⟩
      iapply (wp_mono' (trip4 m K c t (k4_ne t))) $$ [HT HO]
      · isplitr; · iexact HR
        isplitr; · iexact Hlev
        isplitl [HT]; · iexact HT
        iexact HO
      iintro %r ⟨HT, HO⟩
      isplitr; · iexact HR
      isplitr; · iexact Hlev
      isplitl [HT HD]
      · iapply HD; iexact HT
      iexact HO) (kk := kk) (Q := Q)
  iintro ⟨#HR, #Hlev, HT, HO⟩ Hk
  ihave HU := (Entails.of_eq (upto_zero (Todo4 (F := F) c) (Done4 (F := F) c)).symm) $$ HT
  ihave HU := (upto_at (Todo4 (F := F) c) (Done4 (F := F) c) 0 0 rfl) $$ HU
  icases HU with ⟨HT, HD⟩
  imod (drain_own m K c) $$ [HT] with HT
  · isplitr; · iexact HR
    iexact HT
  iapply h $$ [HT HD HO]
  · isplitr; · iexact HR
    isplitr; · iexact Hlev
    isplitl [HT HD]; · iapply HD; iexact HT
    iexact HO
  iintro %u ⟨-, -, HT, HO⟩
  iapply Hk
  isplitl [HT]; · iapply (Entails.of_eq (upto_end (Todo4 (F := F) c) (Done4 (F := F) c))); iexact HT
  iexact HO

end Cert.MoE

end
-- ==== Proof.Ranks.lean ====
/-
The head of the kernel: the loads of the staged inputs, the shared expert's product, and the rank of each token among its
device's tokens of the same expert, written a block of 128 tokens at a time.
-/
module

public import proofs.«01_k».proof.Proof.Combine
public import proofs.«01_k».proof.Proof.Gen.KernelIdeal.Skeleton

@[expose] public section

noncomputable section

namespace Cert.MoE

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × CI → ℕ)

/-- The staged inputs that the head reads. -/
abbrev PX (c : Dev nD) : sProp 𝕄 := ((c : Thread nD τ).loc cc0_stg0_0) ↦[Finset.univ]{fullShare} (xS m c)
abbrev PRt (c : Dev nD) : sProp 𝕄 := ((c : Thread nD τ).loc cc0_stg1_0) ↦[Finset.univ]{fullShare} (rS m c)
abbrev PI (c : Dev nD) : sProp 𝕄 := ((c : Thread nD τ).loc cc0_stg2_0) ↦[Finset.univ]{fullShare} (iS m c)
abbrev PS (c : Dev nD) : sProp 𝕄 := ((c : Thread nD τ).loc cc0_stg4_0) ↦[Finset.univ]{fullShare} (sS m c)

/-- The buffer of the ranks, whose first `r` rows are there. -/
def Rk (c : Dev nD) (v : FVec F S2048x64 .bf16) (r : ℕ) : sProp 𝕄 :=
  iprop(∃ f, ⌜∀ i, (i 0).val < r → (Memref.whole cc0_scratch4).view.read (Elt F) f i = ofBlocks (rkf v) i⌝
    ∗ ((Memref.whole cc0_scratch4).view.loc (c : Thread nD τ) ↦[Finset.univ]{fullShare} f))

theorem rk_zero (c : Dev nD) (v : FVec F S2048x64 .bf16) (f : S2048x1.Idx → Elt F .f32) :
    (((c : Thread nD τ).loc cc0_scratch4) ↦[Finset.univ]{fullShare} f : sProp 𝕄) ⊢ Rk c v 0 := by
  unfold Rk
  iintro H
  iexists f
  isplitr
  · ipureintro; exact fun i h => absurd h (Nat.not_lt_zero _)
  · iexact H

theorem rk_all (c : Dev nD) (v : FVec F S2048x64 .bf16) : Rk c v 2048 ⊢ ((c : Thread nD τ).loc cc0_scratch4) ↦[Finset.univ]{fullShare} (ofBlocks (rkf v)) := by
  unfold Rk
  iintro ⟨%f, %hf, H⟩
  have h : f = ofBlocks (rkf v) := funext fun i => hf i (i 0).isLt
  rw [← h]
  iexact H

/-- One block of ranks. -/
theorem rank_block (c : Dev nD) (v : FVec F S2048x64 .bf16) (n : Fin 16) {off : Fin 2 → ℕ} (hoff : off = ![128 * n.val, 0]) {inb} {hl} {hx} {hm}
    {w : FVec F S128x1 .f32} (hw : w = rkf v n) {α : Type} {Q : α → sProp 𝕄} {kk : PUnit → Prog (TpuEff nD τ sig (Elt F) Λ₀ .tc) α} :
    Rk c v (128 * n.val) ⊢ iprop((Rk c v (128 * n.val + 128) -∗ wp frame (wpE (defs₀ (F := F)) 𝒱₀ (c : Thread nD τ) none) Set.univ (kk ⟨⟩) Q)
      -∗ wp frame (wpE (defs₀ (F := F)) 𝒱₀ (c : Thread nD τ) none) Set.univ
          (.op (.load (Memref.whole cc0_scratch4) (Rect.unit (s := S2048x1) off S128x1.size inb).toLoadRect hl) fun _ =>
            .op (.store (Memref.whole cc0_scratch4) (Rect.unit (s := S2048x1) off S128x1.size inb) w Finset.univ hx hm) kk) Q) := by
  subst hw
  unfold Rk
  iintro ⟨%f, %hf, H⟩ Hk
  iapply (wp_load_rect (defs := defs₀ (F := F)) 𝒱₀ (c : Thread nD τ) none Set.univ (m := Memref.whole cc0_scratch4) (r := Rect.unit (s := S2048x1) off S128x1.size inb) (hl := hl)
    (S := Finset.univ) (q := fullShare) (f := f) (Ix := Unit) (Name := ℕ) (U := UU) (Lvl := ℕ) (Γ := .empty) (Finset.subset_univ _)) $$ H
  iintro H
  iapply (store_block (Memref.whole cc0_scratch4) c (S := Finset.univ) (View.set_whole cc0_scratch4) hoff inb (ofBlocks (rkf v)) (fun y i h0 h1 => by
    have hy : (y 0).val < 128 := (y 0).isLt
    have hn : (⟨(i 0).val / 128, by have : (i 0).val < 2048 := (i 0).isLt; omega⟩ : Fin 16) = n := Fin.ext (by show (i 0).val / 128 = n.val; omega)
    have hz : Shape.pair (d := ![128, 1]) (⟨(i 0).val % 128, Nat.mod_lt _ (by decide)⟩ : Fin 128) (0 : Fin 1) = y := by
      funext q
      refine Fin.ext ?_
      refine Fin.cases ?_ (fun q => ?_) q
      · show (i 0).val % 128 = (y 0).val; omega
      · have : q = 0 := Subsingleton.elim _ _
        subst this
        have : (y 1).val < 1 := (y 1).isLt
        show 0 = (y 1).val; omega
    unfold ofBlocks
    rw [hn, hz])) $$ [H]
  · iexists f
    isplitr
    · ipureintro; exact hf
    · iexact H
  iintro H
  iapply Hk
  iexact H

/-- The loads, the shared expert's product and the one-hot matrix. -/
theorem part4_run (c : Dev nD) :
    iprop(PX m c ∗ PRt m c ∗ PI m c ∗ PS m c ∗ (∃ f, PO (F := F) c f)) ⊢ wp frame (wpE (defs₀ (F := F)) 𝒱₀ (c : Thread nD τ) none) Set.univ
      (k0_part4 (Memref.whole cc0_stg0_0) (Memref.isWhole_whole _) (Memref.whole cc0_stg1_0) (Memref.isWhole_whole _) (Memref.whole cc0_stg2_0) (Memref.isWhole_whole _)
    (Memref.whole cc0_stg3_0) (Memref.isWhole_whole _) (Memref.whole cc0_stg4_0) (Memref.isWhole_whole _) (Memref.whole cc0_stg5_0) (Memref.isWhole_whole _)
    (Memref.whole cc0_scratch0) (Memref.isWhole_whole _) (Memref.whole cc0_scratch1) (Memref.isWhole_whole _) (Memref.whole cc0_scratch2) (Memref.isWhole_whole _)
    (Memref.whole cc0_scratch3) (Memref.isWhole_whole _) (Memref.whole cc0_scratch4) (Memref.isWhole_whole _) cc0_scratch5 cc0_scratch6 cc0_scratch7 cc0_scratch8)
      fun r => iprop(⌜r = ⟨c, v2w c, xp m c, oh m c, rows⟩⌝ ∗ PX m c ∗ PRt m c ∗ PI m c ∗ PS m c ∗ PO c (ACC m c 0)) := by
  rw [k0_part4_eq_skeleton]
  unfold k0_part4_skel
  simp only [Prog.lift, Prog.bind_op, Prog.bind_ret, Prog.pure_eq_ret, wp_deviceId]
  iintro ⟨HX, HR, HI, HS, %f, HO⟩
  iapply (load_full (Memref.whole cc0_stg0_0) c (S := Finset.univ) (Finset.subset_univ _) inb_S2048x512_S2048x512_0_0) $$ HX
  iintro HX
  iapply (load_full (Memref.whole cc0_stg1_0) c (S := Finset.univ) (Finset.subset_univ _) inb_S512x64_S512x64_0_0) $$ HR
  iintro HR
  iapply (load_full (Memref.whole cc0_stg2_0) c (S := Finset.univ) (Finset.subset_univ _) inb_S2048x1_S2048x1_0_0) $$ HI
  iintro HI
  iapply (load_full (Memref.whole cc0_stg4_0) c (S := Finset.univ) (Finset.subset_univ _) inb_S512x1024_S512x1024_0_0) $$ HS
  iintro HS
  iapply (load_full (Memref.whole cc0_stg5_0) c (S := Finset.univ) (Finset.subset_univ _) inb_S2048x1024_S2048x1024_0_0) $$ HO
  iintro HO
  iapply (store_full (Memref.whole cc0_stg5_0) c (S := Finset.univ) (View.set_whole cc0_stg5_0) inb_S2048x1024_S2048x1024_0_0 (g := ACC m c 0) rfl) $$ HO
  iintro HO
  rw [wp_ret]; imodintro
  isplitr
  · ipureintro; rfl
  isplitl [HX]; · iexact HX
  isplitl [HR]; · iexact HR
  isplitl [HI]; · iexact HI
  isplitl [HS] <;> iassumption

/-- The running counts after blocks 4, 7, 10 and 13. -/
abbrev a120 (v : FVec F S2048x64 .bf16) : FVec F S1x64 .f32 := k0_pay35 v (k0_pay25 v) (k0_pay26 v)
abbrev a165 (v : FVec F S2048x64 .bf16) : FVec F S1x64 .f32 := k0_pay45 v (a120 v) (k0_pay36 v)
abbrev a195 (v : FVec F S2048x64 .bf16) : FVec F S1x64 .f32 := k0_pay51 v (a165 v) (k0_pay46 v)
abbrev a240 (v : FVec F S2048x64 .bf16) : FVec F S1x64 .f32 := k0_pay61 v (a195 v) (k0_pay54 v)

theorem part5_run (c : Dev nD) (v : FVec F S2048x64 .bf16) :
    Rk c v (128 * (0 : Fin 16).val) ⊢ wp frame (wpE (defs₀ (F := F)) 𝒱₀ (c : Thread nD τ) none) Set.univ
      (k0_part5 (Memref.whole cc0_stg0_0) (Memref.isWhole_whole _) (Memref.whole cc0_stg1_0) (Memref.isWhole_whole _) (Memref.whole cc0_stg2_0) (Memref.isWhole_whole _)
    (Memref.whole cc0_stg3_0) (Memref.isWhole_whole _) (Memref.whole cc0_stg4_0) (Memref.isWhole_whole _) (Memref.whole cc0_stg5_0) (Memref.isWhole_whole _)
    (Memref.whole cc0_scratch0) (Memref.isWhole_whole _) (Memref.whole cc0_scratch1) (Memref.isWhole_whole _) (Memref.whole cc0_scratch2) (Memref.isWhole_whole _)
    (Memref.whole cc0_scratch3) (Memref.isWhole_whole _) (Memref.whole cc0_scratch4) (Memref.isWhole_whole _) cc0_scratch5 cc0_scratch6 cc0_scratch7 cc0_scratch8 v rows)
      fun r => iprop(⌜r = ⟨k0_pay18 rows, k0_pay25 v, k0_pay26 v, k0_pay27 v rows⟩⌝ ∗ Rk c v (128 * (2 : Fin 16).val)) := by
  rw [k0_part5_eq_skeleton]
  unfold k0_part5_skel
  simp only [Prog.lift, Prog.bind_op, Prog.bind_ret, Prog.pure_eq_ret]
  iintro H
  iapply (rank_block c v 0 rfl rfl) $$ H
  iintro H
  iapply (rank_block c v 1 rfl rfl) $$ H
  iintro H
  rw [wp_ret]; imodintro
  isplitr
  · ipureintro; rfl
  · iexact H

theorem part6_run (c : Dev nD) (v : FVec F S2048x64 .bf16) :
    Rk c v (128 * (2 : Fin 16).val) ⊢ wp frame (wpE (defs₀ (F := F)) 𝒱₀ (c : Thread nD τ) none) Set.univ
      (k0_part6 (Memref.whole cc0_stg0_0) (Memref.isWhole_whole _) (Memref.whole cc0_stg1_0) (Memref.isWhole_whole _) (Memref.whole cc0_stg2_0) (Memref.isWhole_whole _)
    (Memref.whole cc0_stg3_0) (Memref.isWhole_whole _) (Memref.whole cc0_stg4_0) (Memref.isWhole_whole _) (Memref.whole cc0_stg5_0) (Memref.isWhole_whole _)
    (Memref.whole cc0_scratch0) (Memref.isWhole_whole _) (Memref.whole cc0_scratch1) (Memref.isWhole_whole _) (Memref.whole cc0_scratch2) (Memref.isWhole_whole _)
    (Memref.whole cc0_scratch3) (Memref.isWhole_whole _) (Memref.whole cc0_scratch4) (Memref.isWhole_whole _) cc0_scratch5 cc0_scratch6 cc0_scratch7 cc0_scratch8 v (k0_pay18 rows) (k0_pay25 v) (k0_pay26 v) (k0_pay27 v rows))
      fun r => iprop(⌜r = ⟨a120 v, k0_pay36 v, k0_pay37 v (k0_pay18 rows) (k0_pay25 v) (k0_pay26 v)⟩⌝ ∗ Rk c v (128 * (5 : Fin 16).val)) := by
  rw [k0_part6_eq_skeleton]
  unfold k0_part6_skel
  simp only [Prog.lift, Prog.bind_op, Prog.bind_ret, Prog.pure_eq_ret]
  iintro H
  iapply (rank_block c v 2 rfl rfl) $$ H
  iintro H
  iapply (rank_block c v 3 rfl rfl) $$ H
  iintro H
  iapply (rank_block c v 4 rfl rfl) $$ H
  iintro H
  rw [wp_ret]; imodintro
  isplitr
  · ipureintro; rfl
  · iexact H

theorem part7_run (c : Dev nD) (v : FVec F S2048x64 .bf16) :
    Rk c v (128 * (5 : Fin 16).val) ⊢ wp frame (wpE (defs₀ (F := F)) 𝒱₀ (c : Thread nD τ) none) Set.univ
      (k0_part7 (Memref.whole cc0_stg0_0) (Memref.isWhole_whole _) (Memref.whole cc0_stg1_0) (Memref.isWhole_whole _) (Memref.whole cc0_stg2_0) (Memref.isWhole_whole _)
    (Memref.whole cc0_stg3_0) (Memref.isWhole_whole _) (Memref.whole cc0_stg4_0) (Memref.isWhole_whole _) (Memref.whole cc0_stg5_0) (Memref.isWhole_whole _)
    (Memref.whole cc0_scratch0) (Memref.isWhole_whole _) (Memref.whole cc0_scratch1) (Memref.isWhole_whole _) (Memref.whole cc0_scratch2) (Memref.isWhole_whole _)
    (Memref.whole cc0_scratch3) (Memref.isWhole_whole _) (Memref.whole cc0_scratch4) (Memref.isWhole_whole _) cc0_scratch5 cc0_scratch6 cc0_scratch7 cc0_scratch8 v (k0_pay18 rows) (a120 v) (k0_pay36 v) (k0_pay37 v (k0_pay18 rows) (k0_pay25 v) (k0_pay26 v)))
      fun r => iprop(⌜r = ⟨a165 v, k0_pay46 v, constant S128x64 .f32 0x00000000#32⟩⌝ ∗ Rk c v (128 * (8 : Fin 16).val)) := by
  rw [k0_part7_eq_skeleton]
  unfold k0_part7_skel
  simp only [Prog.lift, Prog.bind_op, Prog.bind_ret, Prog.pure_eq_ret]
  iintro H
  iapply (rank_block c v 5 rfl rfl) $$ H
  iintro H
  iapply (rank_block c v 6 rfl rfl) $$ H
  iintro H
  iapply (rank_block c v 7 rfl rfl) $$ H
  iintro H
  rw [wp_ret]; imodintro
  isplitr
  · ipureintro; rfl
  · iexact H

theorem part8_run (c : Dev nD) (v : FVec F S2048x64 .bf16) :
    Rk c v (128 * (8 : Fin 16).val) ⊢ wp frame (wpE (defs₀ (F := F)) 𝒱₀ (c : Thread nD τ) none) Set.univ
      (k0_part8 (Memref.whole cc0_stg0_0) (Memref.isWhole_whole _) (Memref.whole cc0_stg1_0) (Memref.isWhole_whole _) (Memref.whole cc0_stg2_0) (Memref.isWhole_whole _)
    (Memref.whole cc0_stg3_0) (Memref.isWhole_whole _) (Memref.whole cc0_stg4_0) (Memref.isWhole_whole _) (Memref.whole cc0_stg5_0) (Memref.isWhole_whole _)
    (Memref.whole cc0_scratch0) (Memref.isWhole_whole _) (Memref.whole cc0_scratch1) (Memref.isWhole_whole _) (Memref.whole cc0_scratch2) (Memref.isWhole_whole _)
    (Memref.whole cc0_scratch3) (Memref.isWhole_whole _) (Memref.whole cc0_scratch4) (Memref.isWhole_whole _) cc0_scratch5 cc0_scratch6 cc0_scratch7 cc0_scratch8 v (k0_pay18 rows) (a165 v) (k0_pay46 v) (constant S128x64 .f32 0x00000000#32))
      fun r => iprop(⌜r = ⟨a195 v, k0_pay54 v⟩⌝ ∗ Rk c v (128 * (11 : Fin 16).val)) := by
  rw [k0_part8_eq_skeleton]
  unfold k0_part8_skel
  simp only [Prog.lift, Prog.bind_op, Prog.bind_ret, Prog.pure_eq_ret]
  iintro H
  iapply (rank_block c v 8 rfl rfl) $$ H
  iintro H
  iapply (rank_block c v 9 rfl rfl) $$ H
  iintro H
  iapply (rank_block c v 10 rfl rfl) $$ H
  iintro H
  rw [wp_ret]; imodintro
  isplitr
  · ipureintro; rfl
  · iexact H

theorem part9_run (c : Dev nD) (v : FVec F S2048x64 .bf16) :
    Rk c v (128 * (11 : Fin 16).val) ⊢ wp frame (wpE (defs₀ (F := F)) 𝒱₀ (c : Thread nD τ) none) Set.univ
      (k0_part9 (Memref.whole cc0_stg0_0) (Memref.isWhole_whole _) (Memref.whole cc0_stg1_0) (Memref.isWhole_whole _) (Memref.whole cc0_stg2_0) (Memref.isWhole_whole _)
    (Memref.whole cc0_stg3_0) (Memref.isWhole_whole _) (Memref.whole cc0_stg4_0) (Memref.isWhole_whole _) (Memref.whole cc0_stg5_0) (Memref.isWhole_whole _)
    (Memref.whole cc0_scratch0) (Memref.isWhole_whole _) (Memref.whole cc0_scratch1) (Memref.isWhole_whole _) (Memref.whole cc0_scratch2) (Memref.isWhole_whole _)
    (Memref.whole cc0_scratch3) (Memref.isWhole_whole _) (Memref.whole cc0_scratch4) (Memref.isWhole_whole _) cc0_scratch5 cc0_scratch6 cc0_scratch7 cc0_scratch8 v (k0_pay18 rows) (a195 v) (k0_pay54 v))
      fun r => iprop(⌜r = ⟨a240 v, k0_pay64 v⟩⌝ ∗ Rk c v (128 * (14 : Fin 16).val)) := by
  rw [k0_part9_eq_skeleton]
  unfold k0_part9_skel
  simp only [Prog.lift, Prog.bind_op, Prog.bind_ret, Prog.pure_eq_ret]
  iintro H
  iapply (rank_block c v 11 rfl rfl) $$ H
  iintro H
  iapply (rank_block c v 12 rfl rfl) $$ H
  iintro H
  iapply (rank_block c v 13 rfl rfl) $$ H
  iintro H
  rw [wp_ret]; imodintro
  isplitr
  · ipureintro; rfl
  · iexact H

theorem part10_run (c : Dev nD) (v2 : BitVec 32) :
    iprop(Rk c (oh m c) (128 * (14 : Fin 16).val) ∗ PI m c) ⊢ wp frame (wpE (defs₀ (F := F)) 𝒱₀ (c : Thread nD τ) none) Set.univ
      (k0_part10 (Memref.whole cc0_stg0_0) (Memref.isWhole_whole _) (Memref.whole cc0_stg1_0) (Memref.isWhole_whole _) (Memref.whole cc0_stg2_0) (Memref.isWhole_whole _)
    (Memref.whole cc0_stg3_0) (Memref.isWhole_whole _) (Memref.whole cc0_stg4_0) (Memref.isWhole_whole _) (Memref.whole cc0_stg5_0) (Memref.isWhole_whole _)
    (Memref.whole cc0_scratch0) (Memref.isWhole_whole _) (Memref.whole cc0_scratch1) (Memref.isWhole_whole _) (Memref.whole cc0_scratch2) (Memref.isWhole_whole _)
    (Memref.whole cc0_scratch3) (Memref.isWhole_whole _) (Memref.whole cc0_scratch4) (Memref.isWhole_whole _) cc0_scratch5 cc0_scratch6 cc0_scratch7 cc0_scratch8 v2 (oh m c) (k0_pay18 rows) (a240 (oh m c)) (k0_pay64 (oh m c)))
      fun r => iprop(⌜r = ⟨slotV m c, SemArray.scalar (sig.barrier 0 rfl), Scalar.remsi (Scalar.addi v2 1#32) 8#32, 1#32⟩⌝
        ∗ (∃ f, ((c : Thread nD τ).loc cc0_scratch4) ↦[Finset.univ]{fullShare} f) ∗ PI m c) := by
  rw [k0_part10_eq_skeleton]
  unfold k0_part10_skel
  simp only [Prog.lift, Prog.bind_op, Prog.bind_ret, Prog.pure_eq_ret]
  iintro ⟨H, HI⟩
  iapply (rank_block c (oh m c) 14 rfl rfl) $$ H
  iintro H
  iapply (rank_block c (oh m c) 15 rfl rfl) $$ H
  iintro H
  ihave H := (rk_all c (oh m c)) $$ H
  iapply (load_full (Memref.whole cc0_stg2_0) c (S := Finset.univ) (Finset.subset_univ _) inb_S2048x1_S2048x1_0_0) $$ HI
  iintro HI
  iapply (load_full (Memref.whole cc0_scratch4) c (S := Finset.univ) (Finset.subset_univ _) inb_S2048x1_S2048x1_0_0) $$ H
  iintro H
  rw [wp_ret]; imodintro
  isplitr
  · ipureintro; rfl
  isplitl [H]
  · iexists _; iexact H
  · iexact HI

end Cert.MoE

end
-- ==== Proof.Handshake.lean ====
/-
The handshake before the first copy: device `c` tells every other device that its landing slabs may be written, and waits
to hear the same from all of them.
-/
module

public import proofs.«01_k».proof.Proof.Steps
public import proofs.«01_k».proof.Proof.Gen.KernelIdeal.Skeleton

@[expose] public section

noncomputable section

namespace Cert.MoE

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × CI → ℕ)

theorem add_sub_self : ∀ c k : Fin 8, c + k - k = c := by decide

/-- One signal. -/
theorem signal_to (c n : Dev nD) (k : Fin 8) (hk : k ≠ 0) (hn : n = c + k) (O₀ O : CellTallies nD τ sig Unit) (hO : O₀ = O + tallyAt (barCell (c + k)) () 1) (W : Waits sig Unit)
    {α : Type} {Q : α → sProp 𝕄} {kk : PUnit → Prog (TpuEff nD τ sig (Elt F) Λ₀ .tc) α} :
    iprop(records m K ∗ owes (c : Thread nD τ) O₀ W ∗ dutyTok ER (barCell (c + k)) 0 k ∗ (∃ f, P7 (F := F) c (c + k) f) ∗ (∃ f, P9 (F := F) c (c + k) f))
      ⊢ iprop((owes (c : Thread nD τ) O W -∗ wp frame (wpE (defs₀ (F := F)) 𝒱₀ (c : Thread nD τ) none) Set.univ (kk ⟨⟩) Q)
          -∗ wp frame (wpE (defs₀ (F := F)) 𝒱₀ (c : Thread nD τ) none) Set.univ (semSignalWord n barS 1#32 >>= kk) Q) := by
  subst hn
  unfold semSignalWord
  simp only [Prog.bind_op, Prog.bind_ret]
  iintro ⟨#HR, HO, Ht, H7, H9⟩ Hk
  ihave #HI := (inv_at m K (c + k) (.inl ())) $$ HR
  ihave #Hr := (reached_at m K (c + k) (.inl ())) $$ HR
  iapply (Rounds.wp_signal 𝒱₀ ER (Rd m) (c : Thread nD τ) none (dst := ((c + k : Dev nD) : Thread nD τ)) (κ := K (c + k, .inl ()))
      (d := k) (by rw [show (((c + k : Dev nD) : Thread nD τ), SemLoc.reg barS) = cell (c + k) (.inl ()) from rfl, duties_eq]; exact Finset.mem_erase.mpr ⟨hk, Finset.mem_univ _⟩)
      ((amount_eq m (c + k) (.inl ()) k).trans (by decide)) () O hO)
    $$ [HO Ht H7 H9]
  · isplitr; · iexact HI
    isplitl [HO]; · iexact HO
    isplitl [Ht]; · iexact Ht
    isplitl [H7 H9]
    · rw [show (Rd m).payload (((c + k : Dev nD) : Thread nD τ), SemLoc.reg barS) 0 k = _ from payload_eq m (c + k) (.inl ()) k]
      unfold payOf
      dsimp only
      rw [add_sub_self]
      isplitl [H7] <;> iassumption
    · iexact Hr
  iexact Hk

/-- The wait. -/
theorem await_all (c : Dev nD) (W : Waits sig Unit) {α : Type} {Q : α → sProp 𝕄} {kk : PUnit → Prog (TpuEff nD τ sig (Elt F) Λ₀ .tc) α} :
    iprop(records m K ∗ levAts L lv ∗ cred (tallyAt (barCell c) () 7) ∗ owes (c : Thread nD τ) (oweC c 0 + oweD c 0) W ∗ atPos ER (barCell c) 0 ∅ 0)
      ⊢ iprop(((owes (c : Thread nD τ) (oweC c 0 + oweD c 0) (insert (SemLoc.reg barS, ()) W) ∗ semVal (barCell c) 0
            ∗ bigSep (Finset.univ.erase 0) fun d : Fin 8 => iprop((∃ f, P7 (F := F) (c - d) c f) ∗ (∃ f, P9 (F := F) (c - d) c f))) -∗ wp frame (wpE (defs₀ (F := F)) 𝒱₀ (c : Thread nD τ) none) Set.univ (kk ⟨⟩) Q)
          -∗ wp frame (wpE (defs₀ (F := F)) 𝒱₀ (c : Thread nD τ) none) Set.univ (semWaitWord barS 7#32 >>= kk) Q) := by
  unfold semWaitWord
  simp only [Prog.bind_op, Prog.bind_ret]
  iintro ⟨#HR, #Hlev, Hc, HO, Hat⟩ Hk
  ihave #HI := (inv_at m K c (.inl ())) $$ HR
  iapply (Rounds.wp_wait_rest_token 𝒱₀ ER (Rd m) (c : Thread nD τ) none (κ := K (c, .inl ()))
      (wpE_semWait_eq 𝒱₀ (c : Thread nD τ) none Set.univ) (Set.mem_univ _) () (O := oweC c 0 + oweD c 0) (W := W) (R := 0) (m := 0) (T := ∅)
      (by rw [show (Rd m).expect ((c : Thread nD τ), SemLoc.reg barS) 0 = 7 from expect_bar m c]; decide)) $$ [Hc HO Hat]
  · isplitr; · iexact HI
    isplitl [Hc]; · iexact Hc
    isplitl [HO]; · iexact HO
    isplitr; · iapply (mayWait_bar c); iexact Hlev
    iexact Hat
  iintro ⟨HO, Hat, -, Hpay⟩
  ihave Hp := (Entails.of_eq (rest_bar m c)) $$ Hpay
  imod (close_at m K c (.inl ()) (0 + 1) (fun r hr => duties_later m _ r hr)) $$ [Hat] with Hz
  · isplitr; · iexact HR
    iexact Hat
  iapply Hk
  isplitl [HO]; · iexact HO
  isplitl [Hz] <;> iassumption

/-- What a signal to `c + k` needs. -/
def Sig (c k : Fin 8) : sProp 𝕄 := iprop(dutyTok ER (barCell (c + k)) 0 k ∗ (∃ f, P7 (F := F) c (c + k) f) ∗ (∃ f, P9 (F := F) c (c + k) f))

theorem sevens (Φ : Fin 8 → sProp 𝕄) : bigSep (Finset.univ.erase 0) Φ = iprop(Φ 1 ∗ Φ 2 ∗ Φ 3 ∗ Φ 4 ∗ Φ 5 ∗ Φ 6 ∗ Φ 7) :=
  bigSep_eq_bigSepL_of_eq [1, 2, 3, 4, 5, 6, 7] (by decide) (by decide) Φ

/-- What is owed while the signals go out. -/
abbrev oweS (c : Dev nD) (t : ℕ) : CellTallies nD τ sig Unit := oweC c 0 + oweD c 0 + oweB c t

theorem oweS_step (c : Dev nD) (k : Fin 8) (hk : k ≠ 0) : oweS c k.val = oweS c (k.val + 1) + tallyAt (barCell (c + k)) () 1 := by
  unfold oweS
  rw [oweB_step c k hk]
  exact (add_assoc _ _ _).symm

/-- The first six signals. -/
theorem part11_run (c : Dev nD) (v2 a b : BitVec 32) (W : Waits sig Unit) :
    iprop(records m K ∗ owes (c : Thread nD τ) (oweS c 1) W ∗ Sig (F := F) c 1 ∗ Sig (F := F) c 2 ∗ Sig (F := F) c 3 ∗ Sig (F := F) c 4 ∗ Sig (F := F) c 5 ∗ Sig (F := F) c 6) ⊢ wp frame (wpE (defs₀ (F := F)) 𝒱₀ (c : Thread nD τ) none) Set.univ
      (k0_part11 (F := F) (Memref.whole cc0_stg0_0) (Memref.isWhole_whole _) (Memref.whole cc0_stg1_0) (Memref.isWhole_whole _) (Memref.whole cc0_stg2_0) (Memref.isWhole_whole _)
    (Memref.whole cc0_stg3_0) (Memref.isWhole_whole _) (Memref.whole cc0_stg4_0) (Memref.isWhole_whole _) (Memref.whole cc0_stg5_0) (Memref.isWhole_whole _)
    (Memref.whole cc0_scratch0) (Memref.isWhole_whole _) (Memref.whole cc0_scratch1) (Memref.isWhole_whole _) (Memref.whole cc0_scratch2) (Memref.isWhole_whole _)
    (Memref.whole cc0_scratch3) (Memref.isWhole_whole _) (Memref.whole cc0_scratch4) (Memref.isWhole_whole _) cc0_scratch5 cc0_scratch6 cc0_scratch7 cc0_scratch8 c v2 (SemArray.scalar (sig.barrier 0 rfl)) a b)
      fun r => iprop(owes (c : Thread nD τ) (oweS c 7) W) := by
  rw [k0_part11_eq_skeleton]
  unfold k0_part11_skel Sig
  iintro ⟨#HR, HO, H1, H2, H3, H4, H5, H6⟩
  iapply (signal_to m K c _ 1 (by decide) (Fin.ext (dev1 c)) (oweS c 1) (oweS c 2) (oweS_step c 1 (by decide)) W) $$ [HO H1]
  · isplitr; · iexact HR
    isplitl [HO] <;> iassumption
  iintro HO
  iapply (signal_to m K c _ 2 (by decide) (Fin.ext (dev2 c)) (oweS c 2) (oweS c 3) (oweS_step c 2 (by decide)) W) $$ [HO H2]
  · isplitr; · iexact HR
    isplitl [HO] <;> iassumption
  iintro HO
  iapply (signal_to m K c _ 3 (by decide) (Fin.ext (dev3 c)) (oweS c 3) (oweS c 4) (oweS_step c 3 (by decide)) W) $$ [HO H3]
  · isplitr; · iexact HR
    isplitl [HO] <;> iassumption
  iintro HO
  iapply (signal_to m K c _ 4 (by decide) (Fin.ext (dev4 c)) (oweS c 4) (oweS c 5) (oweS_step c 4 (by decide)) W) $$ [HO H4]
  · isplitr; · iexact HR
    isplitl [HO] <;> iassumption
  iintro HO
  iapply (signal_to m K c _ 5 (by decide) (Fin.ext (dev5 c)) (oweS c 5) (oweS c 6) (oweS_step c 5 (by decide)) W) $$ [HO H5]
  · isplitr; · iexact HR
    isplitl [HO] <;> iassumption
  iintro HO
  iapply (signal_to m K c _ 6 (by decide) (Fin.ext (dev6 c)) (oweS c 6) (oweS c 7) (oweS_step c 6 (by decide)) W) $$ [HO H6]
  · isplitr; · iexact HR
    isplitl [HO] <;> iassumption
  iintro HO
  simp only [Prog.pure_eq_ret]
  rw [wp_ret]; imodintro
  iexact HO

end Cert.MoE

end
-- ==== Proof.Body.lean ====
/-
The whole body of the kernel on one device: from what the launch gives it to the result it leaves.
-/
module

public import proofs.«01_k».proof.Proof.Loops
public import proofs.«01_k».proof.Proof.Ranks
public import proofs.«01_k».proof.Proof.Handshake
public import Idealize.ShloMosaic.Lib.Ring

@[expose] public section

noncomputable section

namespace Cert.MoE

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × CI → ℕ)

/-! ## Bundles over the eight devices -/

theorem nega : ∀ c k : Fin 8, c - (0 - k) = c + k := by decide
theorem neg_inv : ∀ k : Fin 8, 0 - (0 - k) = k := by decide
theorem add_sub' : ∀ c k : Fin 8, c + k - c = k := by decide
theorem add_sub'' : ∀ c k : Fin 8, c + (k - c) = k := by decide
theorem sub_sub' : ∀ c k : Fin 8, c - (c - k) = k := by decide
theorem neg_zero' : ∀ k : Fin 8, 0 - k = 0 ↔ k = 0 := by decide

/-- Counting the devices from `c` up, and from `c` down; and `k` against `-k`. -/
def up (c : Fin 8) : Fin 8 ≃ Fin 8 := ⟨fun k => c + k, fun k => k - c, fun k => add_sub' c k, fun k => add_sub'' c k⟩
def down (c : Fin 8) : Fin 8 ≃ Fin 8 := ⟨fun k => c - k, fun k => c - k, fun k => sub_sub' c k, fun k => sub_sub' c k⟩

/-- A bundle over the other seven. -/
def others (Φ : Fin 8 → sProp 𝕄) : sProp 𝕄 := bigSep Finset.univ fun k : Fin 8 => if k = 0 then iprop(emp) else Φ k

theorem others_eq (Φ : Fin 8 → sProp 𝕄) : others Φ = bigSep (Finset.univ.erase 0) Φ := by
  unfold others
  rw [bigSep_univ_at _ (0 : Fin 8), if_pos rfl, bigSep_congr (s := Finset.univ.erase (0 : Fin 8)) fun k hk => if_neg (Finset.mem_erase.mp hk).1]
  exact equiv_iff.mp BI.emp_sep
theorem others_neg (Φ : Fin 8 → sProp 𝕄) : others (fun k => Φ (0 - k)) = others Φ := by
  unfold others
  rw [bigSep_univ_equiv (down 0) (fun k : Fin 8 => if k = 0 then iprop(emp) else Φ k)]
  refine bigSep_congr fun k _ => ?_
  show (if k = 0 then iprop(emp) else Φ (0 - k)) = (if (0 - k : Fin 8) = 0 then iprop(emp) else Φ (0 - k))
  by_cases h : k = 0
  · rw [if_pos h, if_pos ((neg_zero' k).mpr h)]
  · rw [if_neg h, if_neg fun h' => h ((neg_zero' k).mp h')]

/-- A stack of slabs, whole, is its slabs in any order; and back. -/
theorem split7 (c : Fin 8) (e : Fin 8 ≃ Fin 8) : iprop(∃ f : S8x512x512.Idx → Elt F .bf16, ((c : Thread nD τ).loc cc0_scratch1) ↦[Finset.univ]{fullShare} f) ⊢ bigSep Finset.univ fun k : Fin 8 => iprop(∃ f, P7 (F := F) c (e k) f) := by
  iintro ⟨%f, H⟩
  ihave H := (Entails.of_eq (Ring.pointsTo_blocks (slab 512 512) (fun _ _ h => slab_disjoint h) slab_cover f)) $$ H
  iapply (Entails.of_eq (bigSep_univ_equiv e (fun s : Fin 8 => iprop(∃ f, P7 (F := F) c s f))))
  iapply (show (bigSep Finset.univ fun s : Fin 8 => (P7 c s f : sProp 𝕄)) ⊢ bigSep Finset.univ fun s : Fin 8 => iprop(∃ f, P7 (F := F) c s f) from
    bigSep_mono fun s _ => show (P7 c s f : sProp 𝕄) ⊢ iprop(∃ f, P7 c s f) from by iintro H; iexists f; iexact H)
  iexact H
include m in
theorem join7 (c : Fin 8) (e : Fin 8 ≃ Fin 8) : (bigSep Finset.univ fun k : Fin 8 => iprop(∃ f, P7 (F := F) c (e k) f)) ⊢ iprop(∃ f : S8x512x512.Idx → Elt F .bf16, ((c : Thread nD τ).loc cc0_scratch1) ↦[Finset.univ]{fullShare} f) := by
  refine (Entails.of_eq (bigSep_univ_equiv e (fun s : Fin 8 => iprop(∃ f, P7 (F := F) c s f))).symm).trans ?_
  exact Ring.pointsTo_blocks_join_exists (ℓ := (c : Thread nD τ).loc cc0_scratch1) (slab 512 512) (fun _ _ h => slab_disjoint h) slab_cover (DS m c)
theorem split6 (c : Fin 8) (e : Fin 8 ≃ Fin 8) : iprop(∃ f : S8x512x512.Idx → Elt F .bf16, ((c : Thread nD τ).loc cc0_scratch0) ↦[Finset.univ]{fullShare} f) ⊢ bigSep Finset.univ fun k : Fin 8 => iprop(∃ f, P6 (F := F) c (e k) f) := by
  iintro ⟨%f, H⟩
  ihave H := (Entails.of_eq (Ring.pointsTo_blocks (slab 512 512) (fun _ _ h => slab_disjoint h) slab_cover f)) $$ H
  iapply (Entails.of_eq (bigSep_univ_equiv e (fun s : Fin 8 => iprop(∃ f, P6 (F := F) c s f))))
  iapply (show (bigSep Finset.univ fun s : Fin 8 => (P6 c s f : sProp 𝕄)) ⊢ bigSep Finset.univ fun s : Fin 8 => iprop(∃ f, P6 (F := F) c s f) from
    bigSep_mono fun s _ => show (P6 c s f : sProp 𝕄) ⊢ iprop(∃ f, P6 c s f) from by iintro H; iexists f; iexact H)
  iexact H
include m in
theorem join6 (c : Fin 8) (e : Fin 8 ≃ Fin 8) : (bigSep Finset.univ fun k : Fin 8 => iprop(∃ f, P6 (F := F) c (e k) f)) ⊢ iprop(∃ f : S8x512x512.Idx → Elt F .bf16, ((c : Thread nD τ).loc cc0_scratch0) ↦[Finset.univ]{fullShare} f) := by
  refine (Entails.of_eq (bigSep_univ_equiv e (fun s : Fin 8 => iprop(∃ f, P6 (F := F) c s f))).symm).trans ?_
  exact Ring.pointsTo_blocks_join_exists (ℓ := (c : Thread nD τ).loc cc0_scratch0) (slab 512 512) (fun _ _ h => slab_disjoint h) slab_cover (DS m c)
theorem split8 (c : Fin 8) (e : Fin 8 ≃ Fin 8) : iprop(∃ f : S8x512x1024.Idx → Elt F .bf16, ((c : Thread nD τ).loc cc0_scratch2) ↦[Finset.univ]{fullShare} f) ⊢ bigSep Finset.univ fun k : Fin 8 => iprop(∃ f, P8 (F := F) c (e k) f) := by
  iintro ⟨%f, H⟩
  ihave H := (Entails.of_eq (Ring.pointsTo_blocks (slab 512 1024) (fun _ _ h => slab_disjoint h) slab_cover f)) $$ H
  iapply (Entails.of_eq (bigSep_univ_equiv e (fun s : Fin 8 => iprop(∃ f, P8 (F := F) c s f))))
  iapply (show (bigSep Finset.univ fun s : Fin 8 => (P8 c s f : sProp 𝕄)) ⊢ bigSep Finset.univ fun s : Fin 8 => iprop(∃ f, P8 (F := F) c s f) from
    bigSep_mono fun s _ => show (P8 c s f : sProp 𝕄) ⊢ iprop(∃ f, P8 c s f) from by iintro H; iexists f; iexact H)
  iexact H
include m in
theorem join8 (c : Fin 8) (e : Fin 8 ≃ Fin 8) : (bigSep Finset.univ fun k : Fin 8 => iprop(∃ f, P8 (F := F) c (e k) f)) ⊢ iprop(∃ f : S8x512x1024.Idx → Elt F .bf16, ((c : Thread nD τ).loc cc0_scratch2) ↦[Finset.univ]{fullShare} f) := by
  refine (Entails.of_eq (bigSep_univ_equiv e (fun s : Fin 8 => iprop(∃ f, P8 (F := F) c s f))).symm).trans ?_
  exact Ring.pointsTo_blocks_join_exists (ℓ := (c : Thread nD τ).loc cc0_scratch2) (slab 512 1024) (fun _ _ h => slab_disjoint h) slab_cover (CR m c)
theorem split9 (c : Fin 8) (e : Fin 8 ≃ Fin 8) : iprop(∃ f : S8x512x1024.Idx → Elt F .bf16, ((c : Thread nD τ).loc cc0_scratch3) ↦[Finset.univ]{fullShare} f) ⊢ bigSep Finset.univ fun k : Fin 8 => iprop(∃ f, P9 (F := F) c (e k) f) := by
  iintro ⟨%f, H⟩
  ihave H := (Entails.of_eq (Ring.pointsTo_blocks (slab 512 1024) (fun _ _ h => slab_disjoint h) slab_cover f)) $$ H
  iapply (Entails.of_eq (bigSep_univ_equiv e (fun s : Fin 8 => iprop(∃ f, P9 (F := F) c s f))))
  iapply (show (bigSep Finset.univ fun s : Fin 8 => (P9 c s f : sProp 𝕄)) ⊢ bigSep Finset.univ fun s : Fin 8 => iprop(∃ f, P9 (F := F) c s f) from
    bigSep_mono fun s _ => show (P9 c s f : sProp 𝕄) ⊢ iprop(∃ f, P9 c s f) from by iintro H; iexists f; iexact H)
  iexact H
include m in
theorem join9 (c : Fin 8) (e : Fin 8 ≃ Fin 8) : (bigSep Finset.univ fun k : Fin 8 => iprop(∃ f, P9 (F := F) c (e k) f)) ⊢ iprop(∃ f : S8x512x1024.Idx → Elt F .bf16, ((c : Thread nD τ).loc cc0_scratch3) ↦[Finset.univ]{fullShare} f) := by
  refine (Entails.of_eq (bigSep_univ_equiv e (fun s : Fin 8 => iprop(∃ f, P9 (F := F) c s f))).symm).trans ?_
  exact Ring.pointsTo_blocks_join_exists (ℓ := (c : Thread nD τ).loc cc0_scratch3) (slab 512 1024) (fun _ _ h => slab_disjoint h) slab_cover (CR m c)

/-! ## What a device starts from, share by share -/

/-- What the launch gives device `c` for its `k`-th partner: its places at its copy cells, and, unless that is itself, the
    rights to the payments it makes and the credit of those it waits for. -/
def Gk (c k : Fin 8) : sProp 𝕄 :=
  iprop((atPos ER (dcell c 0 k) 0 ∅ 0 ∗ atPos ER (dcell c 1 (c - k)) 0 ∅ 0 ∗ atPos ER (dcell c 2 k) 0 ∅ 0 ∗ atPos ER (dcell c 3 (c + k)) 0 ∅ 0)
    ∗ (if k = 0 then iprop(emp) else iprop(dutyTok ER (dcell (c + k) 1 c) 0 0 ∗ dutyTok ER (dcell c 0 k) 0 0 ∗ dutyTok ER (dcell (c - k) 3 c) 0 0 ∗ dutyTok ER (dcell c 2 k) 0 0
        ∗ cred (tallyAt (dcell c 1 (c - k)) () N1) ∗ cred (tallyAt (dcell c 3 (c + k)) () N2))))

/-- The barrier payments and the share of each of the four stacks, sorted by partner before the handshake. -/
def Own7 (c k : Fin 8) : sProp 𝕄 := if k = 0 then iprop((∃ f, P7 (F := F) c c f) ∗ (∃ f, P9 (F := F) c c f)) else Sig (F := F) c k

theorem own7_intro (c : Fin 8) :
    iprop((bigSep Finset.univ fun k : Fin 8 => iprop(∃ f, P7 (F := F) c (up c k) f)) ∗ (bigSep Finset.univ fun k : Fin 8 => iprop(∃ f, P9 (F := F) c (up c k) f))
        ∗ others fun k => dutyTok ER (barCell (c + k)) 0 k)
      ⊢ bigSep Finset.univ (Own7 (F := F) c) := by
  unfold others
  rw [← bigSep_sep', ← bigSep_sep']
  refine bigSep_mono fun k _ => ?_
  unfold Own7 Sig
  show iprop((∃ f, P7 (F := F) c (c + k) f) ∗ (∃ f, P9 (F := F) c (c + k) f) ∗ if k = 0 then iprop(emp) else dutyTok ER (barCell (c + k)) 0 k) ⊢ _
  by_cases hk : k = 0
  · simp only [if_pos hk]
    rw [hk, c_add_none]
    iintro ⟨H7, H9, -⟩
    isplitl [H7] <;> iassumption
  · simp only [if_neg hk]
    iintro ⟨H7, H9, H⟩
    isplitl [H]; · iexact H
    isplitl [H7] <;> iassumption

/-- What is carried past the first loop, past the second, past the third and past the last. -/
def R1 (c k : Fin 8) : sProp 𝕄 :=
  iprop((∃ f, P8 (F := F) c (c - k) f) ∗ atPos ER (dcell c 0 k) 0 ∅ 0 ∗ atPos ER (dcell c 1 (c - k)) 0 ∅ 0 ∗ atPos ER (dcell c 2 k) 0 ∅ 0 ∗ atPos ER (dcell c 3 (c + k)) 0 ∅ 0
    ∗ (if k = 0 then iprop((∃ f, P7 (F := F) c c f) ∗ (∃ f, P9 (F := F) c c f)) else iprop((∃ f, P9 (F := F) (c - k) c f) ∗ dutyTok ER (dcell (c - k) 3 c) 0 0 ∗ dutyTok ER (dcell c 2 k) 0 0
        ∗ cred (tallyAt (dcell c 1 (c - k)) () N1) ∗ cred (tallyAt (dcell c 3 (c + k)) () N2))))
def R2 (c k : Fin 8) : sProp 𝕄 :=
  iprop(atPos ER (dcell c 0 k) 0 ∅ 0 ∗ atPos ER (dcell c 2 k) 0 ∅ 0 ∗ atPos ER (dcell c 3 (c + k)) 0 ∅ 0
    ∗ (if k = 0 then iprop(emp) else iprop(cred (tallyAt (dcell c 0 k) () N1) ∗ cred (tallyAt (dcell c 3 (c + k)) () N2))))
def R3 (c k : Fin 8) : sProp 𝕄 :=
  iprop((∃ f, P7 (F := F) c (c - k) f) ∗ semVal (dcell c 1 (c - k)) 0 ∗ atPos ER (dcell c 0 k) 0 ∅ 0 ∗ atPos ER (dcell c 2 k) 0 ∅ 0
    ∗ (if k = 0 then iprop((∃ f, P6 (F := F) c c f) ∗ (∃ f, P8 (F := F) c c f)) else iprop(cred (tallyAt (dcell c 0 k) () N1) ∗ cred (tallyAt (dcell c 2 k) () N2))))
def R4 (c k : Fin 8) : sProp 𝕄 :=
  iprop((∃ f, P7 (F := F) c (c - k) f) ∗ semVal (dcell c 1 (c - k)) 0 ∗ (∃ f, P9 (F := F) c (c + k) f) ∗ semVal (dcell c 3 (c + k)) 0)

/-- The handshake done, the shares are those of the first loop, and what is carried past it. -/
theorem start1 (c : Fin 8) :
    iprop((bigSep Finset.univ fun k : Fin 8 => iprop(∃ f, P6 (F := F) c (up c k) f)) ∗ (bigSep Finset.univ fun k : Fin 8 => iprop(∃ f, P8 (F := F) c (down c k) f)) ∗ (bigSep Finset.univ (Gk (F := F) c))
        ∗ ((∃ f, P7 (F := F) c c f) ∗ (∃ f, P9 (F := F) c c f)) ∗ bigSep (Finset.univ.erase 0) fun d : Fin 8 => iprop((∃ f, P7 (F := F) (c - d) c f) ∗ (∃ f, P9 (F := F) (c - d) c f)))
      ⊢ iprop(bigSep Finset.univ (Todo1 (F := F) c) ∗ bigSep Finset.univ (R1 (F := F) c)) := by
  rw [bigSep_sep', ← others_eq (fun d : Fin 8 => iprop(∃ f, P7 (F := F) (c - d) c f)), ← others_neg (fun d : Fin 8 => iprop(∃ f, P7 (F := F) (c - d) c f)), ← others_eq]
  have hz : iprop((∃ f, P7 (F := F) c c f) ∗ (∃ f, P9 (F := F) c c f)) ⊢ bigSep Finset.univ fun k : Fin 8 => if k = 0 then iprop((∃ f, P7 (F := F) c c f) ∗ (∃ f, P9 (F := F) c c f)) else iprop(emp) := by
    rw [bigSep_univ_at _ (0 : Fin 8), if_pos rfl, bigSep_congr (s := Finset.univ.erase (0 : Fin 8)) (Ψ := fun _ => iprop(emp)) fun k hk => if_neg (Finset.mem_erase.mp hk).1]
    iintro H
    isplitl [H]; · iexact H
    iapply (BI.bigSep_of_persistent (Finset.univ.erase (0 : Fin 8)) (iprop(emp) : sProp 𝕄))
    iempintro
  refine (sep_mono_right (sep_mono_right (sep_mono_right (sep_mono_left hz)))).trans ?_
  unfold others
  simp only [← bigSep_sep']
  refine bigSep_mono fun k _ => ?_
  unfold Gk Todo1 R1
  show iprop((∃ f, P6 (F := F) c (c + k) f) ∗ (∃ f, P8 (F := F) c (c - k) f) ∗ _) ⊢ _
  rw [nega]
  by_cases hk : k = 0
  · simp only [if_pos hk]
    iintro ⟨H6, H8, ⟨⟨Ha, Hb, Hc, Hd⟩, -⟩, H79, -, -⟩
    isplitl [H6]
    · isplitl [H6]; · iexact H6
      iempintro
    isplitl [H8]; · iexact H8
    isplitl [Ha]; · iexact Ha
    isplitl [Hb]; · iexact Hb
    isplitl [Hc]; · iexact Hc
    isplitl [Hd] <;> iassumption
  · simp only [if_neg hk]
    iintro ⟨H6, H8, ⟨⟨Ha, Hb, Hc, Hd⟩, Ht1, Ht0, Ht3, Ht2, Hc1, Hc3⟩, -, H7, H9⟩
    isplitl [H6 H7 Ht1 Ht0]
    · isplitl [H6]; · iexact H6
      isplitl [H7]; · iexact H7
      isplitl [Ht1] <;> iassumption
    isplitl [H8]; · iexact H8
    isplitl [Ha]; · iexact Ha
    isplitl [Hb]; · iexact Hb
    isplitl [Hc]; · iexact Hc
    isplitl [Hd]; · iexact Hd
    isplitl [H9]; · iexact H9
    isplitl [Ht3]; · iexact Ht3
    isplitl [Ht2]; · iexact Ht2
    isplitl [Hc1] <;> iassumption

theorem start2 (c : Fin 8) : iprop(bigSep Finset.univ (Done1 m c) ∗ bigSep Finset.univ (R1 (F := F) c)) ⊢ iprop(bigSep Finset.univ (Todo2 m c) ∗ bigSep Finset.univ (R2 (F := F) c)) := by
  simp only [← bigSep_sep']
  refine bigSep_mono fun k _ => ?_
  show (_ : sProp 𝕄) ⊢ _
  unfold Done1 R1 Todo2 R2
  by_cases hk : k = 0
  · simp only [if_pos hk]
    iintro ⟨H6, H8, Ha, Hb, Hc, Hd, H7, H9⟩
    isplitl [H6 H8 Hb H7 H9]
    · isplitl [H8]; · iexact H8
      isplitl [Hb]; · iexact Hb
      isplitl [H7]; · iexact H7
      isplitl [H9] <;> iassumption
    isplitl [Ha]; · iexact Ha
    isplitl [Hc]; · iexact Hc
    isplitl [Hd]; · iexact Hd
    iempintro
  · simp only [if_neg hk]
    iintro ⟨Hc0, H8, Ha, Hb, Hc, Hd, H9, Ht3, Ht2, Hc1, Hc3⟩
    isplitl [H8 Hb Hc1 H9 Ht3 Ht2]
    · isplitl [H8]; · iexact H8
      isplitl [Hb]; · iexact Hb
      isplitl [Hc1]; · iexact Hc1
      isplitl [H9]; · iexact H9
      isplitl [Ht3] <;> iassumption
    isplitl [Ha]; · iexact Ha
    isplitl [Hc]; · iexact Hc
    isplitl [Hd]; · iexact Hd
    isplitl [Hc0] <;> iassumption

theorem start3 (c : Fin 8) : iprop(bigSep Finset.univ (Done2 m c) ∗ bigSep Finset.univ (R2 (F := F) c)) ⊢ iprop(bigSep Finset.univ (Todo3 m c) ∗ bigSep Finset.univ (R3 (F := F) c)) := by
  simp only [← bigSep_sep']
  refine bigSep_mono fun k _ => ?_
  show (_ : sProp 𝕄) ⊢ _
  unfold Done2 R2 Todo3 R3
  by_cases hk : k = 0
  · simp only [if_pos hk]
    iintro ⟨⟨H7, Hz, H6, H9, H8⟩, Ha, Hc, Hd, -⟩
    isplitl [Hd H9]
    · isplitl [Hd] <;> iassumption
    isplitl [H7]; · iexact H7
    isplitl [Hz]; · iexact Hz
    isplitl [Ha]; · iexact Ha
    isplitl [Hc]; · iexact Hc
    isplitl [H6] <;> iassumption
  · simp only [if_neg hk]
    iintro ⟨⟨H7, Hz, Hc2⟩, Ha, Hc, Hd, Hc0, Hc3⟩
    isplitl [Hd Hc3]
    · isplitl [Hd] <;> iassumption
    isplitl [H7]; · iexact H7
    isplitl [Hz]; · iexact Hz
    isplitl [Ha]; · iexact Ha
    isplitl [Hc]; · iexact Hc
    isplitl [Hc0] <;> iassumption

theorem start4 (c : Fin 8) : iprop(bigSep Finset.univ (Done3 (F := F) c) ∗ bigSep Finset.univ (R3 (F := F) c)) ⊢ iprop(bigSep Finset.univ (Todo4 (F := F) c) ∗ bigSep Finset.univ (R4 (F := F) c)) := by
  simp only [← bigSep_sep']
  refine bigSep_mono fun k _ => ?_
  show (_ : sProp 𝕄) ⊢ _
  unfold Done3 R3 Todo4 R4
  iintro ⟨⟨H9, Hz3⟩, H7, Hz1, Ha, Hc, H⟩
  isplitl [Ha Hc H]
  · isplitl [Ha]; · iexact Ha
    isplitl [Hc] <;> iassumption
  isplitl [H7]; · iexact H7
  isplitl [Hz1]; · iexact Hz1
  isplitl [H9] <;> iassumption

/-- Every copy cell of the device at zero. -/
def Zk (c k : Fin 8) : sProp 𝕄 := iprop(semVal (dcell c 0 k) 0 ∗ semVal (dcell c 1 (c - k)) 0 ∗ semVal (dcell c 2 k) 0 ∗ semVal (dcell c 3 (c + k)) 0)

theorem finish (c : Fin 8) : iprop(bigSep Finset.univ (Done4 (F := F) c) ∗ bigSep Finset.univ (R4 (F := F) c))
    ⊢ iprop(bigSep Finset.univ (Zk (F := F) c) ∗ (bigSep Finset.univ fun k : Fin 8 => iprop(∃ f, P6 (F := F) c (up c k) f)) ∗ (bigSep Finset.univ fun k : Fin 8 => iprop(∃ f, P7 (F := F) c (down c k) f))
      ∗ (bigSep Finset.univ fun k : Fin 8 => iprop(∃ f, P8 (F := F) c (down c k) f)) ∗ (bigSep Finset.univ fun k : Fin 8 => iprop(∃ f, P9 (F := F) c (up c k) f))) := by
  simp only [← bigSep_sep']
  refine bigSep_mono fun k _ => ?_
  unfold Done4 R4 Zk
  show _ ⊢ iprop(_ ∗ (∃ f, P6 (F := F) c (c + k) f) ∗ (∃ f, P7 (F := F) c (c - k) f) ∗ (∃ f, P8 (F := F) c (c - k) f) ∗ (∃ f, P9 (F := F) c (c + k) f))
  iintro ⟨⟨H6, H8, Hz0, Hz2⟩, H7, Hz1, H9, Hz3⟩
  isplitl [Hz0 Hz1 Hz2 Hz3]
  · isplitl [Hz0]; · iexact Hz0
    isplitl [Hz1]; · iexact Hz1
    isplitl [Hz2] <;> iassumption
  isplitl [H6]; · iexact H6
  isplitl [H7]; · iexact H7
  isplitl [H8] <;> iassumption

/-! ## The body -/

/-- The four stacks and the buffer of ranks, at whatever they hold. -/
def Scr (c : Dev nD) : sProp 𝕄 :=
  iprop((∃ f : S8x512x512.Idx → Elt F .bf16, ((c : Thread nD τ).loc cc0_scratch0) ↦[Finset.univ]{fullShare} f)
    ∗ (∃ f : S8x512x512.Idx → Elt F .bf16, ((c : Thread nD τ).loc cc0_scratch1) ↦[Finset.univ]{fullShare} f)
    ∗ (∃ f : S8x512x1024.Idx → Elt F .bf16, ((c : Thread nD τ).loc cc0_scratch2) ↦[Finset.univ]{fullShare} f)
    ∗ (∃ f : S8x512x1024.Idx → Elt F .bf16, ((c : Thread nD τ).loc cc0_scratch3) ↦[Finset.univ]{fullShare} f)
    ∗ (∃ f : S2048x1.Idx → Elt F .f32, ((c : Thread nD τ).loc cc0_scratch4) ↦[Finset.univ]{fullShare} f))

/-- The staged inputs. -/
def Ins (c : Dev nD) : sProp 𝕄 := iprop(PX m c ∗ PRt m c ∗ PI m c ∗ PE m c ∗ PS m c)

/-- What a device starts from, of the protocol. -/
def Prot (c : Dev nD) : sProp 𝕄 :=
  iprop(records m K ∗ levAts L lv ∗ cred (tallyAt (barCell c) () 7) ∗ atPos ER (barCell c) 0 ∅ 0 ∗ (others fun k => dutyTok ER (barCell (c + k)) 0 k) ∗ bigSep Finset.univ (Gk (F := F) c))

theorem body_run (c : Dev nD) :
    iprop(Prot m K c ∗ Ins m c ∗ (∃ f, PO (F := F) c f) ∗ Scr (F := F) c ∗ ∃ W, owes (c : Thread nD τ) (O₀ c) W)
      ⊢ wp frame (wpE (defs₀ (F := F)) 𝒱₀ (c : Thread nD τ) none) Set.univ (cc0__body (F := F) (Memref.whole cc0_stg0_0) (Memref.isWhole_whole _) (Memref.whole cc0_stg1_0) (Memref.isWhole_whole _) (Memref.whole cc0_stg2_0) (Memref.isWhole_whole _)
        (Memref.whole cc0_stg3_0) (Memref.isWhole_whole _) (Memref.whole cc0_stg4_0) (Memref.isWhole_whole _) (Memref.whole cc0_stg5_0) (Memref.isWhole_whole _)
        (Memref.whole cc0_scratch0) (Memref.isWhole_whole _) (Memref.whole cc0_scratch1) (Memref.isWhole_whole _) (Memref.whole cc0_scratch2) (Memref.isWhole_whole _)
        (Memref.whole cc0_scratch3) (Memref.isWhole_whole _) (Memref.whole cc0_scratch4) (Memref.isWhole_whole _) cc0_scratch5 cc0_scratch6 cc0_scratch7 cc0_scratch8)
        fun _ => iprop(Ins m c ∗ PO c (ACC m c 8) ∗ Scr (F := F) c ∗ semVal (barCell c) 0 ∗ bigSep Finset.univ (Zk (F := F) c) ∗ ∃ W, owes (c : Thread nD τ) 0 W) := by
  rw [cc0__body_eq_skeleton]
  unfold cc0__body_skel Prot Ins Scr
  iintro ⟨⟨#HR, #Hlev, Hcb, Hab, Htb, HG⟩, ⟨HX, HRt, HI, HE, HS⟩, HP, ⟨H6, H7, H8, H9, ⟨%f4, H4⟩⟩, ⟨%W, HO⟩⟩
  iapply (seq (part4_run m c)) $$ [HX HRt HI HS HP]
  · isplitl [HX]; · iexact HX
    isplitl [HRt]; · iexact HRt
    isplitl [HI]; · iexact HI
    isplitl [HS] <;> iassumption
  iintro %r ⟨%hr, HX, HRt, HI, HS, HP⟩
  subst hr
  iapply (seq (part5_run c (oh m c))) $$ [H4]
  · iapply (rk_zero c (oh m c) f4); iexact H4
  iintro %r ⟨%hr, H4⟩
  subst hr
  iapply (seq (part6_run c (oh m c))) $$ H4
  iintro %r ⟨%hr, H4⟩
  subst hr
  iapply (seq (part7_run c (oh m c))) $$ H4
  iintro %r ⟨%hr, H4⟩
  subst hr
  iapply (seq (part8_run c (oh m c))) $$ H4
  iintro %r ⟨%hr, H4⟩
  subst hr
  iapply (seq (part9_run c (oh m c))) $$ H4
  iintro %r ⟨%hr, H4⟩
  subst hr
  iapply (seq (part10_run m c (v2w c))) $$ [H4 HI]
  · isplitl [H4] <;> iassumption
  iintro %r ⟨%hr, H4, HI⟩
  subst hr
  ihave H7 := (split7 c (up c)) $$ H7
  ihave H9 := (split9 c (up c)) $$ H9
  ihave H6 := (split6 c (up c)) $$ H6
  ihave H8 := (split8 c (down c)) $$ H8
  ihave Ho := (own7_intro c) $$ [H7 H9 Htb]
  · isplitl [H7]; · iexact H7
    isplitl [H9] <;> iassumption
  ihave Ho := (Entails.of_eq (show bigSep Finset.univ (Own7 (F := F) c) = iprop(((∃ f, P7 (F := F) c c f) ∗ (∃ f, P9 (F := F) c c f))
      ∗ Sig (F := F) c 1 ∗ Sig (F := F) c 2 ∗ Sig (F := F) c 3 ∗ Sig (F := F) c 4 ∗ Sig (F := F) c 5 ∗ Sig (F := F) c 6 ∗ Sig (F := F) c 7) from by
    rw [bigSep_univ_at _ (0 : Fin 8), sevens]; rfl)) $$ Ho
  icases Ho with ⟨Hself, G1, G2, G3, G4, G5, G6, G7⟩
  iapply (seq (part11_run m K c (v2w c) (Scalar.remsi (Scalar.addi (v2w c) 1#32) 8#32) 1#32 W)) $$ [HO G1 G2 G3 G4 G5 G6]
  · isplitr; · iexact HR
    isplitl [HO]
    · iapply (Entails.of_eq (show (owes (c : Thread nD τ) (O₀ c) W : sProp 𝕄) = owes (c : Thread nD τ) (oweS c 1) W from by unfold O₀ oweS; rw [oweB_zero])); iexact HO
    isplitl [G1]; · iexact G1
    isplitl [G2]; · iexact G2
    isplitl [G3]; · iexact G3
    isplitl [G4]; · iexact G4
    isplitl [G5] <;> iassumption
  iintro %r HO
  unfold Sig
  iapply (signal_to m K c _ 7 (by decide) (Fin.ext (dev7 c)) (oweS c 7) (oweC c 0 + oweD c 0)
      ((oweS_step c 7 (by decide)).trans (by unfold oweS; rw [show ((7 : Fin 8).val + 1) = 8 from rfl, oweB_end, add_zero])) W) $$ [HO G7]
  · isplitr; · iexact HR
    isplitl [HO] <;> iassumption
  iintro HO
  iapply (await_all m K c W) $$ [Hcb HO Hab]
  · isplitr; · iexact HR
    isplitr; · iexact Hlev
    isplitl [Hcb]; · iexact Hcb
    isplitl [HO] <;> iassumption
  iintro ⟨HO, Hzb, Hothers⟩
  ihave HT := (start1 c) $$ [H6 H8 HG Hself Hothers]
  · isplitl [H6]; · iexact H6
    isplitl [H8]; · iexact H8
    isplitl [HG]; · iexact HG
    isplitl [Hself] <;> iassumption
  icases HT with ⟨HT, HC⟩
  iapply (loop1 m K c) $$ [HT HO]
  · isplitr; · iexact HR
    isplitl [HT]; · iexact HT
    iexists _
    iexact HO
  iintro ⟨HT, HO⟩
  ihave HT := (start2 m c) $$ [HT HC]
  · isplitl [HT] <;> iassumption
  icases HT with ⟨HT, HC⟩
  iapply (loop2 m K c) $$ [HE HT HO]
  · isplitr; · iexact HR
    isplitr; · iexact Hlev
    isplitl [HE]; · iexact HE
    isplitl [HT] <;> iassumption
  iintro ⟨HE, HT, HO⟩
  ihave HT := (start3 m c) $$ [HT HC]
  · isplitl [HT] <;> iassumption
  icases HT with ⟨HT, HC⟩
  iapply (loop3 m K c) $$ [HP HT HO]
  · isplitr; · iexact HR
    isplitr; · iexact Hlev
    isplitl [HP]; · iexact HP
    isplitl [HT] <;> iassumption
  iintro ⟨HP, HT, HO⟩
  ihave HT := (start4 c) $$ [HT HC]
  · isplitl [HT] <;> iassumption
  icases HT with ⟨HT, HC⟩
  iapply (loop4 m K c) $$ [HT HO]
  · isplitr; · iexact HR
    isplitr; · iexact Hlev
    isplitl [HT] <;> iassumption
  iintro ⟨HT, HO⟩
  ihave HT := (finish c) $$ [HT HC]
  · isplitl [HT] <;> iassumption
  icases HT with ⟨HZ, H6, H7, H8, H9⟩
  simp only [Prog.pure_eq_ret]
  rw [wp_ret]; imodintro
  isplitl [HX HRt HI HE HS]
  · isplitl [HX]; · iexact HX
    isplitl [HRt]; · iexact HRt
    isplitl [HI]; · iexact HI
    isplitl [HE] <;> iassumption
  isplitl [HP]; · iexact HP
  isplitl [H6 H7 H8 H9 H4]
  · isplitl [H6]; · iapply (join6 m c (up c)); iexact H6
    isplitl [H7]; · iapply (join7 m c (down c)); iexact H7
    isplitl [H8]; · iapply (join8 m c (down c)); iexact H8
    isplitl [H9]; · iapply (join9 m c (up c)); iexact H9
    iexact H4
  isplitl [Hzb]; · iexact Hzb
  isplitl [HZ] <;> iassumption

end Cert.MoE

end
-- ==== Proof.Run.lean ====
/-
The run of the kernel on the eight devices: what the launch deals each of them, and what the memory holds at the end.
-/
module

public import proofs.«01_k».proof.Proof.Body
public import proofs.«01_k».proof.Proof.Gen.KernelIdeal.Points
public import Idealize.ShloMosaic.Lib.Pipeline.CollectiveSegs

@[expose] public section

noncomputable section

namespace Cert.MoE

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The proof data -/

def start (c : Dev nD) : sProp 𝕄 := iprop(∃ K, Prot m K c)
def Φ₀ (c : Dev nD) : sProp 𝕄 := iprop(start m c ∗ Scr (F := F) c)
def Φ₁ (c : Dev nD) : sProp 𝕄 := iprop(Scr (F := F) c ∗ semVal (barCell c) 0 ∗ bigSep Finset.univ (Zk (F := F) c))

def dats (_ : Fin 1) (c : Dev nD) : Dat τ (Elt F) Unit ℕ UU ℕ cfg0 c where
  A w := m ((cfg0.win w).arr.view.loc (c : Thread nD τ))
  after w _ := match w with
    | ⟨0, _⟩ => xS m c
    | ⟨1, _⟩ => rS m c
    | ⟨2, _⟩ => iS m c
    | ⟨3, _⟩ => eS m c
    | ⟨4, _⟩ => sS m c
    | ⟨5, _⟩ => ACC m c 8
  Φ t := match t with
    | ⟨0, _⟩ => Φ₀ m c
    | ⟨_ + 1, _⟩ => Φ₁ c
  q _ := fullShare
  owed t := match t with
    | ⟨0, _⟩ => O₀ c
    | ⟨_ + 1, _⟩ => 0

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m c ∗ (dats m 0 c).owesAt () t0_0.castSucc
    ∗ (∃ d, stg c cc0_stg0_0 ((dats m 0 c).before (0 : Fin 6) t0_0 d)) ∗ (∃ d, stg c cc0_stg1_0 ((dats m 0 c).before (1 : Fin 6) t0_0 d))
    ∗ (∃ d, stg c cc0_stg2_0 ((dats m 0 c).before (2 : Fin 6) t0_0 d)) ∗ (∃ d, stg c cc0_stg3_0 ((dats m 0 c).before (3 : Fin 6) t0_0 d))
    ∗ (∃ d, stg c cc0_stg4_0 ((dats m 0 c).before (4 : Fin 6) t0_0 d)) ∗ (∃ d, stg c cc0_stg5_0 ((dats m 0 c).before (5 : Fin 6) t0_0 d)))
def bodyPost (c : Dev nD) : sProp 𝕄 :=
  iprop(Φ₁ c ∗ (dats m 0 c).owesAt () t0_0.succ
    ∗ stg c cc0_stg0_0 (xS m c) ∗ stg c cc0_stg1_0 (rS m c) ∗ stg c cc0_stg2_0 (iS m c) ∗ stg c cc0_stg3_0 (eS m c)
    ∗ stg c cc0_stg4_0 (sS m c) ∗ stg c cc0_stg5_0 (ACC m c 8))

theorem sound_body (c : Dev nD) :
    bodyPre m c ⊢ wp frame (wpE (defs₀ (F := F)) 𝒱₀ c none) Set.univ (cc0__body (F := F) (Memref.whole cc0_stg0_0) (Memref.isWhole_whole _) (Memref.whole cc0_stg1_0) (Memref.isWhole_whole _) (Memref.whole cc0_stg2_0) (Memref.isWhole_whole _)
        (Memref.whole cc0_stg3_0) (Memref.isWhole_whole _) (Memref.whole cc0_stg4_0) (Memref.isWhole_whole _) (Memref.whole cc0_stg5_0) (Memref.isWhole_whole _)
        (Memref.whole cc0_scratch0) (Memref.isWhole_whole _) (Memref.whole cc0_scratch1) (Memref.isWhole_whole _) (Memref.whole cc0_scratch2) (Memref.isWhole_whole _)
        (Memref.whole cc0_scratch3) (Memref.isWhole_whole _) (Memref.whole cc0_scratch4) (Memref.isWhole_whole _) cc0_scratch5 cc0_scratch6 cc0_scratch7 cc0_scratch8) (fun _ => bodyPost m c) := by
  unfold bodyPre Φ₀ start
  iintro ⟨⟨⟨%K, HP⟩, Hscr⟩, Ho, ⟨%d0, %g0, %hg0, H0⟩, ⟨%d1, %g1, %hg1, H1⟩, ⟨%d2, %g2, %hg2, H2⟩, ⟨%d3, %g3, %hg3, H3⟩, ⟨%d4, %g4, %hg4, H4⟩, ⟨%d5, %g5, %hg5, H5⟩⟩
  have e0 : g0 = xS m c := by rw [hg0]; unfold Dat.before; rw [if_pos (fetch0_0 t0_0)]; rfl
  have e1 : g1 = rS m c := by rw [hg1]; unfold Dat.before; rw [if_pos (fetch0_1 t0_0)]; rfl
  have e2 : g2 = iS m c := by rw [hg2]; unfold Dat.before; rw [if_pos (fetch0_2 t0_0)]; rfl
  have e3 : g3 = eS m c := by rw [hg3]; unfold Dat.before; rw [if_pos (fetch0_3 t0_0)]; rfl
  have e4 : g4 = sS m c := by rw [hg4]; unfold Dat.before; rw [if_pos (fetch0_4 t0_0)]; rfl
  subst e0 e1 e2 e3 e4
  unfold Dat.owesAt Pipeline.owesWithin
  icases Ho with ⟨%W, %hW, HO⟩
  rw [show (dats m 0 c).owed t0_0.castSucc = O₀ c from rfl]
  iapply (wp_mono' (body_run m K c)) $$ [HP Hscr HO H0 H1 H2 H3 H4 H5]
  · isplitl [HP]; · iexact HP
    isplitl [H0 H1 H2 H3 H4]
    · unfold Ins
      isplitl [H0]; · iexact H0
      isplitl [H1]; · iexact H1
      isplitl [H2]; · iexact H2
      isplitl [H3]; · iexact H3
      iexact H4
    isplitl [H5]; · iexists g5; iexact H5
    isplitl [Hscr]; · iexact Hscr
    iexists W
    iexact HO
  unfold Ins
  iintro %r ⟨⟨H0, H1, H2, H3, H4⟩, H5, Hscr, Hzb, HZ, ⟨%W', HO⟩⟩
  unfold bodyPost Φ₁ Dat.owesAt Pipeline.owesWithin
  rw [show (dats m 0 c).owed t0_0.succ = 0 from rfl]
  isplitl [Hscr Hzb HZ]
  · isplitl [Hscr]; · iexact Hscr
    isplitl [Hzb] <;> iassumption
  isplitl [HO]
  · iexists W'
    isplitr; · ipureintro; exact fun _ _ => Or.inl trivial
    iexact HO
  isplitl [H0]; · (iexists _; isplitr; · (ipureintro; rfl)); iexact H0
  isplitl [H1]; · (iexists _; isplitr; · (ipureintro; rfl)); iexact H1
  isplitl [H2]; · (iexists _; isplitr; · (ipureintro; rfl)); iexact H2
  isplitl [H3]; · (iexists _; isplitr; · (ipureintro; rfl)); iexact H3
  isplitl [H4]; · (iexists _; isplitr; · (ipureintro; rfl)); iexact H4
  (iexists _; isplitr; · (ipureintro; rfl)); iexact H5

set_option maxRecDepth 4000 in
theorem body_obligation (c : Dev nD) : BodyObligation (dats (F := F) m 0 c) (defs₀ (F := F)) 𝒱₀ () Set.univ := fun t => by
  rw [fin_N0 t]
  rw [bigSep_W0, bigSep_W0]
  simp only [owns_whole_eq]
  exact sound_body m c

/-! ## What the launch deals -/

/-- The kernel's own semaphores. -/
abbrev osem : Fin 4 × Fin 8 → SemLoc sig := fun ak => .dma (dq ak.1 ak.2)

theorem ownSemFacts : Pipeline.OwnSemFacts cfg0.spec osem := by decide

theorem share_eq (c : Dev nD) (w : Fin cfg0.W) : (dats m 0 c).share w = fullShare := by unfold Dat.share; split <;> rfl

def protCells : Finset (GSem nD τ sig) := Finset.univ.map ⟨kcell, kcell_injective⟩

/-- The payments device `c` makes towards its `k`-th partner: a barrier signal, a landing of tokens, the send's completion,
    a landing of answers, that send's completion. -/
def tokOf : Dev nD × Fin 8 × Fin 5 → GSem nD τ sig × ℕ × Fin 8
  | (c, k, 0) => (barCell (c + k), 0, k)
  | (c, k, 1) => (dcell (c + k) 1 c, 0, 0)
  | (c, k, 2) => (dcell c 0 k, 0, 0)
  | (c, k, 3) => (dcell (c - k) 3 c, 0, 0)
  | (c, k, 4) => (dcell c 2 k, 0, 0)

theorem cell_inj {c c' : Dev nD} {i i' : CI} (h : cell c i = cell c' i') : c = c' ∧ i = i' := by
  have := kcell_injective (a₁ := (c, i)) (a₂ := (c', i')) h
  exact ⟨congrArg Prod.fst this, congrArg Prod.snd this⟩
theorem add_left_inj' : ∀ c k k' : Fin 8, c + k = c + k' → k = k' := by decide
theorem add_right_inj' : ∀ c c' k : Fin 8, c + k = c' + k → c = c' := by decide
theorem sub_left_inj' : ∀ c k k' : Fin 8, c - k = c - k' → k = k' := by decide

/-- Which payment it is, of which partner and device, read off the token. -/
theorem tokOf_injective : Function.Injective tokOf := by
  rintro ⟨c, k, j⟩ ⟨c', k', j'⟩ h
  have hg : (tokOf (c, k, j)).1 = (tokOf (c', k', j')).1 := congrArg Prod.fst h
  have hd : (tokOf (c, k, j)).2.2 = (tokOf (c', k', j')).2.2 := congrArg (fun x => x.2.2) h
  fin_cases j <;> fin_cases j' <;> obtain ⟨h1, h2⟩ := cell_inj hg <;> first
    | (simp at h2; done)
    | skip
  · have hk : k = k' := hd
    subst hk
    have hc : c = c' := add_right_inj' _ _ _ h1
    rw [hc]
  · have hc : c = c' := congrArg Prod.snd (Sum.inr.inj h2)
    subst hc
    have hk : k = k' := add_left_inj' _ _ _ h1
    rw [hk]
  · have hc : c = c' := h1
    have hk : k = k' := congrArg Prod.snd (Sum.inr.inj h2)
    rw [hc, hk]
  · have hc : c = c' := congrArg Prod.snd (Sum.inr.inj h2)
    subst hc
    have hk : k = k' := sub_left_inj' _ _ _ h1
    rw [hk]
  · have hc : c = c' := h1
    have hk : k = k' := congrArg Prod.snd (Sum.inr.inj h2)
    rw [hc, hk]

def protToks : Finset (GSem nD τ sig × ℕ × Fin 8) := Finset.univ.map ⟨tokOf, tokOf_injective⟩

def u₀ : UU :=
  (initOf (Pipeline.cells cfgs cellOf_inj) (Pipeline.launchToks cfgs cellOf_inj), initOf protCells protToks)

/-- The rights to the payments device `c` makes. -/
def toks (c : Dev nD) : sProp 𝕄 :=
  bigSep Finset.univ fun k : Fin 8 => iprop(dutyTok ER (barCell (c + k)) 0 k ∗ dutyTok ER (dcell (c + k) 1 c) 0 0 ∗ dutyTok ER (dcell c 0 k) 0 0
    ∗ dutyTok ER (dcell (c - k) 3 c) 0 0 ∗ dutyTok ER (dcell c 2 k) 0 0)

/-- What the launch element deals device `c`, and what the allocation of the cells makes of it. -/
def G (c : Dev nD) : sProp 𝕄 :=
  iprop((bigSep Finset.univ fun i : CI => roundState ER (Rd m) (cell c i) 0)
    ∗ (bigSep Finset.univ fun i : CI => iprop(atPos ER (cell c i) 0 ∅ 0 ∗ reached ER (cell c i) 0)) ∗ toks c)
def G' (c : Dev nD) : sProp 𝕄 := iprop(∃ K, records m K ∗ (bigSep Finset.univ fun i : CI => atPos ER (cell c i) 0 ∅ 0) ∗ toks c)

theorem fives (Φ : Fin 5 → sProp 𝕄) : bigSep Finset.univ Φ = iprop(Φ 0 ∗ Φ 1 ∗ Φ 2 ∗ Φ 3 ∗ Φ 4) := bigSep_univ_eq_bigSepL [0, 1, 2, 3, 4] (by decide) (by decide) Φ
theorem fours (Φ : Fin 4 → sProp 𝕄) : bigSep Finset.univ Φ = iprop(Φ 0 ∗ Φ 1 ∗ Φ 2 ∗ Φ 3) := bigSep_univ_eq_bigSepL [0, 1, 2, 3] (by decide) (by decide) Φ
theorem ones (Φ : Unit → sProp 𝕄) : bigSep Finset.univ Φ = Φ () := by
  rw [show (Finset.univ : Finset Unit) = {()} from rfl, bigSep_singleton]

/-- The copy cells of a device, sorted by partner. -/
theorem quad (c : Fin 8) (Φ : Fin 4 → Fin 8 → sProp 𝕄) :
    (bigSep Finset.univ fun ak : Fin 4 × Fin 8 => Φ ak.1 ak.2) = bigSep Finset.univ fun k : Fin 8 => iprop(Φ 0 k ∗ Φ 1 (c - k) ∗ Φ 2 k ∗ Φ 3 (c + k)) := by
  rw [bigSep_univ_prod, fours]
  rw [bigSep_sep', bigSep_sep', bigSep_sep']
  rw [bigSep_univ_equiv (down c) (fun k : Fin 8 => Φ 1 k), bigSep_univ_equiv (up c) (fun k : Fin 8 => Φ 3 k)]
  rfl

theorem fund_prot : BI.own (ER (initOf protCells protToks)) ⊢ (|==> bigSep Finset.univ (G m) : sProp 𝕄) := by
  have hX (Φ : GSem nD τ sig → sProp 𝕄) : bigSep protCells Φ = bigSep Finset.univ fun c : Dev nD => bigSep Finset.univ fun i : CI => Φ (cell c i) := by
    unfold protCells; rw [bigSep_map, bigSep_univ_prod]; rfl
  have hT : bigSep protToks (fun x => (dutyTok ER x.1 x.2.1 x.2.2 : sProp 𝕄)) = bigSep Finset.univ fun c : Dev nD => toks (F := F) c := by
    unfold protToks; rw [bigSep_map, bigSep_univ_prod]
    refine bigSep_congr fun c _ => ?_
    rw [bigSep_univ_prod]
    unfold toks
    refine bigSep_congr fun k _ => ?_
    rw [fives]
    rfl
  iintro HX
  imod (Rounds.fund ER (Rd m) protCells protToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun i : CI => semVal (cell c i) 0 : sProp 𝕄) := by
  rw [unscopedSems0_eq, bigSep_univ_sum, ones]
  unfold Pipeline.ownSems0
  show iprop(_ ∗ semVal (barCell c) 0) ⊢ iprop(semVal (barCell c) 0 ∗ bigSep Finset.univ fun ak : Fin 4 × Fin 8 => semVal ((c : Thread nD τ), osem ak) 0)
  iintro ⟨HS, HB⟩
  isplitl [HB] <;> iassumption

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun i : CI => iprop(∃ κ : ℕ, cellInv ER (Rd m) κ (cell c i)))
          ∗ (bigSep Finset.univ fun i : CI => iprop(atPos ER (cell c i) 0 ∅ 0 ∗ reached ER (cell c i) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun i : CI => semVal (cell c i) 0) ∗ bigSep Finset.univ fun i : CI => roundState ER (Rd m) (cell c i) 0)
      ⊢ (|={Set.univ}=> bigSep Finset.univ fun i : CI => iprop(∃ κ : ℕ, cellInv ER (Rd m) κ (cell c i)) : sProp 𝕄) from by
        rw [← bigSep_sep']
        exact (bigSep_mono fun i _ => (Rounds.body_intro ER (Rd m) (cell c i)).trans inv_alloc).trans (bigSep_fupd _ _)) $$ [Hv Hst] with Hinv
  · isplitl [Hv] <;> iassumption
  imodintro
  isplitl [Hinv]; · iexact Hinv
  isplitl [Hat]; · iexact Hat
  iexact Htok

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun i : CI => iprop(∃ κ : ℕ, cellInv ER (Rd m) κ (cell c i)))
          ∗ (bigSep Finset.univ fun i : CI => iprop(atPos ER (cell c i) 0 ∅ 0 ∗ reached ER (cell c i) 0)) ∗ toks c) : sProp 𝕄)
      ⊢ bigSep Finset.univ (G' m) := by
  rw [bigSep_sep', bigSep_sep', ← bigSep_univ_prod (fun ck : Dev nD × CI => iprop(∃ κ : ℕ, cellInv ER (Rd m) κ (kcell ck))),
    bigSep_congr (s := Finset.univ) (fun (c : Dev nD) _ => bigSep_sep' Finset.univ (fun i : CI => (atPos ER (cell c i) 0 ∅ 0 : sProp 𝕄)) (fun i => reached ER (cell c i) 0)),
    bigSep_sep', ← bigSep_univ_prod (fun ck : Dev nD × CI => (reached ER (kcell ck) 0 : sProp 𝕄))]
  iintro ⟨HI, ⟨Hat, #HR⟩, Htok⟩
  ihave HK := (BI.bigSep_exists_pi Finset.univ (fun (ck : Dev nD × CI) (κ : ℕ) => (cellInv ER (Rd m) κ (kcell ck) : sProp 𝕄))) $$ HI
  icases HK with ⟨%K, #HI⟩
  iapply (bigSep_with_persistent (R := records m K) (Φ := fun c => iprop((bigSep Finset.univ fun i : CI => atPos ER (cell c i) 0 ∅ 0) ∗ toks c)) fun c _ => show _ ⊢ G' m c from by
    unfold G'
    iintro ⟨#HR, H⟩
    iexists K
    isplitr; · iexact HR
    iexact H)
  isplitr
  · unfold records; isplitl; · iexact HI
    iexact HR
  · rw [bigSep_sep']
    isplitl [Hat] <;> iassumption

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ### The launch credit -/

/-- Every device owing one tally to a cell of its own choice, no two to the same device, the device it owes to gets the credit. -/
theorem dealt (i : Fin 8 → CI) (f finv : Fin 8 → Fin 8) (h1 : ∀ c, f (finv c) = c) (h2 : ∀ d, finv (f d) = d) (N : ℕ) (c : Dev nD) :
    (Pipeline.launchCred (fun d : Dev nD => (tallyAt (cell (f d) (i d)) () N : CellTallies nD τ sig Unit)) c : sProp 𝕄) ⊢ cred (tallyAt (cell c (i (finv c))) () N) := by
  refine (Pipeline.launchCred_elim _ c (csem (i (finv c)))).trans (Entails.of_eq (congrArg cred ?_))
  rw [Pipeline.tallyOn_launchCredit_owing]
  unfold tallyAt
  refine congrArg _ ?_
  rw [Finset.sum_apply]
  have h0 : ∀ d ∈ (Finset.univ : Finset (Dev nD)), d ≠ finv c →
      tallyOn (nD := nD) (sig := sig) (cell (f d) (i d)) (Finsupp.single () N) (cell c (i (finv c))) = 0 := fun d _ hd => by
    unfold tallyOn
    refine Pi.single_eq_of_ne (fun h => hd ?_) _
    rw [(cell_inj h).1, h2]
  rw [Finset.sum_eq_single (finv c) h0 (fun h => absurd (Finset.mem_univ _) h)]
  unfold tallyOn
  rw [h1, Pi.single_eq_same]

theorem launch_owe (g : Dev nD → Fin 8 → GSem nD τ sig) (N : ℕ) (c : Dev nD) :
    (Pipeline.launchCred (fun d => owe (g d) N 0) c : sProp 𝕄) = bigSep (Finset.univ.erase 0) fun k : Fin 8 => Pipeline.launchCred (fun d => tallyAt (g d k) () N) c := by
  rw [show (Finset.univ.erase (0 : Fin 8)) = Finset.univ.filter (fun k : Fin 8 => k ≠ 0 ∧ 0 ≤ k.val) from by decide]
  exact Pipeline.launchCred_sum _ (fun k d => tallyAt (g d k) () N) c

theorem seven_bars (c : Dev nD) : (bigSep (Finset.univ.erase 0) fun k : Fin 8 => cred (tallyAt (barCell c) () 1)) = (cred (tallyAt (barCell c) () 7) : sProp 𝕄) := by
  rw [← Pipeline.cred_finsetSum, Finset.sum_const, show (Finset.univ.erase (0 : Fin 8)).card = 7 from by decide]
  refine congrArg cred ?_
  unfold tallyAt tallyOn
  have h : (Finsupp.single () 7 : Unit →₀ ℕ) = 7 • Finsupp.single () 1 := by rw [Finsupp.smul_single]; rfl
  rw [h]
  funext g
  rw [Pi.smul_apply]
  by_cases hg : g = barCell c
  · subst hg; rw [Pi.single_eq_same, Pi.single_eq_same]
  · rw [Pi.single_eq_of_ne hg, Pi.single_eq_of_ne hg, smul_zero]

theorem sub_add_self : ∀ k c : Fin 8, c - k + k = c := by decide
theorem add_sub_self' : ∀ k c : Fin 8, c + k - k = c := by decide

theorem creds (c : Dev nD) : (Pipeline.launchCred O₀ c : sProp 𝕄)
    ⊢ iprop(cred (tallyAt (barCell c) () 7) ∗ others fun k => iprop(cred (tallyAt (dcell c 1 (c - k)) () N1) ∗ cred (tallyAt (dcell c 3 (c + k)) () N2))) := by
  rw [show O₀ = fun d => (oweC d 0 + oweD d 0) + oweB d 0 from rfl, Pipeline.launchCred_add, Pipeline.launchCred_add, launch_owe, launch_owe, launch_owe, others_eq, bigSep_sep', ← seven_bars]
  iintro ⟨⟨HC, HD⟩, HB⟩
  isplitl [HB]
  · iapply (show (bigSep (Finset.univ.erase 0) fun k : Fin 8 => (Pipeline.launchCred (fun d : Dev nD => (tallyAt (barCell (d + k)) () 1 : CellTallies nD τ sig Unit)) c : sProp 𝕄)) ⊢ bigSep (Finset.univ.erase 0) fun k : Fin 8 => cred (tallyAt (barCell c) () 1) from
      bigSep_mono fun k _ => dealt (fun _ => .inl ()) (fun d => d + k) (fun d => d - k) (sub_add_self k) (add_sub_self' k) 1 c)
    iexact HB
  isplitl [HD]
  · iapply (show (bigSep (Finset.univ.erase 0) fun k : Fin 8 => (Pipeline.launchCred (fun d : Dev nD => (tallyAt (dcell (d + k) 1 d) () N1 : CellTallies nD τ sig Unit)) c : sProp 𝕄)) ⊢ bigSep (Finset.univ.erase 0) fun k : Fin 8 => cred (tallyAt (dcell c 1 (c - k)) () N1) from
      bigSep_mono fun k _ => dealt (fun d => .inr (1, d)) (fun d => d + k) (fun d => d - k) (sub_add_self k) (add_sub_self' k) N1 c)
    iexact HD
  · iapply (show (bigSep (Finset.univ.erase 0) fun k : Fin 8 => (Pipeline.launchCred (fun d : Dev nD => (tallyAt (dcell (d - k) 3 d) () N2 : CellTallies nD τ sig Unit)) c : sProp 𝕄)) ⊢ bigSep (Finset.univ.erase 0) fun k : Fin 8 => cred (tallyAt (dcell c 3 (c + k)) () N2) from
      bigSep_mono fun k _ => dealt (fun d => .inr (3, d)) (fun d => d - k) (fun d => d + k) (add_sub_self' k) (sub_add_self k) N2 c)
    iexact HC

/-! ### The conditions of the launch -/

theorem deal (c : Dev nD) :
    iprop((bigSep Finset.univ fun ak : Fin 4 × Fin 8 => atPos ER (dcell c ak.1 ak.2) 0 ∅ 0) ∗ toks c
        ∗ others fun k => iprop(cred (tallyAt (dcell c 1 (c - k)) () N1) ∗ cred (tallyAt (dcell c 3 (c + k)) () N2)))
      ⊢ iprop((others fun k => dutyTok ER (barCell (c + k)) 0 k) ∗ bigSep Finset.univ (Gk (F := F) c)) := by
  rw [quad c (fun a k => atPos ER (dcell c a k) 0 ∅ 0)]
  unfold toks others
  simp only [← bigSep_sep']
  refine bigSep_mono fun k _ => ?_
  show (_ : sProp 𝕄) ⊢ _
  unfold Gk
  by_cases hk : k = 0
  · simp only [if_pos hk]
    iintro ⟨Ha, -, -⟩
    isplitr; · iempintro
    isplitl [Ha]; · iexact Ha
    iempintro
  · simp only [if_neg hk]
    iintro ⟨Ha, ⟨Hb, Ht1, Ht0, Ht3, Ht2⟩, Hc1, Hc3⟩
    isplitl [Hb]; · iexact Hb
    isplitl [Ha]; · iexact Ha
    isplitl [Ht1]; · iexact Ht1
    isplitl [Ht0]; · iexact Ht0
    isplitl [Ht3]; · iexact Ht3
    isplitl [Ht2]; · iexact Ht2
    isplitl [Hc1] <;> iassumption

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  unfold G'
  rw [bigSep_congr (s := Finset.univ) (Ψ := fun _ => _) fun _ _ => rfl]
  iintro ⟨-, Hlev, Hcr, -, ⟨%K, HR, Hat, Htok⟩⟩
  ihave Hc := (creds (F := F) c) $$ Hcr
  icases Hc with ⟨Hcb, Hcs⟩
  ihave Hat := (Entails.of_eq (show (bigSep Finset.univ fun i : CI => (atPos ER (cell c i) 0 ∅ 0 : sProp 𝕄)) = iprop(atPos ER (barCell c) 0 ∅ 0 ∗ bigSep Finset.univ fun ak : Fin 4 × Fin 8 => atPos ER (dcell c ak.1 ak.2) 0 ∅ 0) from by
    rw [bigSep_univ_sum, ones]; rfl)) $$ Hat
  icases Hat with ⟨Hab, Hat⟩
  ihave Hd := (deal (F := F) c) $$ [Hat Htok Hcs]
  · isplitl [Hat]; · iexact Hat
    isplitl [Htok] <;> iassumption
  icases Hd with ⟨Htb, HG⟩
  imodintro
  unfold start Prot
  isplitl
  · iexists K
    isplitl [HR]; · iexact HR
    isplitl [Hlev]; · iexact Hlev
    isplitl [Hcb]; · iexact Hcb
    isplitl [Hab]; · iexact Hab
    isplitl [Htb] <;> iassumption
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ Scr
  iintro ⟨Hs, -, Hr⟩
  isplitl [Hs]; · iexact Hs
  iexact Hr

theorem phi1_exit (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = Φ₁ c from rfl, scopedRest0_eq, unscopedSems0_eq]
  unfold Φ₁ Scr Pipeline.ownSems0
  iintro ⟨Hr, HzB, HZ⟩
  isplitl [HzB]; · iexact HzB
  isplitl [HZ]
  · iapply (Entails.of_eq (quad c (fun a k => (semVal (dcell c a k) 0 : sProp 𝕄))).symm)
    iapply (Entails.of_eq (show bigSep Finset.univ (Zk (F := F) c) = _ from bigSep_congr fun k _ => by unfold Zk; rfl)) $$ HZ
  iexact Hr

theorem waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> decide) _ (by
      rcases t with ⟨_ | _, ht⟩
      · exact Or.inl rfl
      · exact Or.inr rfl)

/-! ### The run -/

/-- What window `w`'s array holds in the end. -/
def finalA (c : Dev nD) (w : Fin cfg0.W) : Buf (Elt F) ((cfg0.win w).arr.view.loc (c : Thread nD τ)) := (dats m 0 c).arrAt w cfg0.N

def QC : PUnit × MemSt nD τ sig (Elt F) → Prop := fun r =>
  ∀ c : Dev nD, ∀ w : Fin cfg0.W, r.2.mem ((cfg0.win w).arr.view.loc (c : Thread nD τ)) = finalA m c w

set_option maxRecDepth 8000 in
/-- From any memory with every counter at zero, the eight devices run to the end; each device's arrays then hold what
    `finalA` says, and every counter is at zero again. -/
theorem run_main : θ_run defs (onTc (τ := τ) (main (F := F))) ⟨m, fun _ => 0, ρ⟩ (fun r => QC m r ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_prot m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m) (hout := phi1_exit m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- An argument's array ends as it was. -/
theorem finalA_in (c : Dev nD) (w : Fin cfg0.W) (h : (cfg0.win w).isOut = false) : finalA m c w = m ((cfg0.win w).arr.view.loc (c : Thread nD τ)) :=
  (dats (F := F) m 0 c).arrAt_in w h _

end Cert.MoE

end
-- ==== Proof.Frames.lean ====
/-
The two frames of the kernel: as printed, and over the extended reals.
-/
module

public import proofs.«01_k».proof.Defs
public import proofs.«01_k».proof.Proof.Run
public import proofs.«01_k».proof.Proof.Gen.Kernel

@[expose] public section

noncomputable section

namespace Cert.MoE

open Idealize.ShloMosaic Idealize.SL.Sem

/-- What a run of the kernel over the floats `F` says of its five arguments. -/
theorem args_kept {F : FTy → Type} [FloatOps F]
    (m : (ℓ : Loc Cert.KernelIdeal.nD Cert.KernelIdeal.τ Cert.KernelIdeal.sig) → Buf (Elt F) ℓ)
    (r : PUnit × MemSt Cert.KernelIdeal.nD Cert.KernelIdeal.τ Cert.KernelIdeal.sig (Elt F)) (h : QC m r) (c : Dev Cert.KernelIdeal.nD) :
    r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
    ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
    ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
    ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
    ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4) :=
  ⟨(h c 0).trans (finalA_in m c 0 rfl), (h c 1).trans (finalA_in m c 1 rfl), (h c 2).trans (finalA_in m c 2 rfl),
    (h c 3).trans (finalA_in m c 3 rfl), (h c 4).trans (finalA_in m c 4 rfl)⟩

set_option maxRecDepth 8000 in
/-- The two printed bodies are one. -/
theorem defs₀_same : Cert.Kernel.defs₀ (F := Bits) = Cert.KernelIdeal.defs₀ (F := Bits) := by
  unfold Cert.Kernel.defs₀ Cert.KernelIdeal.defs₀
  refine congrArg Defs.onTc (funext fun l => funext fun x => ?_)
  match l, x with
  | ⟨0, _⟩, (t, s) => rfl

theorem defs_same : Cert.Kernel.defs (F := Bits) = Cert.KernelIdeal.defs (F := Bits) :=
  congrArg (Pipeline.defs Cert.KernelIdeal.pcfgs) defs₀_same

/-- The kernel as printed runs on the eight devices, leaves its arguments as they were and every counter at zero. -/
theorem frame_kernel : Cert.quiescent_Kernel := fun m ρ _ => by
  have h := (θ_run (Cert.KernelIdeal.defs (F := Bits)) _ _).mono (fun r h => And.intro (fun c => args_kept (F := Bits) m r h.1 c) h.2) (run_main (F := Bits) m ρ)
  rw [← defs_same] at h
  exact h

/-- The same over the extended reals. -/
theorem frame_kernelIdeal : Cert.quiescent_KernelIdeal := fun m ρ _ =>
  (θ_run Cert.KernelIdeal.defs _ _).mono (fun r h => ⟨fun c => args_kept (F := Ideal) m r h.1 c, h.2⟩) (run_main (F := Ideal) m ρ)

end Cert.MoE

end
-- ==== Proof.PreFacts.lean ====
/-
The shape relations that the precondition's two readings (of one device's blocks, and of the whole arrays) state.
-/
module

public import proofs.«01_k».proof.Pre_fits_KernelIdeal
public import proofs.«01_k».proof.Pre_fits_ReferenceIdeal

@[expose] public section

namespace Cert.MoE

/-- The shape relations of the precondition on one device's blocks. -/
theorem fits_facts : Cert.Pre_fits_KernelIdeal.Facts where
  bcast_S64_S1x64_1 := by decide
  bcast_S2048x1_S2048x64_0_1 := by decide
  bcast_S1x64_S2048x64_0_1 := by decide
  natLt_1_32 := by decide
  reducesTo_S2048x64_S64_d0 := by decide
  h_S_ := by decide
  bcast_S_S2048x1 := by decide
  bcast_S_S64 := by decide
  bcast_S_S2048x512 := by decide
  bcast_S_S512x64 := by decide

/-- The shape relations of the precondition on the whole arrays. -/
theorem fits_whole_facts : Cert.Pre_fits_ReferenceIdeal.Facts where
  bcast_S64_S1x64_1 := by decide
  bcast_S16384x1_S16384x64_0_1 := by decide
  bcast_S1x64_S16384x64_0_1 := by decide
  natLt_1_32 := by decide
  reducesTo_S16384x64_S64_d0 := by decide
  h_S_ := by decide
  bcast_S_S16384x1 := by decide
  bcast_S_S64 := by decide
  bcast_S_S16384x512 := by decide
  bcast_S_S512x64 := by decide

end Cert.MoE

end
-- ==== Proof.RankBlocks.lean ====
/-
The rank of a token among its device's tokens of the same expert: the sixteen blocks the kernel computes one after the
other, each from the blocks before it, read as one count.
-/
module

public import proofs.«01_k».proof.Proof.Contents
public import Idealize.ShloMosaic.Lib.Pointwise

@[expose] public section

noncomputable section

namespace Cert.MoE

open Cert.KernelIdeal Cert.KernelIdeal.Gen Idealize.ShloMosaic Idealize.ShloMosaic.TcCoe Idealize.SL Idealize.SL.Sem

/-- Row `128 b + s` of a column of 2048. -/
def row (b : Fin 16) (s : Fin 128) : Fin 2048 := ⟨128 * b.val + s.val, by omega⟩

/-- Block `b` of 128 rows. -/
def blk (v : FVec Ideal S2048x64 .bf16) (b : Fin 16) : FVec Ideal S128x64 .bf16 := fun i => v (ix2 (row b (i 0)) (i 1))

/-- The sums of the columns of a block, added to what was summed before it. -/
def plus (p : FVec Ideal S1x64 .f32) (w : FVec Ideal S128x64 .bf16) : FVec Ideal S1x64 .f32 :=
  addf p (shapeCast S1x64 (multiReduction .add [0] S64 (extf .f32 w bitsLt_bf16_f32) 0x00000000#32 reduces_S128x64_S64
    (.inl rfl) rfl) shapeCasts_S64_S1x64)

/-- The ranks of a block's rows, from what was summed before it. -/
def ranks (w : FVec Ideal S128x64 .bf16) (p : FVec Ideal S1x64 .f32) : FVec Ideal S128x1 .f32 :=
  shapeCast S128x1 (shapeCast S128x1 (multiReduction .add [1] S128
    (mulf (addf (matmul dot_S128x128_S128x64_S128x64_1_0_0_1_n_n none (k0_pay18 (F := Ideal) rows) w
      (constant S128x64 .f32 0x00000000#32)) (broadcastTo S128x64 p broadcasts_S1x64_S128x64)) (extf .f32 w bitsLt_bf16_f32))
    0x00000000#32 reduces_S128x64_S128 (.inl rfl) rfl) shapeCasts_S128_S128x1) shapeCasts_S128x1_S128x1

/-- What was summed before block `n`. -/
def pre (v : FVec Ideal S2048x64 .bf16) : ℕ → FVec Ideal S1x64 .f32
  | 0 => k0_pay19
  | n + 1 => if h : n < 16 then plus (pre v n) (blk v ⟨n, h⟩) else pre v n

theorem pre_succ (v : FVec Ideal S2048x64 .bf16) (b : Fin 16) : pre v (b.val + 1) = plus (pre v b.val) (blk v b) := by
  show (if h : b.val < 16 then _ else _) = _
  rw [dif_pos b.isLt]

theorem blk0 (v : FVec Ideal S2048x64 .bf16) : k0_pay20 v = blk v 0 := by
  funext i
  rw [eq_ix2 (n0 := 128) (n1 := 64) i]
  pointwise [k0_pay20, blk, row]
theorem blk1 (v : FVec Ideal S2048x64 .bf16) : k0_pay23 v = blk v 1 := by
  funext i
  rw [eq_ix2 (n0 := 128) (n1 := 64) i]
  pointwise [k0_pay23, blk, row]
theorem blk2 (v : FVec Ideal S2048x64 .bf16) : k0_pay26 v = blk v 2 := by
  funext i
  rw [eq_ix2 (n0 := 128) (n1 := 64) i]
  pointwise [k0_pay26, blk, row]
theorem blk3 (v : FVec Ideal S2048x64 .bf16) : k0_pay30 v = blk v 3 := by
  funext i
  rw [eq_ix2 (n0 := 128) (n1 := 64) i]
  pointwise [k0_pay30, blk, row]
theorem blk4 (v : FVec Ideal S2048x64 .bf16) : k0_pay33 v = blk v 4 := by
  funext i
  rw [eq_ix2 (n0 := 128) (n1 := 64) i]
  pointwise [k0_pay33, blk, row]
theorem blk5 (v : FVec Ideal S2048x64 .bf16) : k0_pay36 v = blk v 5 := by
  funext i
  rw [eq_ix2 (n0 := 128) (n1 := 64) i]
  pointwise [k0_pay36, blk, row]
theorem blk6 (v : FVec Ideal S2048x64 .bf16) : k0_pay40 v = blk v 6 := by
  funext i
  rw [eq_ix2 (n0 := 128) (n1 := 64) i]
  pointwise [k0_pay40, blk, row]
theorem blk7 (v : FVec Ideal S2048x64 .bf16) : k0_pay43 v = blk v 7 := by
  funext i
  rw [eq_ix2 (n0 := 128) (n1 := 64) i]
  pointwise [k0_pay43, blk, row]
theorem blk8 (v : FVec Ideal S2048x64 .bf16) : k0_pay46 v = blk v 8 := by
  funext i
  rw [eq_ix2 (n0 := 128) (n1 := 64) i]
  pointwise [k0_pay46, blk, row]
theorem blk9 (v : FVec Ideal S2048x64 .bf16) : k0_pay49 v = blk v 9 := by
  funext i
  rw [eq_ix2 (n0 := 128) (n1 := 64) i]
  pointwise [k0_pay49, blk, row]
theorem blk10 (v : FVec Ideal S2048x64 .bf16) : k0_pay52 v = blk v 10 := by
  funext i
  rw [eq_ix2 (n0 := 128) (n1 := 64) i]
  pointwise [k0_pay52, blk, row]
theorem blk11 (v : FVec Ideal S2048x64 .bf16) : k0_pay56 v = blk v 11 := by
  funext i
  rw [eq_ix2 (n0 := 128) (n1 := 64) i]
  pointwise [k0_pay56, blk, row]
theorem blk12 (v : FVec Ideal S2048x64 .bf16) : k0_pay59 v = blk v 12 := by
  funext i
  rw [eq_ix2 (n0 := 128) (n1 := 64) i]
  pointwise [k0_pay59, blk, row]
theorem blk13 (v : FVec Ideal S2048x64 .bf16) : k0_pay62 v = blk v 13 := by
  funext i
  rw [eq_ix2 (n0 := 128) (n1 := 64) i]
  pointwise [k0_pay62, blk, row]
theorem blk14 (v : FVec Ideal S2048x64 .bf16) : k0_pay66 v = blk v 14 := by
  funext i
  rw [eq_ix2 (n0 := 128) (n1 := 64) i]
  pointwise [k0_pay66, blk, row]
theorem blk15 (v : FVec Ideal S2048x64 .bf16) :
    extractStridedSlice S128x64 ![1920, 0] v slices_S2048x64_o1920_0_S128x64 = blk v 15 := by
  funext i
  rw [eq_ix2 (n0 := 128) (n1 := 64) i]
  pointwise [blk, row]

theorem pre1 (v : FVec Ideal S2048x64 .bf16) : k0_pay22 v = pre v 1 := by
  rw [show pre v 1 = plus (pre v 0) (blk v 0) from pre_succ v 0, ← blk0]
  rfl
theorem pre2 (v : FVec Ideal S2048x64 .bf16) : k0_pay25 v = pre v 2 := by
  rw [show pre v 2 = plus (pre v 1) (blk v 1) from pre_succ v 1, ← blk1, ← pre1]
  rfl
theorem pre3 (v : FVec Ideal S2048x64 .bf16) : k0_pay29 (pre v 2) (blk v 2) = pre v 3 :=
  (pre_succ v 2).symm
theorem pre4 (v : FVec Ideal S2048x64 .bf16) : k0_pay32 v (pre v 2) (blk v 2) = pre v 4 := by
  rw [show pre v 4 = plus (pre v 3) (blk v 3) from pre_succ v 3, ← blk3, ← pre3]
  rfl
theorem pre5 (v : FVec Ideal S2048x64 .bf16) : k0_pay35 v (pre v 2) (blk v 2) = pre v 5 := by
  rw [show pre v 5 = plus (pre v 4) (blk v 4) from pre_succ v 4, ← blk4, ← pre4]
  rfl
theorem pre6 (v : FVec Ideal S2048x64 .bf16) : k0_pay39 (pre v 5) (blk v 5) = pre v 6 :=
  (pre_succ v 5).symm
theorem pre7 (v : FVec Ideal S2048x64 .bf16) : k0_pay42 v (pre v 5) (blk v 5) = pre v 7 := by
  rw [show pre v 7 = plus (pre v 6) (blk v 6) from pre_succ v 6, ← blk6, ← pre6]
  rfl
theorem pre8 (v : FVec Ideal S2048x64 .bf16) : k0_pay45 v (pre v 5) (blk v 5) = pre v 8 := by
  rw [show pre v 8 = plus (pre v 7) (blk v 7) from pre_succ v 7, ← blk7, ← pre7]
  rfl
theorem pre9 (v : FVec Ideal S2048x64 .bf16) : k0_pay48 (pre v 8) (blk v 8) = pre v 9 :=
  (pre_succ v 8).symm
theorem pre10 (v : FVec Ideal S2048x64 .bf16) : k0_pay51 v (pre v 8) (blk v 8) = pre v 10 := by
  rw [show pre v 10 = plus (pre v 9) (blk v 9) from pre_succ v 9, ← blk9, ← pre9]
  rfl
theorem pre11 (v : FVec Ideal S2048x64 .bf16) : k0_pay55 (pre v 10) (k0_pay54 v) = pre v 11 := by
  rw [show pre v 11 = plus (pre v 10) (blk v 10) from pre_succ v 10, ← blk10]
  rfl
theorem pre12 (v : FVec Ideal S2048x64 .bf16) : k0_pay58 v (pre v 10) (k0_pay54 v) = pre v 12 := by
  rw [show pre v 12 = plus (pre v 11) (blk v 11) from pre_succ v 11, ← blk11, ← pre11]
  rfl
theorem pre13 (v : FVec Ideal S2048x64 .bf16) : k0_pay61 v (pre v 10) (k0_pay54 v) = pre v 13 := by
  rw [show pre v 13 = plus (pre v 12) (blk v 12) from pre_succ v 12, ← blk12, ← pre12]
  rfl
theorem pre14 (v : FVec Ideal S2048x64 .bf16) : k0_pay65 (pre v 13) (k0_pay64 v) = pre v 14 := by
  rw [show pre v 14 = plus (pre v 13) (blk v 13) from pre_succ v 13, ← blk13]
  rfl
theorem pre15 (v : FVec Ideal S2048x64 .bf16) :
    addf (k0_pay65 (pre v 13) (k0_pay64 v)) (shapeCast S1x64 (multiReduction .add [0] S64 (extf .f32 (k0_pay66 v) bitsLt_bf16_f32)
      0x00000000#32 reduces_S128x64_S64 (.inl rfl) rfl) shapeCasts_S64_S1x64) = pre v 15 := by
  rw [show pre v 15 = plus (pre v 14) (blk v 14) from pre_succ v 14, ← blk14, ← pre14]
  rfl

theorem ranks0 (v : FVec Ideal S2048x64 .bf16) : k0_pay21 v rows = ranks (blk v 0) (pre v 0) := by
  rw [← blk0]
  rfl
theorem ranks1 (v : FVec Ideal S2048x64 .bf16) : k0_pay24 v rows = ranks (blk v 1) (pre v 1) := by
  rw [← blk1, ← pre1]
  rfl
theorem ranks2 (v : FVec Ideal S2048x64 .bf16) : k0_pay28 (k0_pay27 v rows) = ranks (blk v 2) (pre v 2) := by
  rw [← blk2, ← pre2]
  rfl
theorem ranks3 (v : FVec Ideal S2048x64 .bf16) : k0_pay31 v (k0_pay18 rows) (pre v 2) (blk v 2) = ranks (blk v 3) (pre v 3) := by
  rw [← blk3, ← pre3]
  rfl
theorem ranks4 (v : FVec Ideal S2048x64 .bf16) : k0_pay34 v (k0_pay18 rows) (pre v 2) (blk v 2) = ranks (blk v 4) (pre v 4) := by
  rw [← blk4, ← pre4]
  rfl
theorem ranks5 (v : FVec Ideal S2048x64 .bf16) : k0_pay38 (blk v 5) (k0_pay37 v (k0_pay18 rows) (pre v 2) (blk v 2)) = ranks (blk v 5) (pre v 5) := by
  rw [← pre5]
  conv_rhs => rw [← blk5]
  conv_lhs => rw [← blk5]
  rfl
theorem ranks6 (v : FVec Ideal S2048x64 .bf16) : k0_pay41 v (k0_pay18 rows) (pre v 5) (blk v 5) = ranks (blk v 6) (pre v 6) := by
  rw [← blk6, ← pre6]
  rfl
theorem ranks7 (v : FVec Ideal S2048x64 .bf16) : k0_pay44 v (k0_pay18 rows) (pre v 5) (blk v 5) = ranks (blk v 7) (pre v 7) := by
  rw [← blk7, ← pre7]
  rfl
theorem ranks8 (v : FVec Ideal S2048x64 .bf16) : k0_pay47 (k0_pay18 rows) (pre v 8) (blk v 8) (constant S128x64 .f32 0x00000000#32) = ranks (blk v 8) (pre v 8) := rfl
theorem ranks9 (v : FVec Ideal S2048x64 .bf16) : k0_pay50 v (k0_pay18 rows) (pre v 8) (blk v 8) = ranks (blk v 9) (pre v 9) := by
  rw [← blk9, ← pre9]
  rfl
theorem ranks10 (v : FVec Ideal S2048x64 .bf16) : k0_pay53 v (k0_pay18 rows) (pre v 8) (blk v 8) = ranks (blk v 10) (pre v 10) := by
  rw [← blk10, ← pre10]
  rfl
theorem ranks11 (v : FVec Ideal S2048x64 .bf16) : k0_pay57 v (k0_pay18 rows) (pre v 10) (k0_pay54 v) = ranks (blk v 11) (pre v 11) := by
  rw [← blk11, ← pre11]
  rfl
theorem ranks12 (v : FVec Ideal S2048x64 .bf16) : k0_pay60 v (k0_pay18 rows) (pre v 10) (k0_pay54 v) = ranks (blk v 12) (pre v 12) := by
  rw [← blk12, ← pre12]
  rfl
theorem ranks13 (v : FVec Ideal S2048x64 .bf16) : k0_pay63 v (k0_pay18 rows) (pre v 10) (k0_pay54 v) = ranks (blk v 13) (pre v 13) := by
  rw [← blk13, ← pre13]
  rfl
theorem ranks14 (v : FVec Ideal S2048x64 .bf16) : k0_pay67 v (k0_pay18 rows) (pre v 13) (k0_pay64 v) = ranks (blk v 14) (pre v 14) := by
  rw [← blk14, ← pre14]
  rfl
theorem ranks15 (v : FVec Ideal S2048x64 .bf16) : k0_pay68 v (k0_pay18 rows) (pre v 13) (k0_pay64 v) = ranks (blk v 15) (pre v 15) := by
  rw [← blk15, ← pre15]
  rfl

/-- Every block's ranks are the block's rows against what was summed before it. -/
theorem rkf_eq (v : FVec Ideal S2048x64 .bf16) : rkf v = fun b => ranks (blk v b) (pre v b.val) := by
  unfold rkf
  dsimp only
  rw [blk2, pre2, blk5, pre5, blk8, pre8, pre10, pre13,
    ranks0, ranks1, ranks2, ranks3, ranks4, ranks5, ranks6, ranks7, ranks8, ranks9, ranks10, ranks11, ranks12, ranks13,
    ranks14, ranks15]
  funext b
  fin_cases b <;> rfl

theorem plus_apply (p : FVec Ideal S1x64 .f32) (w : FVec Ideal S128x64 .bf16) (e : Fin 64) :
    plus p w (ix2 0 e) = p (ix2 0 e) + ∑ s : Fin 128, w (ix2 s e) := by
  pointwise [plus]

theorem ranks_apply (w : FVec Ideal S128x64 .bf16) (p : FVec Ideal S1x64 .f32) (r : Fin 128) :
    ranks w p (ix2 r 0) = ∑ e : Fin 64, ((∑ s : Fin 128,
      Scalar.select (IntOp.cmpi .slt (BitVec.ofNat 32 s.val) (BitVec.ofNat 32 r.val)) (1 : EReal) 0 * w (ix2 s e)) + p (ix2 0 e)) * w (ix2 r e) := by
  pointwise [ranks, k0_pay18, rows]

end Cert.MoE

end
-- ==== Proof.Rank.lean ====
/-
Each token's rank is the number of earlier tokens of its expert, and its slot is a number: 64 slots an expert, the
tokens of an expert in their order.
-/
module

public import proofs.«01_k».proof.Proof.RankBlocks
public import Idealize.ShloMosaic.Lib.StableHlo.Predicate

@[expose] public section

noncomputable section

namespace Cert.MoE

open Cert.KernelIdeal Cert.KernelIdeal.Gen Idealize.ShloMosaic Idealize.ShloMosaic.TcCoe Idealize.SL Idealize.SL.Sem

/-- The choice between two values on an equality of words is the choice on the equality. -/
theorem select_eq {α : Type} {w : ℕ} (a b : BitVec w) (x y : α) :
    Scalar.select (IntOp.cmpi .eq a b) x y = if a = b then x else y := by
  by_cases h : a = b
  · rw [if_pos h, StableHlo.Predicate.cmpi_eq_iff.mpr h]; rfl
  · have h0 : IntOp.cmpi .eq a b = 0#1 := by
      rcases BitVec.eq_zero_or_eq_one (IntOp.cmpi .eq a b) with h0 | h1
      · exact h0
      · exact absurd (StableHlo.Predicate.cmpi_eq_iff.mp h1) h
    rw [if_neg h, h0]; rfl

/-- The choice on the order of two row numbers of a block. -/
theorem select_lt {α : Type} (a b : Fin 128) (x y : α) :
    Scalar.select (IntOp.cmpi .slt (BitVec.ofNat 32 a.val) (BitVec.ofNat 32 b.val)) x y = if a < b then x else y := by
  have ha : (BitVec.ofNat 32 a.val).toNat = a.val := by rw [BitVec.toNat_ofNat]; omega
  have hb : (BitVec.ofNat 32 b.val).toNat = b.val := by rw [BitVec.toNat_ofNat]; omega
  have key := StableHlo.Predicate.slt_iff_toNat (a := BitVec.ofNat 32 a.val) (b := BitVec.ofNat 32 b.val) (by omega) (by omega)
  rw [ha, hb] at key
  by_cases h : a < b
  · rw [if_pos h, key.mpr h]; rfl
  · have h0 : IntOp.cmpi .slt (BitVec.ofNat 32 a.val) (BitVec.ofNat 32 b.val) = 0#1 := by
      rcases BitVec.eq_zero_or_eq_one (IntOp.cmpi .slt (BitVec.ofNat 32 a.val) (BitVec.ofNat 32 b.val)) with h0 | h1
      · exact h0
      · exact absurd (key.mp h1) h
    rw [if_neg h, h0]; rfl

theorem row_injective (b : Fin 16) : Function.Injective (row b) := by
  intro s s' h
  have := congrArg Fin.val h
  simp only [row] at this
  exact Fin.ext (by omega)

/-- A count of the rows before row `128 b + k` is the count before block `b` and the count of the block's first `k`
    rows. -/
theorem sum_split (b : Fin 16) (k : ℕ) (hk : k ≤ 128) (Q : Fin 2048 → Prop) [DecidablePred Q] :
    (∑ t : Fin 2048, if t.val < 128 * b.val + k ∧ Q t then (1 : EReal) else 0)
      = (∑ t : Fin 2048, if t.val < 128 * b.val ∧ Q t then (1 : EReal) else 0)
        + ∑ s : Fin 128, if s.val < k ∧ Q (row b s) then (1 : EReal) else 0 := by
  have h2 : (∑ s : Fin 128, if s.val < k ∧ Q (row b s) then (1 : EReal) else 0)
      = ∑ t : Fin 2048, if (128 * b.val ≤ t.val ∧ t.val < 128 * b.val + k) ∧ Q t then (1 : EReal) else 0 := by
    refine Finset.sum_of_injOn (row b) ((row_injective b).injOn) (fun _ _ => Finset.mem_coe.mpr (Finset.mem_univ _)) ?_ ?_
    · intro t _ ht
      rw [if_neg]
      rintro ⟨⟨h0, h1⟩, -⟩
      refine ht ⟨⟨t.val - 128 * b.val, by omega⟩, Finset.mem_coe.mpr (Finset.mem_univ _), Fin.ext ?_⟩
      simp only [row]; omega
    · intro s _
      refine if_congr ?_ rfl rfl
      simp only [row]
      exact ⟨fun h => ⟨⟨by omega, by omega⟩, h.2⟩, fun h => ⟨by omega, h.2⟩⟩
  rw [h2, ← Finset.sum_add_distrib]
  refine Finset.sum_congr rfl fun t _ => ?_
  by_cases hQ : Q t
  · by_cases h0 : t.val < 128 * b.val
    · rw [if_pos ⟨by omega, hQ⟩, if_pos ⟨h0, hQ⟩, if_neg (fun h => by omega), add_zero]
    · by_cases h1 : t.val < 128 * b.val + k
      · rw [if_pos ⟨h1, hQ⟩, if_neg (fun h => h0 h.1), if_pos ⟨⟨by omega, h1⟩, hQ⟩, zero_add]
      · rw [if_neg (fun h => h1 h.1), if_neg (fun h => h0 h.1), if_neg (fun h => h1 h.1.2), zero_add]
  · rw [if_neg (fun h => hQ h.2), if_neg (fun h => hQ h.2), if_neg (fun h => hQ h.2), zero_add]

variable (v : FVec Ideal S2048x64 .bf16) (e : Fin 2048 → Fin 64)
  (hv : ∀ (t : Fin 2048) (f : Fin 64), v (ix2 t f) = if e t = f then (1 : EReal) else 0)

include hv

theorem blk_apply (b : Fin 16) (s : Fin 128) (f : Fin 64) :
    blk v b (ix2 s f) = if e (row b s) = f then (1 : EReal) else 0 := hv _ _

/-- What was summed before block `b`, at expert `f`: how many of the rows before the block go to `f`. -/
theorem pre_apply (f : Fin 64) : ∀ n ≤ 16, pre v n (ix2 0 f)
    = ∑ t : Fin 2048, if t.val < 128 * n ∧ e t = f then (1 : EReal) else 0
  | 0, _ => by
    have h0 : pre v 0 (ix2 0 f) = (0 : EReal) := by
      show k0_pay19 (F := Ideal) (ix2 0 f) = _
      pointwise [k0_pay19]
    rw [h0]
    refine (Finset.sum_eq_zero fun t _ => if_neg fun h => ?_).symm
    omega
  | n + 1, hn => by
    have ih := pre_apply f n (by omega)
    rw [show pre v (n + 1) = plus (pre v n) (blk v ⟨n, by omega⟩) from pre_succ v ⟨n, by omega⟩, plus_apply, ih]
    have hs := sum_split ⟨n, by omega⟩ 128 le_rfl (fun t => e t = f)
    simp only at hs
    rw [show 128 * (n + 1) = 128 * n + 128 by ring, hs]
    congr 1
    refine Finset.sum_congr rfl fun s _ => ?_
    rw [blk_apply v e hv]
    exact if_congr ⟨fun h => ⟨s.isLt, h⟩, fun h => h.2⟩ rfl rfl

/-- The rank of a token: how many earlier tokens go to its expert. -/
theorem rank_apply (b : Fin 16) (r : Fin 128) : rkf v b (ix2 r 0)
    = ((Finset.univ.filter fun t : Fin 2048 => t.val < (row b r).val ∧ e t = e (row b r)).card : EReal) := by
  rw [rkf_eq]
  show ranks (blk v b) (pre v b.val) (ix2 r 0) = _
  rw [ranks_apply, Finset.sum_eq_single (e (row b r))]
  · rw [blk_apply v e hv, if_pos rfl, mul_one, pre_apply v e hv _ _ (by omega), add_comm, Finset.natCast_card_filter]
    have hs := sum_split b r.val (by omega) (fun t => e t = e (row b r))
    rw [show (row b r).val = 128 * b.val + r.val from rfl, hs]
    congr 1
    refine Finset.sum_congr rfl fun s _ => ?_
    rw [select_lt, blk_apply v e hv]
    by_cases h : s < r
    · rw [if_pos h, one_mul]
      exact if_congr ⟨fun h' => ⟨h, h'⟩, fun h' => h'.2⟩ rfl rfl
    · rw [if_neg h, zero_mul, if_neg fun h' => h h'.1]
  · intro f _ hf
    rw [blk_apply v e hv, if_neg (fun h => hf h.symm), mul_zero]
  · intro h; exact absurd (Finset.mem_univ _) h

omit hv in
/-- How many earlier tokens go to token `t`'s expert. -/
def rk (e : Fin 2048 → Fin 64) (t : Fin 2048) : ℕ := (Finset.univ.filter fun t' : Fin 2048 => t'.val < t.val ∧ e t' = e t).card

/-- The rank column, entry by entry. -/
theorem ofBlocks_apply (t : Fin 2048) : ofBlocks (rkf v) (ix2 t 0) = ((rk e t : ℕ) : EReal) := by
  have hrow : row ⟨t.val / 128, by omega⟩ ⟨t.val % 128, Nat.mod_lt _ (by decide)⟩ = t := Fin.ext (by simp only [row]; omega)
  have hp : (Shape.pair (d := ![128, 1]) (⟨t.val % 128, Nat.mod_lt _ (by decide)⟩ : Fin 128) (0 : Fin 1))
      = ix2 (⟨t.val % 128, Nat.mod_lt _ (by decide)⟩ : Fin 128) (0 : Fin 1) := by
    funext a; match a with | ⟨0, _⟩ => rfl | ⟨1, _⟩ => rfl
  have := rank_apply v e hv ⟨t.val / 128, by omega⟩ ⟨t.val % 128, Nat.mod_lt _ (by decide)⟩
  rw [hrow] at this
  rw [← hp] at this
  exact this

omit hv in
theorem rk_lt (t : Fin 2048) : rk e t < (Finset.univ.filter fun t' : Fin 2048 => e t' = e t).card := by
  refine Finset.card_lt_card ⟨fun t' h => ?_, fun h => ?_⟩
  · rw [Finset.mem_filter] at h ⊢; exact ⟨h.1, h.2.2⟩
  · have : t ∈ Finset.univ.filter fun t' : Fin 2048 => t'.val < t.val ∧ e t' = e t :=
      h (Finset.mem_filter.mpr ⟨Finset.mem_univ _, rfl⟩)
    exact absurd (Finset.mem_filter.mp this).2.1 (lt_irrefl _)

omit hv in
/-- Tokens of one expert have different ranks: the later one's is larger. -/
theorem rk_strict {t t' : Fin 2048} (h : t.val < t'.val) (he : e t = e t') : rk e t < rk e t' := by
  refine Finset.card_lt_card ⟨fun s hs => ?_, fun hs => ?_⟩
  · rw [Finset.mem_filter] at hs ⊢; exact ⟨hs.1, by omega, hs.2.2.trans he⟩
  · have : t ∈ Finset.univ.filter fun s : Fin 2048 => s.val < t.val ∧ e s = e t :=
      hs (Finset.mem_filter.mpr ⟨Finset.mem_univ _, h, he⟩)
    exact absurd (Finset.mem_filter.mp this).2.1 (lt_irrefl _)

omit hv in
theorem rk_inj {t t' : Fin 2048} (he : e t = e t') (h : rk e t = rk e t') : t = t' := by
  rcases lt_trichotomy t.val t'.val with hl | hl | hl
  · exact absurd (rk_strict e hl he) (by omega)
  · exact Fin.ext hl
  · exact absurd (rk_strict e hl he.symm) (by omega)

omit hv in
/-- A count as an integer word. -/
theorem fptosi_nat (n : ℕ) (h : n < 2 ^ 31) : Ideal.fptosi 32 ((n : ℕ) : EReal) = BitVec.ofNat 32 n := by
  have hc : ((n : ℕ) : EReal) = (((n : ℕ) : ℝ) : EReal) := (EReal.coe_natCast).symm
  rw [hc, Ideal.fptosi, Ideal.toIntClamped_coe, if_pos (Nat.cast_nonneg n), Int.floor_natCast]
  have : max (-(2 ^ (32 - 1) : ℕ) : ℤ) (min (((2 ^ (32 - 1) : ℕ) : ℤ) - 1) (n : ℤ)) = (n : ℤ) := by
    have : (n : ℤ) < 2 ^ 31 := by exact_mod_cast h
    omega
  rw [this]
  exact BitVec.ofInt_natCast 32 n

end Cert.MoE

end
-- ==== Proof.Softmax.lean ====
/-
Softmax over the extended reals: of finite scores every probability is finite and not negative, so that it distributes
over any sum.
-/
module

public import Idealize.ShloMosaic.Lib.Pointwise

@[expose] public section

noncomputable section

namespace Cert.MoE

open Idealize.ShloMosaic

/-- The scores of a token: its product with the router's columns. -/
def score (x : Fin 512 → EReal) (W : Fin 512 → Fin 64 → EReal) (e : Fin 64) : EReal := ∑ k : Fin 512, x k * W k e

/-- The largest score. -/
def top (z : Fin 64 → EReal) : EReal := Finset.fold max (Ideal.ofBits FTy.f32 0xFF800000#32) z Finset.univ

/-- The probability of an expert. -/
def soft (z : Fin 64 → EReal) (e : Fin 64) : EReal :=
  Ideal.div (Ideal.exp (z e - top z)) (∑ e' : Fin 64, Ideal.exp (z e' - top z))

theorem start_bot : Ideal.ofBits FTy.f32 0xFF800000#32 = ⊥ := by simp [Ideal.ofBits, Ideal.ieee]

/-- The sum of finite products is finite. -/
theorem score_real (x : Fin 512 → EReal) (W : Fin 512 → Fin 64 → EReal) (hx : ∀ k, ∃ a : ℝ, x k = a)
    (hW : ∀ k e, ∃ a : ℝ, W k e = a) (e : Fin 64) : ∃ a : ℝ, score x W e = a := by
  choose a ha using hx
  choose b hb using hW
  refine ⟨∑ k, a k * b k e, ?_⟩
  have : ∀ s : Finset (Fin 512), ∑ k ∈ s, x k * W k e = ((∑ k ∈ s, a k * b k e : ℝ) : EReal) := by
    intro s
    induction s using Finset.induction_on with
    | empty => simp
    | insert k s hk ih => rw [Finset.sum_insert hk, Finset.sum_insert hk, ih, ha, hb, EReal.coe_add, EReal.coe_mul]
  exact this Finset.univ

theorem top_real (z : Fin 64 → EReal) (hz : ∀ e, ∃ a : ℝ, z e = a) : ∃ a : ℝ, top z = a := by
  choose a ha using hz
  have h1 : top z < ⊤ := by
    rw [top, start_bot, Finset.fold_max_lt]
    exact ⟨bot_lt_top, fun e _ => by rw [ha]; exact EReal.coe_lt_top _⟩
  have h2 : ⊥ < top z := by
    rw [top, start_bot, Finset.lt_fold_max]
    exact Or.inr ⟨0, Finset.mem_univ _, by rw [ha]; exact EReal.bot_lt_coe _⟩
  exact ⟨(top z).toReal, (EReal.coe_toReal h1.ne h2.ne').symm⟩

/-- Of finite scores, every probability is a real, not negative. -/
theorem soft_real (z : Fin 64 → EReal) (hz : ∀ e, ∃ a : ℝ, z e = a) (e : Fin 64) : ∃ p : ℝ, 0 ≤ p ∧ soft z e = p := by
  obtain ⟨b, hb⟩ := top_real z hz
  choose a ha using hz
  have hexp : ∀ e', Ideal.exp (z e' - top z) = ((Real.exp (a e' - b) : ℝ) : EReal) := fun e' => by
    rw [ha, hb, ← EReal.coe_sub, Ideal.exp_coe]
  have hsum : ∑ e' : Fin 64, Ideal.exp (z e' - top z) = ((∑ e' : Fin 64, Real.exp (a e' - b) : ℝ) : EReal) := by
    have : ∀ s : Finset (Fin 64), ∑ e' ∈ s, Ideal.exp (z e' - top z) = ((∑ e' ∈ s, Real.exp (a e' - b) : ℝ) : EReal) := by
      intro s
      induction s using Finset.induction_on with
      | empty => simp
      | insert k s hk ih => rw [Finset.sum_insert hk, Finset.sum_insert hk, ih, hexp, EReal.coe_add]
    exact this Finset.univ
  have hpos : 0 < ∑ e' : Fin 64, Real.exp (a e' - b) := Finset.sum_pos (fun _ _ => Real.exp_pos _) ⟨0, Finset.mem_univ _⟩
  refine ⟨Real.exp (a e - b) * (1 / ∑ e' : Fin 64, Real.exp (a e' - b)), by positivity, ?_⟩
  rw [soft, hsum, hexp, Ideal.div_coe hpos.ne', EReal.coe_mul]

/-- A real that is not negative distributes over any sum of extended reals. -/
theorem mul_sum_of_real {ι : Type} (p : ℝ) (hp : 0 ≤ p) (f : ι → EReal) (s : Finset ι) :
    (p : EReal) * ∑ k ∈ s, f k = ∑ k ∈ s, (p : EReal) * f k := by
  classical
  induction s using Finset.induction_on with
  | empty => simp
  | insert k s hk ih =>
    rw [Finset.sum_insert hk, Finset.sum_insert hk, ← ih]
    exact EReal.left_distrib_of_nonneg_of_ne_top (by exact_mod_cast hp) (EReal.coe_ne_top _) _ _

/-- Scaling a token by its probability before its expert's product, or the product after. -/
theorem scale (p : ℝ) (hp : 0 ≤ p) (x w : Fin 512 → EReal) :
    (∑ k : Fin 512, (x k * (p : EReal)) * w k) = (p : EReal) * ∑ k : Fin 512, x k * w k := by
  rw [mul_sum_of_real p hp]
  refine Finset.sum_congr rfl fun k _ => ?_
  rw [mul_comm (x k) (p : EReal), mul_assoc]

end Cert.MoE

end
-- ==== Proof.Dispatch.lean ====
/-
What the kernel computes on a device, as mathematics: every token is dispatched to its own slot, the slot's device
multiplies it with the weights of its expert, and the answer comes back to the token. The running result after the
eight answers is the shared expert's product plus the token's expert's.
-/
module

public import proofs.«01_k».proof.Proof.Contents
public import proofs.«01_k».proof.Proof.Rank
public import proofs.«01_k».proof.Proof.Softmax

@[expose] public section

noncomputable section

namespace Cert.MoE

open Cert.KernelIdeal Cert.KernelIdeal.Gen Idealize.ShloMosaic Idealize.ShloMosaic.TcCoe Idealize.SL Idealize.SL.Sem

/-- The slot of a token: 64 slots an expert, the tokens of an expert in their order. -/
def slot (e : Fin 2048 → Fin 64) (t : Fin 2048) : ℕ := 64 * (e t).val + rk e t

section Slots

variable (e : Fin 2048 → Fin 64) (hcnt : ∀ x, (Finset.univ.filter (e · = x)).card ≤ 64)
include hcnt

theorem rk_lt_64 (t : Fin 2048) : rk e t < 64 := lt_of_lt_of_le (rk_lt e t) (hcnt _)

theorem slot_lt (t : Fin 2048) : slot e t < 4096 := by
  have := rk_lt_64 e hcnt t
  have := (e t).isLt
  unfold slot; omega

/-- Two tokens have different slots. -/
theorem slot_inj {t t' : Fin 2048} (h : slot e t = slot e t') : t = t' := by
  have h1 := rk_lt_64 e hcnt t
  have h2 := rk_lt_64 e hcnt t'
  unfold slot at h
  have he : (e t).val = (e t').val := by omega
  exact rk_inj e (Fin.ext he) (by omega)

/-- The device of a token's slot, and the slot's number there. -/
def own (t : Fin 2048) : Fin 8 := ⟨slot e t / 512, by have := slot_lt e hcnt t; omega⟩
omit hcnt in
def col (t : Fin 2048) : Fin 512 := ⟨slot e t % 512, Nat.mod_lt _ (by decide)⟩

theorem own_val (t : Fin 2048) : (own e hcnt t).val = (e t).val / 8 := by
  have := rk_lt_64 e hcnt t
  simp only [own, slot]; omega

theorem col_div (t : Fin 2048) : (col e t).val / 64 = (e t).val % 8 := by
  have := rk_lt_64 e hcnt t
  simp only [col, slot]; omega

end Slots

/-- Words of small numbers are equal when the numbers are. -/
theorem ofNat_inj {a b : ℕ} (ha : a < 2 ^ 32) (hb : b < 2 ^ 32) : BitVec.ofNat 32 a = BitVec.ofNat 32 b ↔ a = b := by
  constructor
  · intro h
    have := congrArg BitVec.toNat h
    rw [BitVec.toNat_ofNat, BitVec.toNat_ofNat, Nat.mod_eq_of_lt ha, Nat.mod_eq_of_lt hb] at this
    exact this
  · rintro rfl; rfl

/-- The first slot of the device that a trip speaks of. -/
theorem word_base : ∀ c k : Fin 8, Scalar.muli (Scalar.remsi (Scalar.addi (v2w c) (Scf.iv 0#32 1#32 k.val)) 8#32) 512#32
    = BitVec.ofNat 32 (512 * (c + k).val) := by decide +kernel

theorem addi_ofNat (a b : ℕ) : IntOp.addi (BitVec.ofNat 32 a) (BitVec.ofNat 32 b) = BitVec.ofNat 32 (b + a) := by
  rw [add_comm b a, BitVec.ofNat_add]; rfl
theorem muli_ofNat (a b : ℕ) : IntOp.muli (BitVec.ofNat 32 a) (BitVec.ofNat 32 b) = BitVec.ofNat 32 (b * a) := by
  rw [mul_comm b a, BitVec.ofNat_mul]; rfl

/-! ## The kernel's own operations, at one entry -/

theorem pay1_apply (c k : Fin 8) (x : FVec Ideal S2048x512 .bf16) (s : IVec S2048x1 32) (q : Fin 512) (f : Fin 512) :
    k0_pay1 (v2w c) x s (t1 k) (ix3 0 q f)
      = ∑ t : Fin 2048, if BitVec.ofNat 32 (512 * (c + k).val + q.val) = s (ix2 t 0) then x (ix2 t f) else 0 := by
  pointwise [k0_pay1]
  refine Finset.sum_congr rfl fun t _ => ?_
  rw [select_eq, word_base, addi_ofNat]

theorem pay3_apply (c k : Fin 8) (x : Vec Ideal S1x512x1024 .bf16) (s : IVec S2048x1 32) (a : FVec Ideal S2048x1024 .bf16)
    (q : Fin 2048) (f : Fin 1024) :
    k0_pay3 (v2w c) s (t3 k) x a (ix2 q f)
      = a (ix2 q f) + ∑ p : Fin 512, if BitVec.ofNat 32 (512 * (c + k).val + p.val) = s (ix2 q 0) then x (ix3 0 p f) else 0 := by
  pointwise [k0_pay3]
  refine congrArg₂ (· + ·) rfl (Finset.sum_congr rfl fun p _ => ?_)
  rw [select_eq, word_base, addi_ofNat]

theorem pay5_apply (x : Vec Ideal S1x64x512 .bf16) (w : Vec Ideal S1x512x1024 .bf16) (q : Fin 64) (f : Fin 1024) :
    k0_pay5 x w (ix3 0 q f) = ∑ k : Fin 512, x (ix3 0 q k) * w (ix3 0 k f) := by
  pointwise [k0_pay5]

theorem pay16_apply (x : Vec Ideal S2048x512 .bf16) (s : Vec Ideal S512x1024 .bf16) (q : Fin 2048) (f : Fin 1024) :
    k0_pay16 x s (ix2 q f) = ∑ k : Fin 512, x (ix2 q k) * s (ix2 k f) := by
  pointwise [k0_pay16, k0_pay13]

theorem pay17_apply (i : Vec Ideal S2048x1 .i32) (q : Fin 2048) (f e : Fin 64) (hi : i (ix2 q 0) = BitVec.ofNat 32 e.val) :
    k0_pay17 (F := Ideal) i (ix2 q f) = if e = f then (1 : EReal) else 0 := by
  pointwise [k0_pay17, k0_pay14]
  rw [select_eq, hi]
  refine if_congr ?_ rfl rfl
  rw [ofNat_inj (by omega) (by omega), Fin.ext_iff, eq_comm]

theorem pay69_apply (i : Vec Ideal S2048x1 .i32) (r : FVec Ideal S2048x1 .f32) (q : Fin 2048) (e : Fin 64) (n : ℕ)
    (hn : n < 2 ^ 31) (hi : i (ix2 q 0) = BitVec.ofNat 32 e.val) (hr : r (ix2 q 0) = ((n : ℕ) : EReal)) :
    k0_pay69 i r (ix2 q 0) = BitVec.ofNat 32 (64 * e.val + n) := by
  pointwise [k0_pay69]
  rw [hi, hr]
  rw [show FloatOps.fptosi (F := Ideal) (φ := .f32) 32 ((n : ℕ) : EReal) = BitVec.ofNat 32 n from fptosi_nat n hn]
  rw [show (64#32 : BitVec 32) = BitVec.ofNat 32 64 from rfl, muli_ofNat, addi_ofNat, add_comm]

/-- A token scaled by the probability of its expert. -/
theorem pay15_apply (x : Vec Ideal S2048x512 .bf16) (r : Vec Ideal S512x64 .bf16) (i : Vec Ideal S2048x1 .i32)
    (q : Fin 2048) (f : Fin 512) (e : Fin 64) (hi : i (ix2 q 0) = BitVec.ofNat 32 e.val) :
    k0_pay15 x r i (ix2 q f)
      = x (ix2 q f) * soft (score (fun k => x (ix2 q k)) (fun k e' => r (ix2 k e'))) e := by
  pointwise [k0_pay15, k0_pay13, k0_pay14]
  refine congrArg₂ (· * ·) rfl ?_
  rw [Finset.sum_eq_single e]
  · rw [select_eq, if_pos hi.symm]; rfl
  · intro e' _ h
    rw [select_eq, if_neg]
    rw [hi, ofNat_inj (by omega) (by omega)]
    exact fun h' => h (Fin.ext h')
  · exact fun h => absurd (Finset.mem_univ _) h

end Cert.MoE

end
-- ==== Proof.Exchange.lean ====
/-
The exchange's buffers, entry by entry, and the running result when every answer is in: at a token and an output
column, the shared expert's product plus the product of the token, scaled by its probability, with its own expert's
weights, which sit on the expert's device.
-/
module

public import proofs.«01_k».proof.Proof.Dispatch

@[expose] public section

noncomputable section

namespace Cert.MoE

open Cert.KernelIdeal Cert.KernelIdeal.Gen Idealize.ShloMosaic Idealize.ShloMosaic.TcCoe Idealize.SL Idealize.SL.Sem

variable (m : (ℓ : Loc nD τ sig) → Buf (Elt Ideal) ℓ) (c : Dev nD) (e : Fin 2048 → Fin 64)
  (he : ∀ t, iS m c (ix2 t 0) = BitVec.ofNat 32 (e t).val)
  (hcnt : ∀ x, (Finset.univ.filter (e · = x)).card ≤ 64)

theorem ix_at3 {a b : ℕ} (s : Fin 8) (p : Fin a) (q : Fin b) : at3 s (ix2 p q) = ix3 s p q := by
  funext j; match j with | ⟨0, _⟩ => rfl | ⟨1, _⟩ => rfl | ⟨2, _⟩ => rfl
theorem ix_at1 {a b : ℕ} (p : Fin a) (q : Fin b) : at1 (ix2 p q) = ix3 0 p q := by
  funext j; match j with | ⟨0, _⟩ => rfl | ⟨1, _⟩ => rfl | ⟨2, _⟩ => rfl
theorem ix_tl {a b : ℕ} (s : Fin 8) (p : Fin a) (q : Fin b) : tl (ix3 s p q) = ix2 p q := by
  funext j; match j with | ⟨0, _⟩ => rfl | ⟨1, _⟩ => rfl
theorem ix_tl1 {a b : ℕ} (s : Fin 1) (p : Fin a) (q : Fin b) : tl1 (ix3 s p q) = ix2 p q := by
  funext j; match j with | ⟨0, _⟩ => rfl | ⟨1, _⟩ => rfl
theorem ix_pair {a b : ℕ} (p : Fin a) (q : Fin b) : Shape.pair (d := ![a, b]) p q = ix2 p q := by
  funext j; match j with | ⟨0, _⟩ => rfl | ⟨1, _⟩ => rfl

include he

/-- The ranks the kernel computes. -/
theorem rankV_apply (t : Fin 2048) : rankV m c (ix2 t 0) = ((rk e t : ℕ) : EReal) :=
  ofBlocks_apply _ e (fun t f => pay17_apply _ t f (e t) (he t)) t

include hcnt

/-- The slots the kernel computes. -/
theorem slotV_apply (t : Fin 2048) : slotV m c (ix2 t 0) = BitVec.ofNat 32 (slot e t) :=
  pay69_apply _ _ t (e t) (rk e t) (by have := rk_lt_64 e hcnt t; omega) (he t) (rankV_apply m c e he t)

/-- What a token's slot holds when it is dispatched: the token, scaled. -/
theorem DS_apply (t : Fin 2048) (f : Fin 512) : DS m c (ix3 (own e hcnt t) (col e t) f) = xp m c (ix2 t f) := by
  show k0_pay1 (v2w c) (xp m c) (slotV m c) (t1 (own e hcnt t - c)) (at1 (tl (ix3 (own e hcnt t) (col e t) f))) = _
  rw [ix_tl, ix_at1, pay1_apply, Finset.sum_eq_single t]
  · rw [if_pos]
    rw [slotV_apply m c e he hcnt]
    congr 1
    rw [show c + (own e hcnt t - c) = own e hcnt t from add_sub_cancel (G := Fin 8) c _]
    simp only [own, col]
    omega
  · intro t' _ h
    rw [if_neg]
    rw [slotV_apply m c e he hcnt, show c + (own e hcnt t - c) = own e hcnt t from add_sub_cancel (G := Fin 8) c _]
    have h1 := slot_lt e hcnt t
    have h2 := slot_lt e hcnt t'
    simp only [own, col]
    rw [ofNat_inj (by omega) (by omega)]
    exact fun h' => h (slot_inj e hcnt (by omega))
  · exact fun h => absurd (Finset.mem_univ _) h

/-- The answer to a token, in its slot. -/
theorem CR_apply (t : Fin 2048) (f : Fin 1024) : CR m c (ix3 (own e hcnt t) (col e t) f)
    = ∑ k : Fin 512, xp m c (ix2 t k)
        * eS m (own e hcnt t) (ix3 (⟨(e t).val % 8, Nat.mod_lt _ (by decide)⟩ : Fin 8) k f) := by
  show RS m (own e hcnt t) (at3 c (tl (ix3 (own e hcnt t) (col e t) f))) = _
  rw [ix_tl, ix_at3]
  show k0_pay5 _ _ (at1 (Shape.pair (d := ![64, 1024]) (⟨(col e t).val % 64, Nat.mod_lt _ (by decide)⟩ : Fin 64) f)) = _
  rw [ix_pair, ix_at1, pay5_apply]
  refine Finset.sum_congr rfl fun k _ => congrArg₂ (· * ·) ?_ ?_
  · rw [← DS_apply m c e he hcnt t k]
    show DS m c (at3 (own e hcnt t) (Shape.pair (d := ![512, 512]) (⟨64 * ((col e t).val / 64) + (col e t).val % 64, _⟩ : Fin 512) k)) = _
    rw [ix_pair, ix_at3]
    congr 2
    exact Fin.ext (Nat.div_add_mod _ _)
  · show eS m (own e hcnt t) (at3 (⟨(col e t).val / 64, _⟩ : Fin 8) (tl1 (ix3 0 k f))) = _
    rw [ix_tl1, ix_at3]
    congr 2
    exact Fin.ext (col_div e hcnt t)

/-- The running result after `n` answers: a token's answer is in once its slot's device has been met. -/
theorem ACC_apply (t : Fin 2048) (f : Fin 1024) : ∀ n ≤ 8, ACC m c n (ix2 t f)
    = (∑ k : Fin 512, xS m c (ix2 t k) * sS m c (ix2 k f))
      + ∑ j : Fin 8, if j.val < n ∧ c + j = own e hcnt t then CR m c (ix3 (own e hcnt t) (col e t) f) else 0
  | 0, _ => by
    have : (∑ j : Fin 8, if j.val < 0 ∧ c + j = own e hcnt t then CR m c (ix3 (own e hcnt t) (col e t) f) else 0) = (0 : EReal) :=
      Finset.sum_eq_zero fun j _ => if_neg fun h => Nat.not_lt_zero _ h.1
    rw [this, add_zero]
    exact pay16_apply _ _ t f
  | n + 1, hn => by
    have key := ACC_succ m c ⟨n, hn⟩
    simp only at key
    rw [key, pay3_apply, ACC_apply t f n (by omega), add_assoc]
    refine congrArg₂ (· + ·) rfl ?_
    have hp : (∑ p : Fin 512, if BitVec.ofNat 32 (512 * (c + ⟨n, hn⟩ : Fin 8).val + p.val) = slotV m c (ix2 t 0)
          then CR m c (at3 (c + ⟨n, hn⟩) (tl1 (ix3 (0 : Fin 1) p f))) else 0)
        = if c + ⟨n, hn⟩ = own e hcnt t then CR m c (ix3 (own e hcnt t) (col e t) f) else 0 := by
      have h1 := slot_lt e hcnt t
      have h8 : (c + ⟨n, hn⟩ : Fin 8).val < 8 := (c + ⟨n, hn⟩ : Fin 8).isLt
      generalize (c + ⟨n, hn⟩ : Fin 8) = d at h8 ⊢
      have hs : ∀ p : Fin 512, BitVec.ofNat 32 (512 * d.val + p.val) = slotV m c (ix2 t 0)
          ↔ d = own e hcnt t ∧ p = col e t := fun p => by
        rw [slotV_apply m c e he hcnt, ofNat_inj (by omega) (by omega), Fin.ext_iff, Fin.ext_iff]
        simp only [own, col]
        omega
      rw [Finset.sum_eq_single (col e t)]
      · rw [ix_tl1, ix_at3]
        by_cases h : d = own e hcnt t
        · rw [if_pos ((hs _).mpr ⟨h, rfl⟩), if_pos h, h]
        · rw [if_neg (fun h' => h ((hs _).mp h').1), if_neg h]
      · intro p _ h
        exact if_neg fun h' => h ((hs _).mp h').2
      · exact fun h => absurd (Finset.mem_univ _) h
    have hj : ∀ j : Fin 8, (if j.val < n + 1 ∧ c + j = own e hcnt t then CR m c (ix3 (own e hcnt t) (col e t) f) else 0)
        = (if j.val < n ∧ c + j = own e hcnt t then CR m c (ix3 (own e hcnt t) (col e t) f) else 0)
          + if j = (⟨n, hn⟩ : Fin 8) then (if c + ⟨n, hn⟩ = own e hcnt t then CR m c (ix3 (own e hcnt t) (col e t) f) else 0)
            else (0 : EReal) := fun j => by
      by_cases h : j = (⟨n, hn⟩ : Fin 8)
      · subst h
        rw [if_pos (rfl : (⟨n, hn⟩ : Fin 8) = ⟨n, hn⟩), if_neg (show ¬ ((⟨n, hn⟩ : Fin 8).val < n ∧ c + ⟨n, hn⟩ = own e hcnt t) from fun h => absurd h.1 (lt_irrefl n)), zero_add]
        exact if_congr ⟨fun h => h.2, fun h => ⟨Nat.lt_succ_self n, h⟩⟩ rfl rfl
      · rw [if_neg h, add_zero]
        have : j.val ≠ n := fun h' => h (Fin.ext h')
        exact if_congr ⟨fun h => ⟨by omega, h.2⟩, fun h => ⟨by omega, h.2⟩⟩ rfl rfl
    rw [Finset.sum_congr rfl fun j _ => hj j, Finset.sum_add_distrib, Finset.sum_ite_eq' Finset.univ,
      if_pos (Finset.mem_univ _)]
    exact congrArg₂ (· + ·) rfl hp

/-- The result of the kernel at a token and an output column. -/
theorem ACC_final (t : Fin 2048) (f : Fin 1024) : ACC m c 8 (ix2 t f)
    = (∑ k : Fin 512, xS m c (ix2 t k) * sS m c (ix2 k f))
      + ∑ k : Fin 512, (xS m c (ix2 t k) * soft (score (fun k => xS m c (ix2 t k)) (fun k x => rS m c (ix2 k x))) (e t))
          * eS m (own e hcnt t) (ix3 (⟨(e t).val % 8, Nat.mod_lt _ (by decide)⟩ : Fin 8) k f) := by
  rw [ACC_apply m c e he hcnt t f 8 le_rfl]
  refine congrArg₂ (· + ·) rfl ?_
  rw [Finset.sum_eq_single (own e hcnt t - c)]
  · rw [if_pos ⟨(own e hcnt t - c : Fin 8).isLt, add_sub_cancel (G := Fin 8) c _⟩, CR_apply m c e he hcnt]
    refine Finset.sum_congr rfl fun k _ => congrArg₂ (· * ·) ?_ rfl
    exact pay15_apply _ _ _ t k (e t) (he t)
  · intro j _ h
    exact if_neg fun h' => h (by rw [← h'.2]; exact (add_sub_cancel_left (G := Fin 8) c j).symm)
  · exact fun h => absurd (Finset.mem_univ _) h

end Cert.MoE

end
-- ==== Proof.Reference.lean ====
/-
The reference's result, entry by entry: the shared expert's product, and the token's own expert's product times the
expert's probability.
-/
module

public import proofs.«01_k».proof.Proof.Gen.ReferenceIdeal.Run
public import proofs.«01_k».proof.Proof.Rank
public import proofs.«01_k».proof.Proof.Softmax

@[expose] public section

noncomputable section

namespace Cert.MoE

open Cert.ReferenceIdeal Cert.ReferenceIdeal.Gen Idealize.ShloMosaic Idealize.ShloMosaic.TcCoe Idealize.SL Idealize.SL.Sem

/-- The reference's result as a function of its arguments. -/
def refOf (x : FVec Ideal S16384x512 .bf16) (r : FVec Ideal S512x64 .bf16) (i : IVec S16384x1 32)
    (w : FVec Ideal S64x512x1024 .bf16) (s : FVec Ideal S512x1024 .bf16) : FVec Ideal S16384x1024 .bf16 :=
  truncf .bf16 (addf (Host.dotGeneral dot_S16384x512_S512x1024_S16384x1024_1_0_0_1_n_n none (extf .f32 x bitsLt_bf16_f32) (extf .f32 s bitsLt_bf16_f32)) (mulf (broadcastInDim S16384x1024 ![0, 1] bcast_S16384x1_S16384x1024_0_1 (Host.gather gather_S16384x64_S16384x1x1_S16384x1_n_1_0_0_1_2_11 (Host.divf (Host.exp (subf (Host.dotGeneral dot_S16384x512_S512x64_S16384x64_1_0_0_1_n_n none (extf .f32 x bitsLt_bf16_f32) (extf .f32 r bitsLt_bf16_f32)) (broadcastInDim S16384x64 ![0, 1] bcast_S16384x1_S16384x64_0_1 (broadcastInDim S16384x1 ![0] bcast_S16384_S16384x1_0 (Host.reduce FloatOps.maximumf (Host.dotGeneral dot_S16384x512_S512x64_S16384x64_1_0_0_1_n_n none (extf .f32 x bitsLt_bf16_f32) (extf .f32 r bitsLt_bf16_f32)) (constant S_ .f32 0xFF800000#32) reducesTo_S16384x64_S16384_d1 h_S_))))) (broadcastInDim S16384x64 ![0, 1] bcast_S16384x1_S16384x64_0_1 (broadcastInDim S16384x1 ![0] bcast_S16384_S16384x1_0 (Host.reduceAdd (Host.exp (subf (Host.dotGeneral dot_S16384x512_S512x64_S16384x64_1_0_0_1_n_n none (extf .f32 x bitsLt_bf16_f32) (extf .f32 r bitsLt_bf16_f32)) (broadcastInDim S16384x64 ![0, 1] bcast_S16384x1_S16384x64_0_1 (broadcastInDim S16384x1 ![0] bcast_S16384_S16384x1_0 (Host.reduce FloatOps.maximumf (Host.dotGeneral dot_S16384x512_S512x64_S16384x64_1_0_0_1_n_n none (extf .f32 x bitsLt_bf16_f32) (extf .f32 r bitsLt_bf16_f32)) (constant S_ .f32 0xFF800000#32) reducesTo_S16384x64_S16384_d1 h_S_))))) (constant S_ .f32 0x00000000#32) reducesTo_S16384x64_S16384_d1 h_S_)))) (shapeCast _ (select (cmpi .slt i (broadcastInDim S16384x1 ![] bcast_S_S16384x1 (constantI S_ 32 0#32))) (addi i (broadcastInDim S16384x1 ![] bcast_S_S16384x1 (constantI S_ 32 64#32))) i) shapeCasts_S16384x1_S16384x1x1))) (Host.dotGeneral dot_S16384x512_S16384x512x1024_S16384x1024_1_1_n_2_0_0 none (extf .f32 x bitsLt_bf16_f32) (Host.gather gather_S64x512x1024_S16384x1_S16384x512x1024_12_0_n_n_0_1_15121024 (extf .f32 w bitsLt_bf16_f32) (broadcastInDim S16384x1 ![0] bcast_S16384_S16384x1_0 (shapeCast _ i shapeCasts_S16384x1_S16384)))))) bitsLt_bf16_f32

/-- How the first gather reads its operand, and how the second does. -/
abbrev probDims := gather_S16384x64_S16384x1x1_S16384x1_n_1_0_0_1_2_11
abbrev weightDims := gather_S64x512x1024_S16384x1_S16384x512x1024_12_0_n_n_0_1_15121024

/-- The first gather takes, of a token's row, the entry its index names. -/
theorem take_prob (X : FVec Ideal S16384x64 .f32) (I : IVec S16384x1x1 32) (q : Fin 16384) (e : Fin 64)
    (hI : (I (ix3 q 0 0)).toInt.toNat = e.val) : Host.gather probDims X I (ix2 q 0) = X (ix2 q e) := by
  unfold Host.gather
  congr 1
  funext a
  refine Fin.ext ?_
  show probDims.start (ix2 q 0) I a + probDims.batchCoord (ix2 q 0) a + probDims.offCoord (ix2 q 0) a = _
  have hs : ∀ a, a ∉ probDims.sKept := fun a ha => by
    have := (GatherDims.mem_sKept _ _).mp ha
    match a with
    | ⟨0, _⟩ => exact this.2 (List.mem_singleton.mpr rfl)
    | ⟨1, _⟩ => exact this.1 (List.mem_singleton.mpr rfl)
  rw [GatherDims.offCoord_eq_zero _ _ _ (hs a)]
  match a with
  | ⟨0, h0⟩ =>
    rw [GatherDims.start_batching _ _ _ _ (List.mem_singleton.mpr rfl)]
    unfold GatherDims.batchCoord
    rw [dif_pos (show (⟨0, h0⟩ : Fin S16384x64.rank) ∈ probDims.operandBatchingDims from List.mem_singleton.mpr rfl)]
    simp only [Nat.zero_add, Nat.add_zero]
    rfl
  | ⟨1, h0⟩ =>
    rw [GatherDims.batchCoord_eq_zero _ _ _ (fun h => by simp [probDims, gather_S16384x64_S16384x1x1_S16384x1_n_1_0_0_1_2_11] at h)]
    unfold GatherDims.start
    rw [dif_pos (show (⟨1, h0⟩ : Fin S16384x64.rank) ∈ probDims.startIndexMap from List.mem_singleton.mpr rfl)]
    have hi : probDims.siIdx (ix2 q 0) ⟨List.idxOf (1 : Fin 2) probDims.startIndexMap,
        List.idxOf_lt_length_iff.2 (List.mem_singleton.mpr rfl)⟩ = ix3 q 0 0 := by
      funext b
      refine Fin.ext ?_
      match b with
      | ⟨0, _⟩ => rfl
      | ⟨1, _⟩ => rfl
      | ⟨2, _⟩ => rfl
    show min (I (probDims.siIdx (ix2 q 0) ⟨List.idxOf (1 : Fin 2) probDims.startIndexMap, _⟩)).toInt.toNat (64 - 1) + 0 + 0 = e.val
    rw [hi, hI]
    omega

/-- The second gather takes the weights of the expert that a token's index names. -/
theorem take_weights (W : FVec Ideal S64x512x1024 .f32) (I : IVec S16384x1 32) (q : Fin 16384) (k : Fin 512)
    (f : Fin 1024) (e : Fin 64) (hI : (I (ix2 q 0)).toInt.toNat = e.val) :
    Host.gather weightDims W I (ix3 q k f) = W (ix3 e k f) := by
  unfold Host.gather
  congr 1
  funext a
  refine Fin.ext ?_
  show weightDims.start (ix3 q k f) I a + weightDims.batchCoord (ix3 q k f) a + weightDims.offCoord (ix3 q k f) a = _
  rw [GatherDims.batchCoord_eq_zero _ _ _ (fun h => by simp [weightDims, gather_S64x512x1024_S16384x1_S16384x512x1024_12_0_n_n_0_1_15121024] at h)]
  match a with
  | ⟨0, h0⟩ =>
    rw [GatherDims.offCoord_eq_zero _ _ _ (fun h => ((GatherDims.mem_sKept _ _).mp h).1 (List.mem_singleton.mpr rfl))]
    unfold GatherDims.start
    rw [dif_pos (show (⟨0, h0⟩ : Fin S64x512x1024.rank) ∈ weightDims.startIndexMap from List.mem_singleton.mpr rfl)]
    have hi : weightDims.siIdx (ix3 q k f) ⟨List.idxOf (0 : Fin 3) weightDims.startIndexMap,
        List.idxOf_lt_length_iff.2 (List.mem_singleton.mpr rfl)⟩ = ix2 q 0 := by
      funext b
      refine Fin.ext ?_
      match b with
      | ⟨0, _⟩ => rfl
      | ⟨1, _⟩ => rfl
    show min (I (weightDims.siIdx (ix3 q k f) ⟨List.idxOf (0 : Fin 3) weightDims.startIndexMap, _⟩)).toInt.toNat (64 - 1) + 0 + 0 = e.val
    rw [hi, hI]
    omega
  | ⟨1, _⟩ =>
    unfold GatherDims.start GatherDims.offCoord
    rw [dif_neg (fun h => by simp [weightDims, gather_S64x512x1024_S16384x1_S16384x512x1024_12_0_n_n_0_1_15121024] at h),
      dif_pos ((GatherDims.mem_sKept _ _).mpr ⟨fun h => by simp [weightDims, gather_S64x512x1024_S16384x1_S16384x512x1024_12_0_n_n_0_1_15121024] at h, fun h => by simp [weightDims, gather_S64x512x1024_S16384x1_S16384x512x1024_12_0_n_n_0_1_15121024] at h⟩)]
    simp only [Nat.zero_add]
    rfl
  | ⟨2, _⟩ =>
    unfold GatherDims.start GatherDims.offCoord
    rw [dif_neg (fun h => by simp [weightDims, gather_S64x512x1024_S16384x1_S16384x512x1024_12_0_n_n_0_1_15121024] at h),
      dif_pos ((GatherDims.mem_sKept _ _).mpr ⟨fun h => by simp [weightDims, gather_S64x512x1024_S16384x1_S16384x512x1024_12_0_n_n_0_1_15121024] at h, fun h => by simp [weightDims, gather_S64x512x1024_S16384x1_S16384x512x1024_12_0_n_n_0_1_15121024] at h⟩)]
    simp only [Nat.zero_add]
    rfl

/-- A small index read signed is itself. -/
theorem word_nat : ∀ e : Fin 64, (BitVec.ofNat 32 e.val).toInt.toNat = e.val := by decide +kernel

/-- An index that is not negative is not wrapped. -/
theorem word_wrap : ∀ e : Fin 64, Scalar.select (IntOp.cmpi .slt (BitVec.ofNat 32 e.val) 0#32)
    (IntOp.addi (BitVec.ofNat 32 e.val) 64#32) (BitVec.ofNat 32 e.val) = BitVec.ofNat 32 e.val := by decide +kernel

/-- The reference at one token and one output column. -/
theorem ref_apply (x : FVec Ideal S16384x512 .bf16) (r : FVec Ideal S512x64 .bf16) (i : IVec S16384x1 32)
    (w : FVec Ideal S64x512x1024 .bf16) (s : FVec Ideal S512x1024 .bf16) (q : Fin 16384) (f : Fin 1024) (e : Fin 64)
    (hi : i (ix2 q 0) = BitVec.ofNat 32 e.val) :
    refOf x r i w s (ix2 q f) = (∑ k : Fin 512, x (ix2 q k) * s (ix2 k f))
      + soft (score (fun k => x (ix2 q k)) (fun k e' => r (ix2 k e'))) e * ∑ k : Fin 512, x (ix2 q k) * w (ix3 e k f) := by
  pointwise [refOf]
  rw [take_prob _ _ q e]
  · have : ∀ k, Host.gather weightDims (extf .f32 w bitsLt_bf16_f32) (broadcastInDim S16384x1 ![0] bcast_S16384_S16384x1_0 (shapeCast S16384 i shapeCasts_S16384x1_S16384)) (ix3 q k f) = w (ix3 e k f) := fun k => by
      rw [take_weights _ _ q k f e]
      · rfl
      · pointwise []
        rw [hi, word_nat]
    refine congrArg₂ (· + ·) rfl (congrArg₂ (· * ·) ?_ (Finset.sum_congr rfl fun k _ => by rw [this]))
    pointwise []
    rfl
  · pointwise []
    rw [hi, word_wrap, word_nat]

end Cert.MoE

end
-- ==== Proof.Whole.lean ====
/-
Every window of the kernel is its whole array: what is staged is the argument, and the result's array ends with the
running result of the last trip.
-/
module

public import proofs.«01_k».proof.Proof.Run

@[expose] public section

noncomputable section

namespace Cert.MoE

open Cert.KernelIdeal Cert.KernelIdeal.Gen
open Idealize.ShloMosaic Idealize.ShloMosaic.TcCoe Idealize.SL Idealize.SL.Sem
open Idealize.ShloMosaic.Pipeline (Dat Cfg Window)

variable {F : FTy → Type} [FloatOps F] (m : (ℓ : Loc nD τ sig) → Buf (Elt F) ℓ)

/-- Entry `i` of window 0's block is entry `i` of its array. -/
theorem emb0 (i : S2048x512.Idx) : ((cfg0.win 0).blk t0_0).view.emb i = i := by
  funext j
  refine Fin.ext ?_
  match j with
  | ⟨0, _⟩ => show 0 + 1 * (i 0).val = (i 0).val; omega
  | ⟨1, _⟩ => show 0 + 1 * (i 1).val = (i 1).val; omega

/-- Entry `i` of window 1's block is entry `i` of its array. -/
theorem emb1 (i : S512x64.Idx) : ((cfg0.win 1).blk t0_0).view.emb i = i := by
  funext j
  refine Fin.ext ?_
  match j with
  | ⟨0, _⟩ => show 0 + 1 * (i 0).val = (i 0).val; omega
  | ⟨1, _⟩ => show 0 + 1 * (i 1).val = (i 1).val; omega

/-- Entry `i` of window 2's block is entry `i` of its array. -/
theorem emb2 (i : S2048x1.Idx) : ((cfg0.win 2).blk t0_0).view.emb i = i := by
  funext j
  refine Fin.ext ?_
  match j with
  | ⟨0, _⟩ => show 0 + 1 * (i 0).val = (i 0).val; omega
  | ⟨1, _⟩ => show 0 + 1 * (i 1).val = (i 1).val; omega

/-- Entry `i` of window 3's block is entry `i` of its array. -/
theorem emb3 (i : S8x512x1024.Idx) : ((cfg0.win 3).blk t0_0).view.emb i = i := by
  funext j
  refine Fin.ext ?_
  match j with
  | ⟨0, _⟩ => show 0 + 1 * (i 0).val = (i 0).val; omega
  | ⟨1, _⟩ => show 0 + 1 * (i 1).val = (i 1).val; omega
  | ⟨2, _⟩ => show 0 + 1 * (i 2).val = (i 2).val; omega

/-- Entry `i` of window 4's block is entry `i` of its array. -/
theorem emb4 (i : S512x1024.Idx) : ((cfg0.win 4).blk t0_0).view.emb i = i := by
  funext j
  refine Fin.ext ?_
  match j with
  | ⟨0, _⟩ => show 0 + 1 * (i 0).val = (i 0).val; omega
  | ⟨1, _⟩ => show 0 + 1 * (i 1).val = (i 1).val; omega

/-- Entry `i` of window 5's block is entry `i` of its array. -/
theorem emb5 (i : S2048x1024.Idx) : ((cfg0.win 5).blk t0_0).view.emb i = i := by
  funext j
  refine Fin.ext ?_
  match j with
  | ⟨0, _⟩ => show 0 + 1 * (i 0).val = (i 0).val; omega
  | ⟨1, _⟩ => show 0 + 1 * (i 1).val = (i 1).val; omega

/-! What is staged is the argument. -/

theorem xS_eq (c : Dev nD) : xS m c = m ((c : Thread nD τ).loc main_arg0) :=
  funext fun i => congrArg (m ((c : Thread nD τ).loc main_arg0)) (emb0 i)

theorem rS_eq (c : Dev nD) : rS m c = m ((c : Thread nD τ).loc main_arg1) :=
  funext fun i => congrArg (m ((c : Thread nD τ).loc main_arg1)) (emb1 i)

theorem iS_eq (c : Dev nD) : iS m c = m ((c : Thread nD τ).loc main_arg2) :=
  funext fun i => congrArg (m ((c : Thread nD τ).loc main_arg2)) (emb2 i)

theorem eS_eq (c : Dev nD) : eS m c = m ((c : Thread nD τ).loc main_arg3) :=
  funext fun i => congrArg (m ((c : Thread nD τ).loc main_arg3)) (emb3 i)

theorem sS_eq (c : Dev nD) : sS m c = m ((c : Thread nD τ).loc main_arg4) :=
  funext fun i => congrArg (m ((c : Thread nD τ).loc main_arg4)) (emb4 i)

/-- The result's array ends with the running result after the eight trips. -/
theorem finalA_out (c : Dev nD) : finalA m c 5 = ACC m c 8 := by
  refine (dats m 0 c).arrAt_eq_of_cover 5 (ACC m c 8) (fun t _ => ?_) (fun i => ⟨t0_0, flush0_5 t0_0, ?_⟩)
  · rw [fin_N0 t]
    refine funext fun i => ?_
    show ACC m c 8 i = ACC m c 8 (((cfg0.win 5).blk t0_0).view.emb i)
    rw [emb5]
  · have h := ((cfg0.win 5).blk t0_0).view.emb_mem_set i
    rwa [emb5] at h

end Cert.MoE

end
-- ==== Proof.Decode.lean ====
/-
What the precondition says of one device's arguments: every token's index names one of the 64 experts, no expert has
more than 64 of the device's tokens, and the tokens and the router's weights are finite.
-/
module

public import proofs.«01_k».proof.Pre_fits_KernelIdeal
public import Idealize.ShloMosaic.Lib.Pointwise
public import Idealize.ShloMosaic.Lib.StableHlo.Predicate

@[expose] public section

noncomputable section

namespace Cert.MoE

open Cert.Pre_fits_KernelIdeal Idealize.ShloMosaic

theorem both : ∀ a b : BitVec 1, IntOp.andi a b = 1#1 → a = 1#1 ∧ b = 1#1 := by decide

/-- A word between 0 and 63, read signed, is below 64. -/
theorem word_range (w : BitVec 32) (h : IntOp.andi (IntOp.cmpi .sge w 0#32) (IntOp.cmpi .slt w 64#32) = 1#1) :
    w.toNat < 64 := by
  obtain ⟨h0, h1⟩ := both _ _ h
  simp only [IntOp.cmpi, StableHlo.Predicate.ofBool_eq_one_iff, BitVec.sle, BitVec.slt, decide_eq_true_eq] at h0 h1
  rw [show (0#32 : BitVec 32).toInt = 0 from rfl] at h0
  rw [show (64#32 : BitVec 32).toInt = 64 from rfl] at h1
  rw [BitVec.toInt_eq_toNat_cond] at h0 h1
  have := w.isLt
  split at h0 <;> omega

/-- A value whose magnitude is below infinity is a real. -/
theorem finite_real (x : EReal) (h : Ideal.cmp .olt (max x (-x)) (Ideal.ofBits .bf16 0x7F80#16) = 1#1) : ∃ a : ℝ, x = a := by
  rw [show Ideal.ofBits .bf16 0x7F80#16 = ⊤ by simp [Ideal.ofBits, Ideal.ieee]] at h
  unfold Ideal.cmp at h
  rw [StableHlo.Predicate.ofBool_eq_one_iff, decide_eq_true_eq, max_lt_iff] at h
  refine ⟨x.toReal, (EReal.coe_toReal h.1.ne ?_).symm⟩
  rintro rfl
  exact absurd h.2 (by simp)

variable [Cert.Pre_fits_KernelIdeal.Facts] (a0 : FVec Ideal S2048x512 .bf16) (a1 : FVec Ideal S512x64 .bf16) (a2 : IVec S2048x1 32)
  (a3 : FVec Ideal S8x512x1024 .bf16) (a4 : FVec Ideal S512x1024 .bf16)

/-- Every index names an expert. -/
theorem fits_range (h : (fn a0 a1 a2 a3 a4).1 = fun _ => 1#1) (t : Fin 2048) : (a2 (ix2 t 0)).toNat < 64 :=
  word_range _ (congrFun h (ix2 t 0))

/-- The tokens are finite. -/
theorem fits_x (h : (fn a0 a1 a2 a3 a4).2.2.1 = fun _ => 1#1) (t : Fin 2048) (k : Fin 512) : ∃ a : ℝ, a0 (ix2 t k) = a :=
  finite_real _ (congrFun h (ix2 t k))

/-- The router's weights are finite. -/
theorem fits_router (h : (fn a0 a1 a2 a3 a4).2.2.2 = fun _ => 1#1) (k : Fin 512) (e : Fin 64) : ∃ a : ℝ, a1 (ix2 k e) = a :=
  finite_real _ (congrFun h (ix2 k e))

/-- The expert that an index names. -/
def expertOf (i : IVec S2048x1 32) (t : Fin 2048) : Fin 64 := ⟨(i (ix2 t 0)).toNat % 64, Nat.mod_lt _ (by decide)⟩

/-- An index is the word of its expert. -/
theorem expert_word (h : (fn a0 a1 a2 a3 a4).1 = fun _ => 1#1) (t : Fin 2048) : a2 (ix2 t 0) = BitVec.ofNat 32 (expertOf a2 t).val := by
  refine BitVec.eq_of_toNat_eq ?_
  rw [BitVec.toNat_ofNat]
  have := fits_range a0 a1 a2 a3 a4 h t
  simp only [expertOf]
  omega

/-- Where the precondition's mask is set: at a token and its own expert. -/
theorem mask_iff (h1 : (fn a0 a1 a2 a3 a4).1 = fun _ => 1#1) (t : Fin 2048) (e : Fin 64) :
    cmpi .eq (broadcastInDim S2048x64 ![0, 1] Facts.bcast_S2048x1_S2048x64_0_1 a2)
      (broadcastInDim S2048x64 ![0, 1] Facts.bcast_S1x64_S2048x64_0_1
        (broadcastInDim S1x64 ![1] Facts.bcast_S64_S1x64_1 (iotaInDim S64 32 0))) (StableHlo.Predicate.ij t e) = 1#1
      ↔ expertOf a2 t = e := by
  rw [show StableHlo.Predicate.ij t e = ix2 t e by funext a; match a with | ⟨0, _⟩ => rfl | ⟨1, _⟩ => rfl]
  pointwise []
  rw [StableHlo.Predicate.cmpi_eq_iff, expert_word a0 a1 a2 a3 a4 h1 t]
  constructor
  · intro h
    have := congrArg BitVec.toNat h
    rw [BitVec.toNat_ofNat, BitVec.toNat_ofNat] at this
    exact Fin.ext (by omega)
  · rintro rfl; rfl

/-- How many of a device's tokens go to each expert, as the precondition counts them. -/
abbrev counts : IVec S64 32 :=
  Host.reduce IntOp.addi (extui 32 (cmpi .eq (broadcastInDim S2048x64 ![0, 1] Facts.bcast_S2048x1_S2048x64_0_1 a2)
      (broadcastInDim S2048x64 ![0, 1] Facts.bcast_S1x64_S2048x64_0_1
        (broadcastInDim S1x64 ![1] Facts.bcast_S64_S1x64_1 (iotaInDim S64 32 0)))) Facts.natLt_1_32) (constantI S_ 32 0#32)
    Facts.reducesTo_S2048x64_S64_d0 Facts.h_S_

theorem count_bit : (fn a0 a1 a2 a3 a4).2.1
    = cmpi .sle (counts a2) (broadcastInDim S64 ![] Facts.bcast_S_S64 (constantI S_ 32 64#32)) := by
  unfold fn fn_part1
  dsimp only

theorem counts_apply (h1 : (fn a0 a1 a2 a3 a4).1 = fun _ => 1#1) (e : Fin 64) :
    (counts a2 (ix1 e)).toNat = (Finset.univ.filter (expertOf a2 · = e)).card :=
  (StableHlo.Predicate.toNat_reduce_count_rows (n := 2048) (m := 64) (by decide) _ Facts.natLt_1_32
    Facts.reducesTo_S2048x64_S64_d0 Facts.h_S_ (ix1 e)).trans
    (congrArg Finset.card (Finset.filter_congr fun t _ => mask_iff a0 a1 a2 a3 a4 h1 t e))

/-- No expert has more than 64 of the device's tokens. -/
theorem fits_count (h1 : (fn a0 a1 a2 a3 a4).1 = fun _ => 1#1) (h : (fn a0 a1 a2 a3 a4).2.1 = fun _ => 1#1) (e : Fin 64) :
    (Finset.univ.filter (expertOf a2 · = e)).card ≤ 64 := by
  have hc := counts_apply a0 a1 a2 a3 a4 h1 e
  have hle : (Finset.univ.filter (expertOf a2 · = e)).card ≤ 2048 := (Finset.card_le_univ _).trans_eq (Fintype.card_fin 2048)
  have hs : IntOp.cmpi .sle (counts a2 (ix1 e)) 64#32 = 1#1 :=
    congrFun ((count_bit a0 a1 a2 a3 a4).symm.trans h) (ix1 e)
  generalize counts a2 (ix1 e) = n at hc hs
  have h31 : n.toNat < 2 ^ 31 := by omega
  have := (StableHlo.Predicate.sle_iff_toNat h31 (show (64#32 : BitVec 32).toNat < 2 ^ 31 by decide)).mp hs
  exact hc.ge.trans this

end Cert.MoE

end
-- ==== Proof.Value.lean ====
/-
The kernel's result on a device is the device's block of the reference's result.
-/
module

public import proofs.«01_k».proof.Proof.Exchange
public import proofs.«01_k».proof.Proof.Reference
public import proofs.«01_k».proof.Proof.Whole
public import proofs.«01_k».proof.Proof.Decode
public import Idealize.ShloMosaic.Lib.Layout

@[expose] public section

noncomputable section

namespace Cert.MoE

open Idealize.ShloMosaic Idealize.ShloMosaic.TcCoe Idealize.SL Idealize.SL.Sem

/-- Row `t` of device `c`'s block, as a row of the whole array. -/
def wrow (c : Fin 8) (t : Fin 2048) : Fin 16384 := ⟨c.val * 2048 + t.val, by omega⟩

theorem idx_rows {n : ℕ} (h : Layout.Tiles ⟨2, ![2048, n]⟩ ⟨2, ![16384, n]⟩ 0 8) (c : Fin 8) (t : Fin 2048) (k : Fin n) :
    h.idx c (ix2 t k) = ix2 (wrow c t) k := by
  funext b
  refine Fin.ext ?_
  match b with
  | ⟨0, _⟩ => rfl
  | ⟨1, _⟩ => rfl

theorem idx_experts (h : Layout.Tiles ⟨3, ![8, 512, 1024]⟩ ⟨3, ![64, 512, 1024]⟩ 0 8) (c j : Fin 8) (k : Fin 512) (f : Fin 1024)
    (e : Fin 64) (he : c.val * 8 + j.val = e.val) : h.idx c (ix3 j k f) = ix3 e k f := by
  funext b
  refine Fin.ext ?_
  match b with
  | ⟨0, _⟩ => exact he
  | ⟨1, _⟩ => rfl
  | ⟨2, _⟩ => rfl

variable (m : (ℓ : Loc Cert.KernelIdeal.nD Cert.KernelIdeal.τ Cert.KernelIdeal.sig) → Buf (Elt Ideal) ℓ)
  (X : FVec Ideal Cert.ReferenceIdeal.S16384x512 .bf16) (R : FVec Ideal Cert.ReferenceIdeal.S512x64 .bf16)
  (I : IVec Cert.ReferenceIdeal.S16384x1 32) (W : FVec Ideal Cert.ReferenceIdeal.S64x512x1024 .bf16)
  (S : FVec Ideal Cert.ReferenceIdeal.S512x1024 .bf16)

/-- Where every device holds its blocks of the reference's arguments, its tokens' indices name experts, no expert has more
    than 64 of its tokens, and the tokens and the router are finite, the running result after the eight trips is the
    device's block of the reference's result. -/
theorem ACC_block (e : Fin 2048 → Fin 64) (c : Dev Cert.KernelIdeal.nD)
    (hx : xS m c = Layout.block ⟨2, ![2048, 512]⟩ ⟨2, ![16384, 512]⟩ 0 8 c X) (hr : rS m c = R)
    (hi : iS m c = Layout.block ⟨2, ![2048, 1]⟩ ⟨2, ![16384, 1]⟩ 0 8 c I)
    (hw : ∀ d, eS m d = Layout.block ⟨3, ![8, 512, 1024]⟩ ⟨3, ![64, 512, 1024]⟩ 0 8 d W) (hs : sS m c = S)
    (he : ∀ t, iS m c (ix2 t 0) = BitVec.ofNat 32 (e t).val) (hcnt : ∀ x, (Finset.univ.filter (e · = x)).card ≤ 64)
    (hX : ∀ t k, ∃ a : ℝ, xS m c (ix2 t k) = a) (hR : ∀ k x, ∃ a : ℝ, rS m c (ix2 k x) = a) :
    ACC m c 8 = Layout.block ⟨2, ![2048, 1024]⟩ ⟨2, ![16384, 1024]⟩ 0 8 c (refOf X R I W S) := by
  funext i
  obtain ⟨t, f, rfl⟩ : ∃ (t : Fin 2048) (f : Fin 1024), i = ix2 t f :=
    ⟨i 0, i 1, by funext a; match a with | ⟨0, _⟩ => rfl | ⟨1, _⟩ => rfl⟩
  have ex : ∀ k, xS m c (ix2 t k) = X (ix2 (wrow c t) k) := fun k => by
    rw [hx, Layout.block_apply, idx_rows]
  have ei : I (ix2 (wrow c t) 0) = BitVec.ofNat 32 (e t).val := by
    rw [← he t, hi, Layout.block_apply, idx_rows]
  have ew : ∀ k, eS m (own e hcnt t) (ix3 (⟨(e t).val % 8, Nat.mod_lt _ (by decide)⟩ : Fin 8) k f) = W (ix3 (e t) k f) := fun k => by
    rw [hw, Layout.block_apply, idx_experts _ _ _ _ _ (e t)]
    rw [own_val]
    exact Nat.div_add_mod' _ _
  obtain ⟨p, hp, hsoft⟩ := soft_real (score (fun k => xS m c (ix2 t k)) (fun k x => rS m c (ix2 k x)))
    (fun x => score_real _ _ (fun k => hX t k) (fun k x => hR k x) x) (e t)
  rw [ACC_final m c e he hcnt t f, Layout.block_apply, idx_rows, ref_apply X R I W S (wrow c t) f (e t) ei, hsoft, scale p hp]
  rw [← hr, ← hs]
  simp only [← ex]
  rw [hsoft]
  simp only [ew]

end Cert.MoE

end
-- ==== Proof.lean ====
/-
The proof of the certificate's claims, put together from the modules under Proof/.
-/
module

public import proofs.«01_k».proof.Defs
public import proofs.«01_k».proof.Proof.Frames
public import proofs.«01_k».proof.Proof.PreFacts
public import proofs.«01_k».proof.Proof.Value
public import proofs.«01_k».proof.Proof.Gen.Kernel
public import proofs.«01_k».proof.Proof.Gen.KernelIdeal
public import proofs.«01_k».proof.Proof.Gen.ReferenceIdeal
public import proofs.«01_k».proof.Proof.Gen.ReferenceIdeal.Run

@[expose] public section

noncomputable section

namespace Cert.Proof

open Idealize.ShloMosaic Idealize.SL.Sem

/-- The reference runs, leaves its arguments as they were and every counter at zero. -/
theorem frame_reference : Cert.quiescent_ReferenceIdeal := fun m ρ _ =>
  (θ_run Cert.ReferenceIdeal.defs _ _).mono (fun r h => ⟨fun c => (h c).2, sem_eq_zero_of_no_sems (by decide) r.2⟩) (Cert.ReferenceIdeal.Value.run (F := Ideal) m ρ)

/-- Where the precondition holds on every device, the kernel's result on device `c` is block `c` of the reference's. -/
theorem algebraic : Cert.algebraic_KernelIdeal_ReferenceIdeal_pre_fits_KernelIdeal (hPre_fits_KernelIdeal := Cert.MoE.fits_facts) :=
  fun m g m' g' hpre hblk => by
    haveI : Cert.Pre_fits_KernelIdeal.Facts := Cert.MoE.fits_facts
    refine ⟨Cert.MoE.refOf (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1))
      (m' (((0 : Dev Cert.ReferenceIdeal.nD).tc : Thread Cert.ReferenceIdeal.nD Cert.ReferenceIdeal.τ).loc Cert.ReferenceIdeal.main_arg2))
      (m' (((0 : Dev Cert.ReferenceIdeal.nD).tc : Thread Cert.ReferenceIdeal.nD Cert.ReferenceIdeal.τ).loc Cert.ReferenceIdeal.main_arg3))
      (m' (((0 : Dev Cert.ReferenceIdeal.nD).tc : Thread Cert.ReferenceIdeal.nD Cert.ReferenceIdeal.τ).loc Cert.ReferenceIdeal.main_arg4)), ?_, ?_⟩
    · refine (θ_run Cert.KernelIdeal.defs _ _).mono (fun r h c => ⟨?_, Cert.MoE.args_kept (F := Ideal) m r h.1 c⟩)
        (Cert.MoE.run_main (F := Ideal) m g)
      obtain ⟨h1, h2, h3, h4⟩ := hpre c
      obtain ⟨b0, b1, b2, b3, b4⟩ := hblk c
      refine (h.1 c 5).trans ((Cert.MoE.finalA_out m c).trans ?_)
      refine Cert.MoE.ACC_block m _ _ _ _ _ (Cert.MoE.expertOf (Cert.MoE.iS m c)) c ((Cert.MoE.xS_eq m c).trans b0)
        ((Cert.MoE.rS_eq m c).trans b1) ((Cert.MoE.iS_eq m c).trans b2)
        (fun d => (Cert.MoE.eS_eq m d).trans (hblk d).2.2.2.1) ((Cert.MoE.sS_eq m c).trans b4) ?_ ?_ ?_ ?_
      · rw [Cert.MoE.iS_eq]; exact Cert.MoE.expert_word _ _ _ _ _ h1
      · rw [Cert.MoE.iS_eq]; exact Cert.MoE.fits_count _ _ _ _ _ h1 h2
      · rw [Cert.MoE.xS_eq]; exact Cert.MoE.fits_x _ _ _ _ _ h3
      · rw [Cert.MoE.rS_eq]; exact Cert.MoE.fits_router _ _ _ _ _ h4
    · exact (θ_run Cert.ReferenceIdeal.defs _ _).mono (fun r h => h 0) (Cert.ReferenceIdeal.Value.run (F := Ideal) m' g')

/-- The claims, after the side conditions of the programs. -/
theorem claim : Cert.Claim := ⟨Cert.Kernel.Gen.facts, Cert.KernelIdeal.Gen.facts, Cert.ReferenceIdeal.Gen.facts,
  Cert.MoE.fits_facts, Cert.MoE.fits_whole_facts, Cert.MoE.frame_kernel, Cert.MoE.frame_kernelIdeal,
  fun m g _ => Cert.MoE.frame_kernelIdeal m g trivial, frame_reference, fun m g _ => frame_reference m g trivial, trivial, algebraic⟩

end Cert.Proof

end
